-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.BufferStatement Cert.KernelIdeal.S80x2x256 Cert.KernelIdeal.S80x1x256
  ∧ IdealRules.bf16_pair.BufferStatement Cert.KernelIdeal.S16x2x1024 Cert.KernelIdeal.S16x1x1024
  ∧ IdealRules.bf16_pair.PackStatement Cert.KernelIdeal.S80x256
  ∧ IdealRules.bf16_pair.Statement Cert.KernelIdeal.S80x2x256 Cert.KernelIdeal.S80x1x256
  ∧ IdealRules.bf16_pair.Statement Cert.KernelIdeal.S1x2x128 Cert.KernelIdeal.S1x1x128
  ∧ IdealRules.bf16_pair.Statement Cert.KernelIdeal.S2x128 Cert.KernelIdeal.S1x128
  ∧ IdealRules.bf16_pair.PackStatement Cert.KernelIdeal.S16x1024
  ∧ IdealRules.bf16_pair.Statement Cert.KernelIdeal.S16x2x1024 Cert.KernelIdeal.S16x1x1024

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x5120 : Shape := ⟨3, ![192, 1, 5120]⟩
abbrev S192x1x2 : Shape := ⟨3, ![192, 1, 2]⟩
abbrev S8x1024x2560 : Shape := ⟨3, ![8, 1024, 2560]⟩
abbrev S8x1024x80 : Shape := ⟨3, ![8, 1024, 80]⟩
abbrev S8x5120x512 : Shape := ⟨3, ![8, 5120, 512]⟩
abbrev S8x5120x16 : Shape := ⟨3, ![8, 5120, 16]⟩
abbrev S2x128 : Shape := ⟨2, ![2, 128]⟩
abbrev S2x1x128 : Shape := ⟨3, ![2, 1, 128]⟩
abbrev S192x2 : Shape := ⟨2, ![192, 2]⟩
abbrev S1x192x2 : Shape := ⟨3, ![1, 192, 2]⟩
abbrev S8 : Shape := ⟨1, ![8]⟩
abbrev S8x1x1 : Shape := ⟨3, ![8, 1, 1]⟩
abbrev S8x192x2 : Shape := ⟨3, ![8, 192, 2]⟩
abbrev S_ : Shape := ⟨0, ![]⟩
abbrev S8x192 : Shape := ⟨2, ![8, 192]⟩
abbrev S8x192x1 : Shape := ⟨3, ![8, 192, 1]⟩
abbrev S1 : Shape := ⟨1, ![1]⟩
abbrev S8x1 : Shape := ⟨2, ![8, 1]⟩
abbrev S192x20x64x4 : Shape := ⟨4, ![192, 20, 64, 4]⟩
abbrev S192x20x4x64 : Shape := ⟨4, ![192, 20, 4, 64]⟩
abbrev S192x5120 : Shape := ⟨2, ![192, 5120]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2x32x128 : Shape := ⟨3, ![2, 32, 128]⟩
abbrev S8x80x1024 : Shape := ⟨3, ![8, 80, 1024]⟩
abbrev S8x16x5120 : Shape := ⟨3, ![8, 16, 5120]⟩
abbrev S1x256x2560 : Shape := ⟨3, ![1, 256, 2560]⟩
abbrev S1x80x256 : Shape := ⟨3, ![1, 80, 256]⟩
abbrev S1x1024x512 : Shape := ⟨3, ![1, 1024, 512]⟩
abbrev S1x16x1024 : Shape := ⟨3, ![1, 16, 1024]⟩
abbrev S20x192x256 : Shape := ⟨3, ![20, 192, 256]⟩
abbrev S4x192x256 : Shape := ⟨3, ![4, 192, 256]⟩
abbrev S80x256 : Shape := ⟨2, ![80, 256]⟩
abbrev S16x1024 : Shape := ⟨2, ![16, 1024]⟩
abbrev S32x128 : Shape := ⟨2, ![32, 128]⟩
abbrev S1x32x128 : Shape := ⟨3, ![1, 32, 128]⟩
abbrev S192x256 : Shape := ⟨2, ![192, 256]⟩
abbrev S1x256x128 : Shape := ⟨3, ![1, 256, 128]⟩
abbrev S256x128 : Shape := ⟨2, ![256, 128]⟩
abbrev S128x128 : Shape := ⟨2, ![128, 128]⟩
abbrev S1x128 : Shape := ⟨2, ![1, 128]⟩
abbrev S16x128 : Shape := ⟨2, ![16, 128]⟩
abbrev S32x128x1 : Shape := ⟨3, ![32, 128, 1]⟩
abbrev S8x128 : Shape := ⟨2, ![8, 128]⟩
abbrev S16x256 : Shape := ⟨2, ![16, 256]⟩
abbrev S1x192x256 : Shape := ⟨3, ![1, 192, 256]⟩
abbrev S192x1 : Shape := ⟨2, ![192, 1]⟩

abbrev nBuf : Space → Nat
  | .hbm => 117
  | .vmem => 23
  | .smem => 2
  | _ => 0

abbrev bufTy : (tb : Table) → Fin (tcTables nBuf tb) → BufTy
  | .hbm, ⟨0, _⟩ => ⟨S192x1x5120, .bf16⟩
  | .hbm, ⟨1, _⟩ => ⟨S192x1x2, .i32⟩
  | .hbm, ⟨2, _⟩ => ⟨S192x1x2, .f32⟩
  | .hbm, ⟨3, _⟩ => ⟨S8x1024x2560, .i8⟩
  | .hbm, ⟨4, _⟩ => ⟨S8x1024x80, .f32⟩
  | .hbm, ⟨5, _⟩ => ⟨S8x1024x2560, .i8⟩
  | .hbm, ⟨6, _⟩ => ⟨S8x1024x80, .f32⟩
  | .hbm, ⟨7, _⟩ => ⟨S8x5120x512, .i8⟩
  | .hbm, ⟨8, _⟩ => ⟨S8x5120x16, .f32⟩
  | .hbm, ⟨9, _⟩ => ⟨S2x128, .i8⟩
  | .hbm, ⟨10, _⟩ => ⟨S2x1x128, .i8⟩
  | .hbm, ⟨11, _⟩ => ⟨S192x2, .i32⟩
  | .hbm, ⟨12, _⟩ => ⟨S192x2, .f32⟩
  | .hbm, ⟨13, _⟩ => ⟨S1x192x2, .i32⟩
  | .hbm, ⟨14, _⟩ => ⟨S8, .i32⟩
  | .hbm, ⟨15, _⟩ => ⟨S8x1x1, .i32⟩
  | .hbm, ⟨16, _⟩ => ⟨S8x192x2, .i32⟩
  | .hbm, ⟨17, _⟩ => ⟨S8x192x2, .i32⟩
  | .hbm, ⟨18, _⟩ => ⟨S8x192x2, .i1⟩
  | .hbm, ⟨19, _⟩ => ⟨S1x192x2, .f32⟩
  | .hbm, ⟨20, _⟩ => ⟨S_, .f32⟩
  | .hbm, ⟨21, _⟩ => ⟨S_, .f32⟩
  | .hbm, ⟨22, _⟩ => ⟨S8x192x2, .f32⟩
  | .hbm, ⟨23, _⟩ => ⟨S8x192x2, .f32⟩
  | .hbm, ⟨24, _⟩ => ⟨S8x192x2, .f32⟩
  | .hbm, ⟨25, _⟩ => ⟨S_, .f32⟩
  | .hbm, ⟨26, _⟩ => ⟨S8x192, .f32⟩
  | .hbm, ⟨27, _⟩ => ⟨S_, .i1⟩
  | .hbm, ⟨28, _⟩ => ⟨S8x192, .i1⟩
  | .hbm, ⟨29, _⟩ => ⟨S8x192, .f32⟩
  | .hbm, ⟨30, _⟩ => ⟨S8x192x1, .f32⟩
  | .hbm, ⟨31, _⟩ => ⟨S8x192x1, .f32⟩
  | .hbm, ⟨32, _⟩ => ⟨S8x192x2, .f32⟩
  | .hbm, ⟨33, _⟩ => ⟨S_, .i1⟩
  | .hbm, ⟨34, _⟩ => ⟨S8, .i1⟩
  | .hbm, ⟨35, _⟩ => ⟨S8, .i1⟩
  | .hbm, ⟨36, _⟩ => ⟨S8, .i32⟩
  | .hbm, ⟨37, _⟩ => ⟨S8, .i1⟩
  | .hbm, ⟨38, _⟩ => ⟨S8, .i32⟩
  | .hbm, ⟨39, _⟩ => ⟨S8, .i32⟩
  | .hbm, ⟨40, _⟩ => ⟨S_, .i32⟩
  | .hbm, ⟨41, _⟩ => ⟨S_, .i32⟩
  | .hbm, ⟨42, _⟩ => ⟨S8, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S8, .i32⟩
  | .hbm, ⟨49, _⟩ => ⟨S8, .i32⟩
  | .hbm, ⟨50, _⟩ => ⟨S_, .i32⟩
  | .hbm, ⟨51, _⟩ => ⟨S8, .i32⟩
  | .hbm, ⟨52, _⟩ => ⟨S8, .i1⟩
  | .hbm, ⟨53, _⟩ => ⟨S_, .i32⟩
  | .hbm, ⟨54, _⟩ => ⟨S8, .i32⟩
  | .hbm, ⟨55, _⟩ => ⟨S8, .i32⟩
  | .hbm, ⟨56, _⟩ => ⟨S8, .i32⟩
  | .hbm, ⟨57, _⟩ => ⟨S8x1, .i32⟩
  | .hbm, ⟨58, _⟩ => ⟨S192x20x64x4, .bf16⟩
  | .hbm, ⟨59, _⟩ => ⟨S192x20x4x64, .bf16⟩
  | .hbm, ⟨60, _⟩ => ⟨S192x5120, .bf16⟩
  | .hbm, ⟨61, _⟩ => ⟨S256, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S256, .i32⟩
  | .hbm, ⟨69, _⟩ => ⟨S256, .i32⟩
  | .hbm, ⟨70, _⟩ => ⟨S_, .i32⟩
  | .hbm, ⟨71, _⟩ => ⟨S256, .i32⟩
  | .hbm, ⟨72, _⟩ => ⟨S256, .i1⟩
  | .hbm, ⟨73, _⟩ => ⟨S_, .i32⟩
  | .hbm, ⟨74, _⟩ => ⟨S256, .i32⟩
  | .hbm, ⟨75, _⟩ => ⟨S256, .i1⟩
  | .hbm, ⟨76, _⟩ => ⟨S_, .i32⟩
  | .hbm, ⟨77, _⟩ => ⟨S_, .i1⟩
  | .hbm, ⟨78, _⟩ => ⟨S256, .i1⟩
  | .hbm, ⟨79, _⟩ => ⟨S256, .i1⟩
  | .hbm, ⟨80, _⟩ => ⟨S256, .i1⟩
  | .hbm, ⟨81, _⟩ => ⟨S256, .i32⟩
  | .hbm, ⟨82, _⟩ => ⟨S256, .i32⟩
  | .hbm, ⟨83, _⟩ => ⟨S256, .i32⟩
  | .hbm, ⟨84, _⟩ => ⟨S_, .i32⟩
  | .hbm, ⟨85, _⟩ => ⟨S256, .i32⟩
  | .hbm, ⟨86, _⟩ => ⟨S256, .i32⟩
  | .hbm, ⟨87, _⟩ => ⟨S_, .i32⟩
  | .hbm, ⟨88, _⟩ => ⟨S_, .i32⟩
  | .hbm, ⟨89, _⟩ => ⟨S256, .i32⟩
  | .hbm, ⟨90, _⟩ => ⟨S256, .i32⟩
  | .hbm, ⟨91, _⟩ => ⟨S256, .i32⟩
  | .hbm, ⟨92, _⟩ => ⟨S_, .i32⟩
  | .hbm, ⟨93, _⟩ => ⟨S256, .i32⟩
  | .hbm, ⟨94, _⟩ => ⟨S256, .i1⟩
  | .hbm, ⟨95, _⟩ => ⟨S256, .i32⟩
  | .hbm, ⟨96, _⟩ => ⟨S256, .i32⟩
  | .hbm, ⟨97, _⟩ => ⟨S_, .i32⟩
  | .hbm, ⟨98, _⟩ => ⟨S256, .i32⟩
  | .hbm, ⟨99, _⟩ => ⟨S256, .i1⟩
  | .hbm, ⟨100, _⟩ => ⟨S256, .i1⟩
  | .hbm, ⟨101, _⟩ => ⟨S_, .i32⟩
  | .hbm, ⟨102, _⟩ => ⟨S256, .i32⟩
  | .hbm, ⟨103, _⟩ => ⟨S256, .i32⟩
  | .hbm, ⟨104, _⟩ => ⟨S256, .i32⟩
  | .hbm, ⟨105, _⟩ => ⟨S256, .i32⟩
  | .hbm, ⟨106, _⟩ => ⟨S256x1, .i32⟩
  | .hbm, ⟨107, _⟩ => ⟨S1x256, .i32⟩
  | .hbm, ⟨108, _⟩ => ⟨S256x256, .i32⟩
  | .hbm, ⟨109, _⟩ => ⟨S256x256, .i32⟩
  | .hbm, ⟨110, _⟩ => ⟨S256x256, .i1⟩
  | .hbm, ⟨111, _⟩ => ⟨S256x256, .bf16⟩
  | .hbm, ⟨112, _⟩ => ⟨S2x32x128, .i8⟩
  | .hbm, ⟨113, _⟩ => ⟨S8x80x1024, .f32⟩
  | .hbm, ⟨114, _⟩ => ⟨S8x80x1024, .f32⟩
  | .hbm, ⟨115, _⟩ => ⟨S8x16x5120, .f32⟩
  | .hbm, ⟨116, _⟩ => ⟨S192x5120, .bf16⟩
  | .local _ .vmem, ⟨0, _⟩ => ⟨S192x5120, .bf16⟩
  | .local _ .vmem, ⟨1, _⟩ => ⟨S1x192x2, .f32⟩
  | .local _ .vmem, ⟨2, _⟩ => ⟨S1x192x2, .f32⟩
  | .local _ .vmem, ⟨3, _⟩ => ⟨S256x256, .bf16⟩
  | .local _ .vmem, ⟨4, _⟩ => ⟨S2x32x128, .i8⟩
  | .local _ .vmem, ⟨5, _⟩ => ⟨S1x256x2560, .i8⟩
  | .local _ .vmem, ⟨6, _⟩ => ⟨S1x256x2560, .i8⟩
  | .local _ .vmem, ⟨7, _⟩ => ⟨S1x80x256, .f32⟩
  | .local _ .vmem, ⟨8, _⟩ => ⟨S1x80x256, .f32⟩
  | .local _ .vmem, ⟨9, _⟩ => ⟨S1x256x2560, .i8⟩
  | .local _ .vmem, ⟨10, _⟩ => ⟨S1x256x2560, .i8⟩
  | .local _ .vmem, ⟨11, _⟩ => ⟨S1x80x256, .f32⟩
  | .local _ .vmem, ⟨12, _⟩ => ⟨S1x80x256, .f32⟩
  | .local _ .vmem, ⟨13, _⟩ => ⟨S1x1024x512, .i8⟩
  | .local _ .vmem, ⟨14, _⟩ => ⟨S1x1024x512, .i8⟩
  | .local _ .vmem, ⟨15, _⟩ => ⟨S1x16x1024, .f32⟩
  | .local _ .vmem, ⟨16, _⟩ => ⟨S1x16x1024, .f32⟩
  | .local _ .vmem, ⟨17, _⟩ => ⟨S192x5120, .bf16⟩
  | .local _ .vmem, ⟨18, _⟩ => ⟨S20x192x256, .f32⟩
  | .local _ .vmem, ⟨19, _⟩ => ⟨S4x192x256, .bf16⟩
  | .local _ .vmem, ⟨20, _⟩ => ⟨S80x256, .i32⟩
  | .local _ .vmem, ⟨21, _⟩ => ⟨S80x256, .i32⟩
  | .local _ .vmem, ⟨22, _⟩ => ⟨S16x1024, .i32⟩
  | .local _ .smem, ⟨0, _⟩ => ⟨S8, .i32⟩
  | .local _ .smem, ⟨1, _⟩ => ⟨S1, .i32⟩
  | _, _ => ⟨S192x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_v1_0 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_v5 : Ref sig .tc := ⟨.hbm, 71, rfl⟩
abbrev main_call2_v6 : Ref sig .tc := ⟨.hbm, 72, rfl⟩
abbrev main_call2_c_2 : Ref sig .tc := ⟨.hbm, 73, rfl⟩
abbrev main_call2_v7 : Ref sig .tc := ⟨.hbm, 74, rfl⟩
abbrev main_call2_v8 : Ref sig .tc := ⟨.hbm, 75, rfl⟩
abbrev main_call2_c_3 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_v40 : Ref sig .tc := ⟨.hbm, 83, rfl⟩
abbrev main_c_9 : Ref sig .tc := ⟨.hbm, 84, rfl⟩
abbrev main_v41 : Ref sig .tc := ⟨.hbm, 85, rfl⟩
abbrev main_v42 : Ref sig .tc := ⟨.hbm, 86, rfl⟩
abbrev main_c_10 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_c : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_0 : Ref sig .tc := ⟨.hbm, 101, rfl⟩
abbrev main_call3_v12 : Ref sig .tc := ⟨.hbm, 102, rfl⟩
abbrev main_call3_v13 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v35 : Ref sig .tc := ⟨.smem, 0, rfl⟩
abbrev main_v22 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [BitOps F]

abbrev grid0 : Pipeline.Grid := ⟨2, ![8, 9], ![false, false]⟩

abbrev pre0 : Pipeline.Prefetch sig := ⟨2, ![main_v35.idx, main_v22.idx], fun | 0 => main_v35.names | 1 => main_v22.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_23 : BitVec 32 := 0#32
  let c20_i32 : BitVec 32 := 20#32
  let v44 : BitVec 32 := Scalar.addi c0_i32_23 c20_i32
  let c1_i32 : BitVec 32 := 1#32
  ⟨c0_i32_23, v44, c1_i32⟩
def k0_mult1 (k0_t1 : Fin k0_t1_loop.trips) : BitVec 32 :=
  let c0_i32_23 : BitVec 32 := 0#32
  let c1_i32 : BitVec 32 := 1#32
  let arg20 : BitVec 32 := Scf.iv c0_i32_23 c1_i32 k0_t1
  let c256_i32 : BitVec 32 := 256#32
  let v58 : BitVec 32 := Scalar.muli arg20 c256_i32
  v58
def k0_mult2 (k0_t1 : Fin k0_t1_loop.trips) : BitVec 32 :=
  let c0_i32_23 : BitVec 32 := 0#32
  let c1_i32 : BitVec 32 := 1#32
  let arg20 : BitVec 32 := Scf.iv c0_i32_23 c1_i32 k0_t1
  let c128_i32 : BitVec 32 := 128#32
  let v60 : BitVec 32 := Scalar.muli arg20 c128_i32
  v60
def k0_off2 (k0_t1 : Fin k0_t1_loop.trips) : Fin 2 → Nat :=
  let c0_30 : Index := 0#32
  let c0_i32_23 : BitVec 32 := 0#32
  let c1_i32 : BitVec 32 := 1#32
  let arg20 : BitVec 32 := Scf.iv c0_i32_23 c1_i32 k0_t1
  let c256_i32 : BitVec 32 := 256#32
  let v58 : BitVec 32 := Scalar.muli arg20 c256_i32
  let v59 : BitVec 32 := v58
  let v62 : Index := Scalar.indexCast v59
  ![0, v62.toNat]
def k0_off3 (k0_t1 : Fin k0_t1_loop.trips) : Fin 3 → Nat :=
  let c0_31 : Index := 0#32
  let c0_32 : Index := 0#32
  let c0_i32_23 : BitVec 32 := 0#32
  let c1_i32 : BitVec 32 := 1#32
  let arg20 : BitVec 32 := Scf.iv c0_i32_23 c1_i32 k0_t1
  let c128_i32 : BitVec 32 := 128#32
  let v60 : BitVec 32 := Scalar.muli arg20 c128_i32
  let v61 : BitVec 32 := v60
  let v65 : Index := Scalar.indexCast v61
  ![0, 0, v65.toNat]
def k0_off4 (k0_t1 : Fin k0_t1_loop.trips) (c0_i32_34 : BitVec 32) : Fin 2 → Nat :=
  let c4_i32_33 : BitVec 32 := 4#32
  let c0_i32_23 : BitVec 32 := 0#32
  let c1_i32 : BitVec 32 := 1#32
  let arg20 : BitVec 32 := Scf.iv c0_i32_23 c1_i32 k0_t1
  let v68 : BitVec 32 := Scalar.muli c4_i32_33 arg20
  let v72 : BitVec 32 := Scalar.addi v68 c0_i32_34
  let v73 : Index := Scalar.indexCast v72
  let c0_35 : Index := 0#32
  ![v73.toNat, 0]
def k0_off5 (k0_t1 : Fin k0_t1_loop.trips) (c0_i32_78 : BitVec 32) : Fin 2 → Nat :=
  let c4_i32_33 : BitVec 32 := 4#32
  let c0_i32_23 : BitVec 32 := 0#32
  let c1_i32 : BitVec 32 := 1#32
  let arg20 : BitVec 32 := Scf.iv c0_i32_23 c1_i32 k0_t1
  let v68 : BitVec 32 := Scalar.muli c4_i32_33 arg20
  let v378 : BitVec 32 := Scalar.addi v68 c0_i32_78
  let v379 : Index := Scalar.indexCast v378
  let c128 : Index := 128#32
  ![v379.toNat, 128]
def k0_off6 (i : grid0.Coords) : Fin 3 → Nat :=
  let arg1 : BitVec 32 := BitVec.ofNat 32 (i 1).val
  let v54 : Index := Scalar.indexCast arg1
  let c0_28 : Index := 0#32
  let c0_29 : Index := 0#32
  ![v54.toNat, 0, 0]
def k0_cond2 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c4_i32 : BitVec 32 := 4#32
  let v7 : BitVec 1 := Scalar.cmpi .slt arg1 c4_i32
  let v8 : BitVec 1 := Scalar.andi v1 v7
  let v9 : BitVec 32 := Scalar.extui v8
  let c0_i32_2 : BitVec 32 := 0#32
  let v10 : BitVec 1 := Scalar.cmpi .ne v9 c0_i32_2
  v10

@[reducible] def k0_t2_loop : Scf.Loop 32 :=
  let c0_i32_25 : BitVec 32 := 0#32
  let c4_i32_26 : BitVec 32 := 4#32
  let v46 : BitVec 32 := Scalar.addi c0_i32_25 c4_i32_26
  let c1_i32 : BitVec 32 := 1#32
  ⟨c0_i32_25, v46, c1_i32⟩
def k0_mult3 (k0_t2 : Fin k0_t2_loop.trips) : BitVec 32 :=
  let c0_i32_25 : BitVec 32 := 0#32
  let c1_i32 : BitVec 32 := 1#32
  let arg20 : BitVec 32 := Scf.iv c0_i32_25 c1_i32 k0_t2
  let c128_i32 : BitVec 32 := 128#32
  let v121 : BitVec 32 := Scalar.muli arg20 c128_i32
  v121
def k0_off7 (k0_t2 : Fin k0_t2_loop.trips) : Fin 3 → Nat :=
  let c0_69 : Index := 0#32
  let c0_70 : Index := 0#32
  let c0_i32_25 : BitVec 32 := 0#32
  let c1_i32 : BitVec 32 := 1#32
  let arg20 : BitVec 32 := Scf.iv c0_i32_25 c1_i32 k0_t2
  let c128_i32 : BitVec 32 := 128#32
  let v121 : BitVec 32 := Scalar.muli arg20 c128_i32
  let v122 : BitVec 32 := v121
  let v123 : Index := Scalar.indexCast v122
  ![0, 0, v123.toNat]
def k0_off8 (k0_t2 : Fin k0_t2_loop.trips) (c0_i32_72 : BitVec 32) : Fin 2 → Nat :=
  let c4_i32_71 : BitVec 32 := 4#32
  let c0_i32_25 : BitVec 32 := 0#32
  let c1_i32 : BitVec 32 := 1#32
  let arg20 : BitVec 32 := Scf.iv c0_i32_25 c1_i32 k0_t2
  let v126 : BitVec 32 := Scalar.muli c4_i32_71 arg20
  let v130 : BitVec 32 := Scalar.addi v126 c0_i32_72
  let v131 : Index := Scalar.indexCast v130
  let c0_73 : Index := 0#32
  ![v131.toNat, 0]
def k0_off9 (k0_t2 : Fin k0_t2_loop.trips) (c0_i32_118 : BitVec 32) : Fin 2 → Nat :=
  let c4_i32_71 : BitVec 32 := 4#32
  let c0_i32_25 : BitVec 32 := 0#32
  let c1_i32 : BitVec 32 := 1#32
  let arg20 : BitVec 32 := Scf.iv c0_i32_25 c1_i32 k0_t2
  let v126 : BitVec 32 := Scalar.muli c4_i32_71 arg20
  let v436 : BitVec 32 := Scalar.addi v126 c0_i32_118
  let v437 : Index := Scalar.indexCast v436
  let c128 : Index := 128#32
  ![v437.toNat, 128]
def k0_off10 (k0_t2 : Fin k0_t2_loop.trips) : Fin 3 → Nat :=
  let c0_i32_25 : BitVec 32 := 0#32
  let c1_i32 : BitVec 32 := 1#32
  let arg20 : BitVec 32 := Scf.iv c0_i32_25 c1_i32 k0_t2
  let v756 : Index := Scalar.indexCast arg20
  let c0_165 : Index := 0#32
  let c0_166 : Index := 0#32
  ![v756.toNat, 0, 0]
def k0_off11 (i : grid0.Coords) (c0_i32_29 : BitVec 32) : Fin 3 → Nat :=
  let arg1 : BitVec 32 := BitVec.ofNat 32 (i 1).val
  let c4_i32_23 : BitVec 32 := 4#32
  let v44 : BitVec 32 := Scalar.subi arg1 c4_i32_23
  let c4_i32_28 : BitVec 32 := 4#32
  let v48 : BitVec 32 := Scalar.muli v44 c4_i32_28
  let v49 : BitVec 32 := Scalar.addi v48 c0_i32_29
  let v50 : Index := Scalar.indexCast v49
  let c0_30 : Index := 0#32
  let c0_31 : Index := 0#32
  ![v50.toNat, 0, 0]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c4_i32_3 : BitVec 32 := 4#32
  let v11 : BitVec 1 := Scalar.cmpi .sge arg1 c4_i32_3
  let v12 : BitVec 1 := Scalar.andi v1 v11
  let v13 : BitVec 32 := Scalar.extui v12
  let c0_i32_4 : BitVec 32 := 0#32
  let v14 : BitVec 1 := Scalar.cmpi .ne v13 c0_i32_4
  v14

def k0_chk1 (i : grid0.Coords) (v0 : BitVec 32) : Prop :=
  (∀ (k0_h2 : k0_cond2 i v0 = 1#1), ∀ a, (k0_off6 i) a + S1x192x256.size a ≤ S4x192x256.size a) ∧
  (∀ (k0_h2 : k0_cond2 i v0 = 1#1), ∀ (hinb : ∀ a, (k0_off6 i) a + S1x192x256.size a ≤ S4x192x256.size a), (Rect.unit (s := S4x192x256) (k0_off6 i) S1x192x256.size hinb).PackedRows (EltTy.packing .bf16)) ∧
  (∀ (k0_h3 : k0_cond3 i v0 = 1#1), ∀ (r : Fin 4), ∀ a, (k0_off11 i (BitVec.ofNat 32 r.val)) a + S1x192x256.size a ≤ S20x192x256.size a)
theorem k0_off6_inb : ∀ (i : grid0.Coords) (v0 : BitVec 32) (k0_hw1 : k0_chk1 i v0), ∀ (k0_h2 : k0_cond2 i v0 = 1#1), ∀ a, (k0_off6 i) a + S1x192x256.size a ≤ S4x192x256.size a := fun i v0 k0_hw1 k0_h2 => k0_hw1.1 k0_h2
theorem k0_off6_packedbf16 : ∀ (i : grid0.Coords) (v0 : BitVec 32) (k0_hw1 : k0_chk1 i v0), ∀ (k0_h2 : k0_cond2 i v0 = 1#1), (Rect.unit (s := S4x192x256) (k0_off6 i) S1x192x256.size (k0_off6_inb i v0 k0_hw1 k0_h2)).PackedRows (EltTy.packing .bf16) := fun i v0 k0_hw1 k0_h2 => k0_hw1.2.1 k0_h2 (k0_off6_inb i v0 k0_hw1 k0_h2)
theorem k0_off11_inb : ∀ (i : grid0.Coords) (v0 : BitVec 32) (k0_hw1 : k0_chk1 i v0), ∀ (k0_h3 : k0_cond3 i v0 = 1#1), ∀ (r : Fin 4), ∀ a, (k0_off11 i (BitVec.ofNat 32 r.val)) a + S1x192x256.size a ≤ S20x192x256.size a := fun i v0 k0_hw1 k0_h3 r => k0_hw1.2.2 k0_h3 r

@[reducible] def k0_t3_loop : Scf.Loop 32 :=
  let c0_i32_36 : BitVec 32 := 0#32
  let c4_i32_37 : BitVec 32 := 4#32
  let v65 : BitVec 32 := Scalar.addi c0_i32_36 c4_i32_37
  let c1_i32_38 : BitVec 32 := 1#32
  ⟨c0_i32_36, v65, c1_i32_38⟩
def k0_mult4 (k0_t3 : Fin k0_t3_loop.trips) : BitVec 32 :=
  let c0_i32_36 : BitVec 32 := 0#32
  let c1_i32_38 : BitVec 32 := 1#32
  let arg20 : BitVec 32 := Scf.iv c0_i32_36 c1_i32_38 k0_t3
  let c128_i32 : BitVec 32 := 128#32
  let v121 : BitVec 32 := Scalar.muli arg20 c128_i32
  v121
def k0_off12 (k0_t3 : Fin k0_t3_loop.trips) : Fin 3 → Nat :=
  let c0_69 : Index := 0#32
  let c256 : Index := 256#32
  let c0_i32_36 : BitVec 32 := 0#32
  let c1_i32_38 : BitVec 32 := 1#32
  let arg20 : BitVec 32 := Scf.iv c0_i32_36 c1_i32_38 k0_t3
  let c128_i32 : BitVec 32 := 128#32
  let v121 : BitVec 32 := Scalar.muli arg20 c128_i32
  let v122 : BitVec 32 := v121
  let v123 : Index := Scalar.indexCast v122
  ![0, 256, v123.toNat]
def k0_off13 (k0_t3 : Fin k0_t3_loop.trips) (c0_i32_71 : BitVec 32) : Fin 2 → Nat :=
  let c4_i32_70 : BitVec 32 := 4#32
  let c0_i32_36 : BitVec 32 := 0#32
  let c1_i32_38 : BitVec 32 := 1#32
  let arg20 : BitVec 32 := Scf.iv c0_i32_36 c1_i32_38 k0_t3
  let v126 : BitVec 32 := Scalar.muli c4_i32_70 arg20
  let v130 : BitVec 32 := Scalar.addi v126 c0_i32_71
  let v131 : Index := Scalar.indexCast v130
  let c256_72 : Index := 256#32
  ![v131.toNat, 256]
def k0_off14 (k0_t3 : Fin k0_t3_loop.trips) (c0_i32_117 : BitVec 32) : Fin 2 → Nat :=
  let c4_i32_70 : BitVec 32 := 4#32
  let c0_i32_36 : BitVec 32 := 0#32
  let c1_i32_38 : BitVec 32 := 1#32
  let arg20 : BitVec 32 := Scf.iv c0_i32_36 c1_i32_38 k0_t3
  let v126 : BitVec 32 := Scalar.muli c4_i32_70 arg20
  let v436 : BitVec 32 := Scalar.addi v126 c0_i32_117
  let v437 : Index := Scalar.indexCast v436
  let c384 : Index := 384#32
  ![v437.toNat, 384]
def k0_off15 (k0_t3 : Fin k0_t3_loop.trips) : Fin 3 → Nat :=
  let c0_i32_36 : BitVec 32 := 0#32
  let c1_i32_38 : BitVec 32 := 1#32
  let arg20 : BitVec 32 := Scf.iv c0_i32_36 c1_i32_38 k0_t3
  let v756 : Index := Scalar.indexCast arg20
  let c0_164 : Index := 0#32
  let c0_165 : Index := 0#32
  ![v756.toNat, 0, 0]
@[reducible] def k0_t4_loop : Scf.Loop 32 :=
  let c0_i32_48 : BitVec 32 := 0#32
  let c4_i32_49 : BitVec 32 := 4#32
  let v84 : BitVec 32 := Scalar.addi c0_i32_48 c4_i32_49
  let c1_i32_50 : BitVec 32 := 1#32
  ⟨c0_i32_48, v84, c1_i32_50⟩
def k0_mult5 (k0_t4 : Fin k0_t4_loop.trips) : BitVec 32 :=
  let c0_i32_48 : BitVec 32 := 0#32
  let c1_i32_50 : BitVec 32 := 1#32
  let arg20 : BitVec 32 := Scf.iv c0_i32_48 c1_i32_50 k0_t4
  let c128_i32 : BitVec 32 := 128#32
  let v121 : BitVec 32 := Scalar.muli arg20 c128_i32
  v121
def k0_off16 (k0_t4 : Fin k0_t4_loop.trips) : Fin 3 → Nat :=
  let c0_69 : Index := 0#32
  let c512 : Index := 512#32
  let c0_i32_48 : BitVec 32 := 0#32
  let c1_i32_50 : BitVec 32 := 1#32
  let arg20 : BitVec 32 := Scf.iv c0_i32_48 c1_i32_50 k0_t4
  let c128_i32 : BitVec 32 := 128#32
  let v121 : BitVec 32 := Scalar.muli arg20 c128_i32
  let v122 : BitVec 32 := v121
  let v123 : Index := Scalar.indexCast v122
  ![0, 512, v123.toNat]
def k0_off17 (k0_t4 : Fin k0_t4_loop.trips) (c0_i32_71 : BitVec 32) : Fin 2 → Nat :=
  let c4_i32_70 : BitVec 32 := 4#32
  let c0_i32_48 : BitVec 32 := 0#32
  let c1_i32_50 : BitVec 32 := 1#32
  let arg20 : BitVec 32 := Scf.iv c0_i32_48 c1_i32_50 k0_t4
  let v126 : BitVec 32 := Scalar.muli c4_i32_70 arg20
  let v130 : BitVec 32 := Scalar.addi v126 c0_i32_71
  let v131 : Index := Scalar.indexCast v130
  let c512_72 : Index := 512#32
  ![v131.toNat, 512]
def k0_off18 (k0_t4 : Fin k0_t4_loop.trips) (c0_i32_117 : BitVec 32) : Fin 2 → Nat :=
  let c4_i32_70 : BitVec 32 := 4#32
  let c0_i32_48 : BitVec 32 := 0#32
  let c1_i32_50 : BitVec 32 := 1#32
  let arg20 : BitVec 32 := Scf.iv c0_i32_48 c1_i32_50 k0_t4
  let v126 : BitVec 32 := Scalar.muli c4_i32_70 arg20
  let v436 : BitVec 32 := Scalar.addi v126 c0_i32_117
  let v437 : Index := Scalar.indexCast v436
  let c640 : Index := 640#32
  ![v437.toNat, 640]
def k0_off19 (k0_t4 : Fin k0_t4_loop.trips) : Fin 3 → Nat :=
  let c0_i32_48 : BitVec 32 := 0#32
  let c1_i32_50 : BitVec 32 := 1#32
  let arg20 : BitVec 32 := Scf.iv c0_i32_48 c1_i32_50 k0_t4
  let v756 : Index := Scalar.indexCast arg20
  let c0_164 : Index := 0#32
  let c0_165 : Index := 0#32
  ![v756.toNat, 0, 0]
@[reducible] def k0_t5_loop : Scf.Loop 32 :=
  let c0_i32_59 : BitVec 32 := 0#32
  let c4_i32_60 : BitVec 32 := 4#32
  let v103 : BitVec 32 := Scalar.addi c0_i32_59 c4_i32_60
  let c1_i32_61 : BitVec 32 := 1#32
  ⟨c0_i32_59, v103, c1_i32_61⟩
def k0_mult6 (k0_t5 : Fin k0_t5_loop.trips) : BitVec 32 :=
  let c0_i32_59 : BitVec 32 := 0#32
  let c1_i32_61 : BitVec 32 := 1#32
  let arg20 : BitVec 32 := Scf.iv c0_i32_59 c1_i32_61 k0_t5
  let c128_i32 : BitVec 32 := 128#32
  let v121 : BitVec 32 := Scalar.muli arg20 c128_i32
  v121
def k0_off20 (k0_t5 : Fin k0_t5_loop.trips) : Fin 3 → Nat :=
  let c0_69 : Index := 0#32
  let c768 : Index := 768#32
  let c0_i32_59 : BitVec 32 := 0#32
  let c1_i32_61 : BitVec 32 := 1#32
  let arg20 : BitVec 32 := Scf.iv c0_i32_59 c1_i32_61 k0_t5
  let c128_i32 : BitVec 32 := 128#32
  let v121 : BitVec 32 := Scalar.muli arg20 c128_i32
  let v122 : BitVec 32 := v121
  let v123 : Index := Scalar.indexCast v122
  ![0, 768, v123.toNat]
def k0_off21 (k0_t5 : Fin k0_t5_loop.trips) (c0_i32_71 : BitVec 32) : Fin 2 → Nat :=
  let c4_i32_70 : BitVec 32 := 4#32
  let c0_i32_59 : BitVec 32 := 0#32
  let c1_i32_61 : BitVec 32 := 1#32
  let arg20 : BitVec 32 := Scf.iv c0_i32_59 c1_i32_61 k0_t5
  let v126 : BitVec 32 := Scalar.muli c4_i32_70 arg20
  let v130 : BitVec 32 := Scalar.addi v126 c0_i32_71
  let v131 : Index := Scalar.indexCast v130
  let c768_72 : Index := 768#32
  ![v131.toNat, 768]
def k0_off22 (k0_t5 : Fin k0_t5_loop.trips) (c0_i32_117 : BitVec 32) : Fin 2 → Nat :=
  let c4_i32_70 : BitVec 32 := 4#32
  let c0_i32_59 : BitVec 32 := 0#32
  let c1_i32_61 : BitVec 32 := 1#32
  let arg20 : BitVec 32 := Scf.iv c0_i32_59 c1_i32_61 k0_t5
  let v126 : BitVec 32 := Scalar.muli c4_i32_70 arg20
  let v436 : BitVec 32 := Scalar.addi v126 c0_i32_117
  let v437 : Index := Scalar.indexCast v436
  let c896 : Index := 896#32
  ![v437.toNat, 896]
def k0_off23 (k0_t5 : Fin k0_t5_loop.trips) : Fin 3 → Nat :=
  let c0_i32_59 : BitVec 32 := 0#32
  let c1_i32_61 : BitVec 32 := 1#32
  let arg20 : BitVec 32 := Scf.iv c0_i32_59 c1_i32_61 k0_t5
  let v756 : Index := Scalar.indexCast arg20
  let c0_164 : Index := 0#32
  let c0_165 : Index := 0#32
  ![v756.toNat, 0, 0]
def k0_cond4 (i : grid0.Coords) : BitVec 1 :=
  let arg0 : BitVec 32 := BitVec.ofNat 32 (i 0).val
  let c7_i32 : BitVec 32 := 7#32
  let v15 : BitVec 1 := Scalar.cmpi .eq arg0 c7_i32
  let arg1 : BitVec 32 := BitVec.ofNat 32 (i 1).val
  let c8_i32 : BitVec 32 := 8#32
  let v16 : BitVec 1 := Scalar.cmpi .eq arg1 c8_i32
  let v17 : BitVec 1 := Scalar.andi v15 v16
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (k0_off1_inb : ∀ i : grid0.Coords, ∀ a, (k0_off1 i) a + S1.size a ≤ S8.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c0_i32 : BitVec 32 := 0#32
  let c0_i32_1 : BitVec 32 := 0#32
  ![v1.toNat, v5.toNat, c0_i32.toNat]

def cc0_transform_5 (k0_off1_inb : ∀ i : grid0.Coords, ∀ a, (k0_off1 i) a + S1.size a ≤ S8.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c0_i32 : BitVec 32 := 0#32
  let c0_i32_1 : BitVec 32 := 0#32
  ![v1.toNat, c0_i32.toNat, v5.toNat]

def cc0_transform_6 (k0_off1_inb : ∀ i : grid0.Coords, ∀ a, (k0_off1 i) a + S1.size a ≤ S8.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c0_i32 : BitVec 32 := 0#32
  let c0_i32_1 : BitVec 32 := 0#32
  ![v1.toNat, v5.toNat, c0_i32.toNat]

def cc0_transform_7 (k0_off1_inb : ∀ i : grid0.Coords, ∀ a, (k0_off1 i) a + S1.size a ≤ S8.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c0_i32 : BitVec 32 := 0#32
  let c0_i32_1 : BitVec 32 := 0#32
  ![v1.toNat, c0_i32.toNat, v5.toNat]

def cc0_transform_8 (k0_off1_inb : ∀ i : grid0.Coords, ∀ a, (k0_off1 i) a + S1.size a ≤ S8.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c4_i32 : BitVec 32 := 4#32
  let v4 : BitVec 32 := Scalar.subi arg1 c4_i32
  let c0_i32 : BitVec 32 := 0#32
  let v5 : BitVec 32 := Scalar.maxsi v4 c0_i32
  let c4_i32_0 : BitVec 32 := 4#32
  let v6 : BitVec 32 := Scalar.select v3 v5 c4_i32_0
  let c0_i32_1 : BitVec 32 := 0#32
  let c0_i32_2 : BitVec 32 := 0#32
  ![v1.toNat, v6.toNat, c0_i32_1.toNat]

def cc0_transform_9 (k0_off1_inb : ∀ i : grid0.Coords, ∀ a, (k0_off1 i) a + S1.size a ≤ S8.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c4_i32 : BitVec 32 := 4#32
  let v4 : BitVec 32 := Scalar.subi arg1 c4_i32
  let c0_i32 : BitVec 32 := 0#32
  let v5 : BitVec 32 := Scalar.maxsi v4 c0_i32
  let c4_i32_0 : BitVec 32 := 4#32
  let v6 : BitVec 32 := Scalar.select v3 v5 c4_i32_0
  let c0_i32_1 : BitVec 32 := 0#32
  let c0_i32_2 : BitVec 32 := 0#32
  ![v1.toNat, c0_i32_1.toNat, v6.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x192x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x32x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2560 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x80x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2560 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x80x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S192x5120 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
abbrev S192x1x5120 : Shape := ⟨3, ![192, 1, 5120]⟩
abbrev S192x1x2 : Shape := ⟨3, ![192, 1, 2]⟩
abbrev S8x1024x2560 : Shape := ⟨3, ![8, 1024, 2560]⟩
abbrev S8x1024x80 : Shape := ⟨3, ![8, 1024, 80]⟩
abbrev S8x5120x512 : Shape := ⟨3, ![8, 5120, 512]⟩
abbrev S8x5120x16 : Shape := ⟨3, ![8, 5120, 16]⟩
abbrev S2x128 : Shape := ⟨2, ![2, 128]⟩
abbrev S2x1x128 : Shape := ⟨3, ![2, 1, 128]⟩
abbrev S192x2 : Shape := ⟨2, ![192, 2]⟩
abbrev S1x192x2 : Shape := ⟨3, ![1, 192, 2]⟩
abbrev S8 : Shape := ⟨1, ![8]⟩
abbrev S8x1x1 : Shape := ⟨3, ![8, 1, 1]⟩
abbrev S8x192x2 : Shape := ⟨3, ![8, 192, 2]⟩
abbrev S_ : Shape := ⟨0, ![]⟩
abbrev S8x192 : Shape := ⟨2, ![8, 192]⟩
abbrev S8x192x1 : Shape := ⟨3, ![8, 192, 1]⟩
abbrev S1 : Shape := ⟨1, ![1]⟩
abbrev S8x1 : Shape := ⟨2, ![8, 1]⟩
abbrev S192x20x64x4 : Shape := ⟨4, ![192, 20, 64, 4]⟩
abbrev S192x20x4x64 : Shape := ⟨4, ![192, 20, 4, 64]⟩
abbrev S192x5120 : Shape := ⟨2, ![192, 5120]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2x32x128 : Shape := ⟨3, ![2, 32, 128]⟩
abbrev S8x80x1024 : Shape := ⟨3, ![8, 80, 1024]⟩
abbrev S8x16x5120 : Shape := ⟨3, ![8, 16, 5120]⟩
abbrev S1x256x2560 : Shape := ⟨3, ![1, 256, 2560]⟩
abbrev S1x80x256 : Shape := ⟨3, ![1, 80, 256]⟩
abbrev S1x1024x512 : Shape := ⟨3, ![1, 1024, 512]⟩
abbrev S1x16x1024 : Shape := ⟨3, ![1, 16, 1024]⟩
abbrev S20x192x256 : Shape := ⟨3, ![20, 192, 256]⟩
abbrev S4x192x256 : Shape := ⟨3, ![4, 192, 256]⟩
abbrev S80x256 : Shape := ⟨2, ![80, 256]⟩
abbrev S80x2x256 : Shape := ⟨3, ![80, 2, 256]⟩
abbrev S80x1x256 : Shape := ⟨3, ![80, 1, 256]⟩
abbrev S16x1024 : Shape := ⟨2, ![16, 1024]⟩
abbrev S16x2x1024 : Shape := ⟨3, ![16, 2, 1024]⟩
abbrev S16x1x1024 : Shape := ⟨3, ![16, 1, 1024]⟩
abbrev S32x128 : Shape := ⟨2, ![32, 128]⟩
abbrev S1x32x128 : Shape := ⟨3, ![1, 32, 128]⟩
abbrev S192x256 : Shape := ⟨2, ![192, 256]⟩
abbrev S1x256x128 : Shape := ⟨3, ![1, 256, 128]⟩
abbrev S256x128 : Shape := ⟨2, ![256, 128]⟩
abbrev S128x128 : Shape := ⟨2, ![128, 128]⟩
abbrev S1x128 : Shape := ⟨2, ![1, 128]⟩
abbrev S1x2x128 : Shape := ⟨3, ![1, 2, 128]⟩
abbrev S1x1x128 : Shape := ⟨3, ![1, 1, 128]⟩
abbrev S16x128 : Shape := ⟨2, ![16, 128]⟩
abbrev S32x128x1 : Shape := ⟨3, ![32, 128, 1]⟩
abbrev S8x128 : Shape := ⟨2, ![8, 128]⟩
abbrev S16x256 : Shape := ⟨2, ![16, 256]⟩
abbrev S1x192x256 : Shape := ⟨3, ![1, 192, 256]⟩
abbrev S192x1 : Shape := ⟨2, ![192, 1]⟩

abbrev nBuf : Space → Nat
  | .hbm => 117
  | .vmem => 23
  | .smem => 2
  | _ => 0

abbrev bufTy : (tb : Table) → Fin (tcTables nBuf tb) → BufTy
  | .hbm, ⟨0, _⟩ => ⟨S192x1x5120, .bf16⟩
  | .hbm, ⟨1, _⟩ => ⟨S192x1x2, .i32⟩
  | .hbm, ⟨2, _⟩ => ⟨S192x1x2, .f32⟩
  | .hbm, ⟨3, _⟩ => ⟨S8x1024x2560, .i8⟩
  | .hbm, ⟨4, _⟩ => ⟨S8x1024x80, .f32⟩
  | .hbm, ⟨5, _⟩ => ⟨S8x1024x2560, .i8⟩
  | .hbm, ⟨6, _⟩ => ⟨S8x1024x80, .f32⟩
  | .hbm, ⟨7, _⟩ => ⟨S8x5120x512, .i8⟩
  | .hbm, ⟨8, _⟩ => ⟨S8x5120x16, .f32⟩
  | .hbm, ⟨9, _⟩ => ⟨S2x128, .i8⟩
  | .hbm, ⟨10, _⟩ => ⟨S2x1x128, .i8⟩
  | .hbm, ⟨11, _⟩ => ⟨S192x2, .i32⟩
  | .hbm, ⟨12, _⟩ => ⟨S192x2, .f32⟩
  | .hbm, ⟨13, _⟩ => ⟨S1x192x2, .i32⟩
  | .hbm, ⟨14, _⟩ => ⟨S8, .i32⟩
  | .hbm, ⟨15, _⟩ => ⟨S8x1x1, .i32⟩
  | .hbm, ⟨16, _⟩ => ⟨S8x192x2, .i32⟩
  | .hbm, ⟨17, _⟩ => ⟨S8x192x2, .i32⟩
  | .hbm, ⟨18, _⟩ => ⟨S8x192x2, .i1⟩
  | .hbm, ⟨19, _⟩ => ⟨S1x192x2, .f32⟩
  | .hbm, ⟨20, _⟩ => ⟨S_, .f32⟩
  | .hbm, ⟨21, _⟩ => ⟨S_, .f32⟩
  | .hbm, ⟨22, _⟩ => ⟨S8x192x2, .f32⟩
  | .hbm, ⟨23, _⟩ => ⟨S8x192x2, .f32⟩
  | .hbm, ⟨24, _⟩ => ⟨S8x192x2, .f32⟩
  | .hbm, ⟨25, _⟩ => ⟨S_, .f32⟩
  | .hbm, ⟨26, _⟩ => ⟨S8x192, .f32⟩
  | .hbm, ⟨27, _⟩ => ⟨S_, .i1⟩
  | .hbm, ⟨28, _⟩ => ⟨S8x192, .i1⟩
  | .hbm, ⟨29, _⟩ => ⟨S8x192, .f32⟩
  | .hbm, ⟨30, _⟩ => ⟨S8x192x1, .f32⟩
  | .hbm, ⟨31, _⟩ => ⟨S8x192x1, .f32⟩
  | .hbm, ⟨32, _⟩ => ⟨S8x192x2, .f32⟩
  | .hbm, ⟨33, _⟩ => ⟨S_, .i1⟩
  | .hbm, ⟨34, _⟩ => ⟨S8, .i1⟩
  | .hbm, ⟨35, _⟩ => ⟨S8, .i1⟩
  | .hbm, ⟨36, _⟩ => ⟨S8, .i32⟩
  | .hbm, ⟨37, _⟩ => ⟨S8, .i1⟩
  | .hbm, ⟨38, _⟩ => ⟨S8, .i32⟩
  | .hbm, ⟨39, _⟩ => ⟨S8, .i32⟩
  | .hbm, ⟨40, _⟩ => ⟨S_, .i32⟩
  | .hbm, ⟨41, _⟩ => ⟨S_, .i32⟩
  | .hbm, ⟨42, _⟩ => ⟨S8, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S8, .i32⟩
  | .hbm, ⟨49, _⟩ => ⟨S8, .i32⟩
  | .hbm, ⟨50, _⟩ => ⟨S_, .i32⟩
  | .hbm, ⟨51, _⟩ => ⟨S8, .i32⟩
  | .hbm, ⟨52, _⟩ => ⟨S8, .i1⟩
  | .hbm, ⟨53, _⟩ => ⟨S_, .i32⟩
  | .hbm, ⟨54, _⟩ => ⟨S8, .i32⟩
  | .hbm, ⟨55, _⟩ => ⟨S8, .i32⟩
  | .hbm, ⟨56, _⟩ => ⟨S8, .i32⟩
  | .hbm, ⟨57, _⟩ => ⟨S8x1, .i32⟩
  | .hbm, ⟨58, _⟩ => ⟨S192x20x64x4, .bf16⟩
  | .hbm, ⟨59, _⟩ => ⟨S192x20x4x64, .bf16⟩
  | .hbm, ⟨60, _⟩ => ⟨S192x5120, .bf16⟩
  | .hbm, ⟨61, _⟩ => ⟨S256, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S256, .i32⟩
  | .hbm, ⟨69, _⟩ => ⟨S256, .i32⟩
  | .hbm, ⟨70, _⟩ => ⟨S_, .i32⟩
  | .hbm, ⟨71, _⟩ => ⟨S256, .i32⟩
  | .hbm, ⟨72, _⟩ => ⟨S256, .i1⟩
  | .hbm, ⟨73, _⟩ => ⟨S_, .i32⟩
  | .hbm, ⟨74, _⟩ => ⟨S256, .i32⟩
  | .hbm, ⟨75, _⟩ => ⟨S256, .i1⟩
  | .hbm, ⟨76, _⟩ => ⟨S_, .i32⟩
  | .hbm, ⟨77, _⟩ => ⟨S_, .i1⟩
  | .hbm, ⟨78, _⟩ => ⟨S256, .i1⟩
  | .hbm, ⟨79, _⟩ => ⟨S256, .i1⟩
  | .hbm, ⟨80, _⟩ => ⟨S256, .i1⟩
  | .hbm, ⟨81, _⟩ => ⟨S256, .i32⟩
  | .hbm, ⟨82, _⟩ => ⟨S256, .i32⟩
  | .hbm, ⟨83, _⟩ => ⟨S256, .i32⟩
  | .hbm, ⟨84, _⟩ => ⟨S_, .i32⟩
  | .hbm, ⟨85, _⟩ => ⟨S256, .i32⟩
  | .hbm, ⟨86, _⟩ => ⟨S256, .i32⟩
  | .hbm, ⟨87, _⟩ => ⟨S_, .i32⟩
  | .hbm, ⟨88, _⟩ => ⟨S_, .i32⟩
  | .hbm, ⟨89, _⟩ => ⟨S256, .i32⟩
  | .hbm, ⟨90, _⟩ => ⟨S256, .i32⟩
  | .hbm, ⟨91, _⟩ => ⟨S256, .i32⟩
  | .hbm, ⟨92, _⟩ => ⟨S_, .i32⟩
  | .hbm, ⟨93, _⟩ => ⟨S256, .i32⟩
  | .hbm, ⟨94, _⟩ => ⟨S256, .i1⟩
  | .hbm, ⟨95, _⟩ => ⟨S256, .i32⟩
  | .hbm, ⟨96, _⟩ => ⟨S256, .i32⟩
  | .hbm, ⟨97, _⟩ => ⟨S_, .i32⟩
  | .hbm, ⟨98, _⟩ => ⟨S256, .i32⟩
  | .hbm, ⟨99, _⟩ => ⟨S256, .i1⟩
  | .hbm, ⟨100, _⟩ => ⟨S256, .i1⟩
  | .hbm, ⟨101, _⟩ => ⟨S_, .i32⟩
  | .hbm, ⟨102, _⟩ => ⟨S256, .i32⟩
  | .hbm, ⟨103, _⟩ => ⟨S256, .i32⟩
  | .hbm, ⟨104, _⟩ => ⟨S256, .i32⟩
  | .hbm, ⟨105, _⟩ => ⟨S256, .i32⟩
  | .hbm, ⟨106, _⟩ => ⟨S256x1, .i32⟩
  | .hbm, ⟨107, _⟩ => ⟨S1x256, .i32⟩
  | .hbm, ⟨108, _⟩ => ⟨S256x256, .i32⟩
  | .hbm, ⟨109, _⟩ => ⟨S256x256, .i32⟩
  | .hbm, ⟨110, _⟩ => ⟨S256x256, .i1⟩
  | .hbm, ⟨111, _⟩ => ⟨S256x256, .bf16⟩
  | .hbm, ⟨112, _⟩ => ⟨S2x32x128, .i8⟩
  | .hbm, ⟨113, _⟩ => ⟨S8x80x1024, .f32⟩
  | .hbm, ⟨114, _⟩ => ⟨S8x80x1024, .f32⟩
  | .hbm, ⟨115, _⟩ => ⟨S8x16x5120, .f32⟩
  | .hbm, ⟨116, _⟩ => ⟨S192x5120, .bf16⟩
  | .local _ .vmem, ⟨0, _⟩ => ⟨S192x5120, .bf16⟩
  | .local _ .vmem, ⟨1, _⟩ => ⟨S1x192x2, .f32⟩
  | .local _ .vmem, ⟨2, _⟩ => ⟨S1x192x2, .f32⟩
  | .local _ .vmem, ⟨3, _⟩ => ⟨S256x256, .bf16⟩
  | .local _ .vmem, ⟨4, _⟩ => ⟨S2x32x128, .i8⟩
  | .local _ .vmem, ⟨5, _⟩ => ⟨S1x256x2560, .i8⟩
  | .local _ .vmem, ⟨6, _⟩ => ⟨S1x256x2560, .i8⟩
  | .local _ .vmem, ⟨7, _⟩ => ⟨S1x80x256, .f32⟩
  | .local _ .vmem, ⟨8, _⟩ => ⟨S1x80x256, .f32⟩
  | .local _ .vmem, ⟨9, _⟩ => ⟨S1x256x2560, .i8⟩
  | .local _ .vmem, ⟨10, _⟩ => ⟨S1x256x2560, .i8⟩
  | .local _ .vmem, ⟨11, _⟩ => ⟨S1x80x256, .f32⟩
  | .local _ .vmem, ⟨12, _⟩ => ⟨S1x80x256, .f32⟩
  | .local _ .vmem, ⟨13, _⟩ => ⟨S1x1024x512, .i8⟩
  | .local _ .vmem, ⟨14, _⟩ => ⟨S1x1024x512, .i8⟩
  | .local _ .vmem, ⟨15, _⟩ => ⟨S1x16x1024, .f32⟩
  | .local _ .vmem, ⟨16, _⟩ => ⟨S1x16x1024, .f32⟩
  | .local _ .vmem, ⟨17, _⟩ => ⟨S192x5120, .bf16⟩
  | .local _ .vmem, ⟨18, _⟩ => ⟨S20x192x256, .f32⟩
  | .local _ .vmem, ⟨19, _⟩ => ⟨S4x192x256, .bf16⟩
  | .local _ .vmem, ⟨20, _⟩ => ⟨S80x2x256, .bf16⟩
  | .local _ .vmem, ⟨21, _⟩ => ⟨S80x2x256, .bf16⟩
  | .local _ .vmem, ⟨22, _⟩ => ⟨S16x2x1024, .bf16⟩
  | .local _ .smem, ⟨0, _⟩ => ⟨S8, .i32⟩
  | .local _ .smem, ⟨1, _⟩ => ⟨S1, .i32⟩
  | _, _ => ⟨S192x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_v1_0 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_v5 : Ref sig .tc := ⟨.hbm, 71, rfl⟩
abbrev main_call2_v6 : Ref sig .tc := ⟨.hbm, 72, rfl⟩
abbrev main_call2_c_2 : Ref sig .tc := ⟨.hbm, 73, rfl⟩
abbrev main_call2_v7 : Ref sig .tc := ⟨.hbm, 74, rfl⟩
abbrev main_call2_v8 : Ref sig .tc := ⟨.hbm, 75, rfl⟩
abbrev main_call2_c_3 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_v40 : Ref sig .tc := ⟨.hbm, 83, rfl⟩
abbrev main_c_9 : Ref sig .tc := ⟨.hbm, 84, rfl⟩
abbrev main_v41 : Ref sig .tc := ⟨.hbm, 85, rfl⟩
abbrev main_v42 : Ref sig .tc := ⟨.hbm, 86, rfl⟩
abbrev main_c_10 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_c : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_0 : Ref sig .tc := ⟨.hbm, 101, rfl⟩
abbrev main_call3_v12 : Ref sig .tc := ⟨.hbm, 102, rfl⟩
abbrev main_call3_v13 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v35 : Ref sig .tc := ⟨.smem, 0, rfl⟩
abbrev main_v22 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![8, 9], ![false, false]⟩

abbrev pre0 : Pipeline.Prefetch sig := ⟨2, ![main_v35.idx, main_v22.idx], fun | 0 => main_v35.names | 1 => main_v22.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_23 : BitVec 32 := 0#32
  let c20_i32 : BitVec 32 := 20#32
  let v44 : BitVec 32 := Scalar.addi c0_i32_23 c20_i32
  let c1_i32 : BitVec 32 := 1#32
  ⟨c0_i32_23, v44, c1_i32⟩
def k0_mult1 (k0_t1 : Fin k0_t1_loop.trips) : BitVec 32 :=
  let c0_i32_23 : BitVec 32 := 0#32
  let c1_i32 : BitVec 32 := 1#32
  let arg20 : BitVec 32 := Scf.iv c0_i32_23 c1_i32 k0_t1
  let c256_i32 : BitVec 32 := 256#32
  let v58 : BitVec 32 := Scalar.muli arg20 c256_i32
  v58
def k0_mult2 (k0_t1 : Fin k0_t1_loop.trips) : BitVec 32 :=
  let c0_i32_23 : BitVec 32 := 0#32
  let c1_i32 : BitVec 32 := 1#32
  let arg20 : BitVec 32 := Scf.iv c0_i32_23 c1_i32 k0_t1
  let c128_i32 : BitVec 32 := 128#32
  let v60 : BitVec 32 := Scalar.muli arg20 c128_i32
  v60
def k0_off2 (k0_t1 : Fin k0_t1_loop.trips) : Fin 2 → Nat :=
  let c0_30 : Index := 0#32
  let c0_i32_23 : BitVec 32 := 0#32
  let c1_i32 : BitVec 32 := 1#32
  let arg20 : BitVec 32 := Scf.iv c0_i32_23 c1_i32 k0_t1
  let c256_i32 : BitVec 32 := 256#32
  let v58 : BitVec 32 := Scalar.muli arg20 c256_i32
  let v59 : BitVec 32 := v58
  let v62 : Index := Scalar.indexCast v59
  ![0, v62.toNat]
def k0_off3 (k0_t1 : Fin k0_t1_loop.trips) : Fin 3 → Nat :=
  let c0_31 : Index := 0#32
  let c0_32 : Index := 0#32
  let c0_i32_23 : BitVec 32 := 0#32
  let c1_i32 : BitVec 32 := 1#32
  let arg20 : BitVec 32 := Scf.iv c0_i32_23 c1_i32 k0_t1
  let c128_i32 : BitVec 32 := 128#32
  let v60 : BitVec 32 := Scalar.muli arg20 c128_i32
  let v61 : BitVec 32 := v60
  let v65 : Index := Scalar.indexCast v61
  ![0, 0, v65.toNat]
def k0_off4 (k0_t1 : Fin k0_t1_loop.trips) (c0_i32_34 : BitVec 32) : Fin 3 → Nat :=
  let c4_i32_33 : BitVec 32 := 4#32
  let c0_i32_23 : BitVec 32 := 0#32
  let c1_i32 : BitVec 32 := 1#32
  let arg20 : BitVec 32 := Scf.iv c0_i32_23 c1_i32 k0_t1
  let v68 : BitVec 32 := Scalar.muli c4_i32_33 arg20
  let v72 : BitVec 32 := Scalar.addi v68 c0_i32_34
  let v73 : Index := Scalar.indexCast v72
  let c0_35 : Index := 0#32
  ![v73.toNat, 0, 0]
def k0_off5 (k0_t1 : Fin k0_t1_loop.trips) (c0_i32_78 : BitVec 32) : Fin 3 → Nat :=
  let c4_i32_33 : BitVec 32 := 4#32
  let c0_i32_23 : BitVec 32 := 0#32
  let c1_i32 : BitVec 32 := 1#32
  let arg20 : BitVec 32 := Scf.iv c0_i32_23 c1_i32 k0_t1
  let v68 : BitVec 32 := Scalar.muli c4_i32_33 arg20
  let v378 : BitVec 32 := Scalar.addi v68 c0_i32_78
  let v379 : Index := Scalar.indexCast v378
  let c128 : Index := 128#32
  ![v379.toNat, 0, 128]
def k0_off6 (i : grid0.Coords) : Fin 3 → Nat :=
  let arg1 : BitVec 32 := BitVec.ofNat 32 (i 1).val
  let v54 : Index := Scalar.indexCast arg1
  let c0_28 : Index := 0#32
  let c0_29 : Index := 0#32
  ![v54.toNat, 0, 0]
def k0_cond2 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c4_i32 : BitVec 32 := 4#32
  let v7 : BitVec 1 := Scalar.cmpi .slt arg1 c4_i32
  let v8 : BitVec 1 := Scalar.andi v1 v7
  let v9 : BitVec 32 := Scalar.extui v8
  let c0_i32_2 : BitVec 32 := 0#32
  let v10 : BitVec 1 := Scalar.cmpi .ne v9 c0_i32_2
  v10

@[reducible] def k0_t2_loop : Scf.Loop 32 :=
  let c0_i32_25 : BitVec 32 := 0#32
  let c4_i32_26 : BitVec 32 := 4#32
  let v46 : BitVec 32 := Scalar.addi c0_i32_25 c4_i32_26
  let c1_i32 : BitVec 32 := 1#32
  ⟨c0_i32_25, v46, c1_i32⟩
def k0_mult3 (k0_t2 : Fin k0_t2_loop.trips) : BitVec 32 :=
  let c0_i32_25 : BitVec 32 := 0#32
  let c1_i32 : BitVec 32 := 1#32
  let arg20 : BitVec 32 := Scf.iv c0_i32_25 c1_i32 k0_t2
  let c128_i32 : BitVec 32 := 128#32
  let v121 : BitVec 32 := Scalar.muli arg20 c128_i32
  v121
def k0_off7 (k0_t2 : Fin k0_t2_loop.trips) : Fin 3 → Nat :=
  let c0_69 : Index := 0#32
  let c0_70 : Index := 0#32
  let c0_i32_25 : BitVec 32 := 0#32
  let c1_i32 : BitVec 32 := 1#32
  let arg20 : BitVec 32 := Scf.iv c0_i32_25 c1_i32 k0_t2
  let c128_i32 : BitVec 32 := 128#32
  let v121 : BitVec 32 := Scalar.muli arg20 c128_i32
  let v122 : BitVec 32 := v121
  let v123 : Index := Scalar.indexCast v122
  ![0, 0, v123.toNat]
def k0_off8 (k0_t2 : Fin k0_t2_loop.trips) (c0_i32_72 : BitVec 32) : Fin 3 → Nat :=
  let c4_i32_71 : BitVec 32 := 4#32
  let c0_i32_25 : BitVec 32 := 0#32
  let c1_i32 : BitVec 32 := 1#32
  let arg20 : BitVec 32 := Scf.iv c0_i32_25 c1_i32 k0_t2
  let v126 : BitVec 32 := Scalar.muli c4_i32_71 arg20
  let v130 : BitVec 32 := Scalar.addi v126 c0_i32_72
  let v131 : Index := Scalar.indexCast v130
  let c0_73 : Index := 0#32
  ![v131.toNat, 0, 0]
def k0_off9 (k0_t2 : Fin k0_t2_loop.trips) (c0_i32_118 : BitVec 32) : Fin 3 → Nat :=
  let c4_i32_71 : BitVec 32 := 4#32
  let c0_i32_25 : BitVec 32 := 0#32
  let c1_i32 : BitVec 32 := 1#32
  let arg20 : BitVec 32 := Scf.iv c0_i32_25 c1_i32 k0_t2
  let v126 : BitVec 32 := Scalar.muli c4_i32_71 arg20
  let v436 : BitVec 32 := Scalar.addi v126 c0_i32_118
  let v437 : Index := Scalar.indexCast v436
  let c128 : Index := 128#32
  ![v437.toNat, 0, 128]
def k0_off10 (k0_t2 : Fin k0_t2_loop.trips) : Fin 3 → Nat :=
  let c0_i32_25 : BitVec 32 := 0#32
  let c1_i32 : BitVec 32 := 1#32
  let arg20 : BitVec 32 := Scf.iv c0_i32_25 c1_i32 k0_t2
  let v756 : Index := Scalar.indexCast arg20
  let c0_165 : Index := 0#32
  let c0_166 : Index := 0#32
  ![v756.toNat, 0, 0]
def k0_off11 (i : grid0.Coords) (c0_i32_29 : BitVec 32) : Fin 3 → Nat :=
  let arg1 : BitVec 32 := BitVec.ofNat 32 (i 1).val
  let c4_i32_23 : BitVec 32 := 4#32
  let v44 : BitVec 32 := Scalar.subi arg1 c4_i32_23
  let c4_i32_28 : BitVec 32 := 4#32
  let v48 : BitVec 32 := Scalar.muli v44 c4_i32_28
  let v49 : BitVec 32 := Scalar.addi v48 c0_i32_29
  let v50 : Index := Scalar.indexCast v49
  let c0_30 : Index := 0#32
  let c0_31 : Index := 0#32
  ![v50.toNat, 0, 0]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c4_i32_3 : BitVec 32 := 4#32
  let v11 : BitVec 1 := Scalar.cmpi .sge arg1 c4_i32_3
  let v12 : BitVec 1 := Scalar.andi v1 v11
  let v13 : BitVec 32 := Scalar.extui v12
  let c0_i32_4 : BitVec 32 := 0#32
  let v14 : BitVec 1 := Scalar.cmpi .ne v13 c0_i32_4
  v14

def k0_chk1 (i : grid0.Coords) (v0 : BitVec 32) : Prop :=
  (∀ (k0_h2 : k0_cond2 i v0 = 1#1), ∀ a, (k0_off6 i) a + S1x192x256.size a ≤ S4x192x256.size a) ∧
  (∀ (k0_h2 : k0_cond2 i v0 = 1#1), ∀ (hinb : ∀ a, (k0_off6 i) a + S1x192x256.size a ≤ S4x192x256.size a), (Rect.unit (s := S4x192x256) (k0_off6 i) S1x192x256.size hinb).PackedRows (EltTy.packing .bf16)) ∧
  (∀ (k0_h3 : k0_cond3 i v0 = 1#1), ∀ (r : Fin 4), ∀ a, (k0_off11 i (BitVec.ofNat 32 r.val)) a + S1x192x256.size a ≤ S20x192x256.size a)
theorem k0_off6_inb : ∀ (i : grid0.Coords) (v0 : BitVec 32) (k0_hw1 : k0_chk1 i v0), ∀ (k0_h2 : k0_cond2 i v0 = 1#1), ∀ a, (k0_off6 i) a + S1x192x256.size a ≤ S4x192x256.size a := fun i v0 k0_hw1 k0_h2 => k0_hw1.1 k0_h2
theorem k0_off6_packedbf16 : ∀ (i : grid0.Coords) (v0 : BitVec 32) (k0_hw1 : k0_chk1 i v0), ∀ (k0_h2 : k0_cond2 i v0 = 1#1), (Rect.unit (s := S4x192x256) (k0_off6 i) S1x192x256.size (k0_off6_inb i v0 k0_hw1 k0_h2)).PackedRows (EltTy.packing .bf16) := fun i v0 k0_hw1 k0_h2 => k0_hw1.2.1 k0_h2 (k0_off6_inb i v0 k0_hw1 k0_h2)
theorem k0_off11_inb : ∀ (i : grid0.Coords) (v0 : BitVec 32) (k0_hw1 : k0_chk1 i v0), ∀ (k0_h3 : k0_cond3 i v0 = 1#1), ∀ (r : Fin 4), ∀ a, (k0_off11 i (BitVec.ofNat 32 r.val)) a + S1x192x256.size a ≤ S20x192x256.size a := fun i v0 k0_hw1 k0_h3 r => k0_hw1.2.2 k0_h3 r

@[reducible] def k0_t3_loop : Scf.Loop 32 :=
  let c0_i32_36 : BitVec 32 := 0#32
  let c4_i32_37 : BitVec 32 := 4#32
  let v65 : BitVec 32 := Scalar.addi c0_i32_36 c4_i32_37
  let c1_i32_38 : BitVec 32 := 1#32
  ⟨c0_i32_36, v65, c1_i32_38⟩
def k0_mult4 (k0_t3 : Fin k0_t3_loop.trips) : BitVec 32 :=
  let c0_i32_36 : BitVec 32 := 0#32
  let c1_i32_38 : BitVec 32 := 1#32
  let arg20 : BitVec 32 := Scf.iv c0_i32_36 c1_i32_38 k0_t3
  let c128_i32 : BitVec 32 := 128#32
  let v121 : BitVec 32 := Scalar.muli arg20 c128_i32
  v121
def k0_off12 (k0_t3 : Fin k0_t3_loop.trips) : Fin 3 → Nat :=
  let c0_69 : Index := 0#32
  let c256 : Index := 256#32
  let c0_i32_36 : BitVec 32 := 0#32
  let c1_i32_38 : BitVec 32 := 1#32
  let arg20 : BitVec 32 := Scf.iv c0_i32_36 c1_i32_38 k0_t3
  let c128_i32 : BitVec 32 := 128#32
  let v121 : BitVec 32 := Scalar.muli arg20 c128_i32
  let v122 : BitVec 32 := v121
  let v123 : Index := Scalar.indexCast v122
  ![0, 256, v123.toNat]
def k0_off13 (k0_t3 : Fin k0_t3_loop.trips) (c0_i32_71 : BitVec 32) : Fin 3 → Nat :=
  let c4_i32_70 : BitVec 32 := 4#32
  let c0_i32_36 : BitVec 32 := 0#32
  let c1_i32_38 : BitVec 32 := 1#32
  let arg20 : BitVec 32 := Scf.iv c0_i32_36 c1_i32_38 k0_t3
  let v126 : BitVec 32 := Scalar.muli c4_i32_70 arg20
  let v130 : BitVec 32 := Scalar.addi v126 c0_i32_71
  let v131 : Index := Scalar.indexCast v130
  let c256_72 : Index := 256#32
  ![v131.toNat, 0, 256]
def k0_off14 (k0_t3 : Fin k0_t3_loop.trips) (c0_i32_117 : BitVec 32) : Fin 3 → Nat :=
  let c4_i32_70 : BitVec 32 := 4#32
  let c0_i32_36 : BitVec 32 := 0#32
  let c1_i32_38 : BitVec 32 := 1#32
  let arg20 : BitVec 32 := Scf.iv c0_i32_36 c1_i32_38 k0_t3
  let v126 : BitVec 32 := Scalar.muli c4_i32_70 arg20
  let v436 : BitVec 32 := Scalar.addi v126 c0_i32_117
  let v437 : Index := Scalar.indexCast v436
  let c384 : Index := 384#32
  ![v437.toNat, 0, 384]
def k0_off15 (k0_t3 : Fin k0_t3_loop.trips) : Fin 3 → Nat :=
  let c0_i32_36 : BitVec 32 := 0#32
  let c1_i32_38 : BitVec 32 := 1#32
  let arg20 : BitVec 32 := Scf.iv c0_i32_36 c1_i32_38 k0_t3
  let v756 : Index := Scalar.indexCast arg20
  let c0_164 : Index := 0#32
  let c0_165 : Index := 0#32
  ![v756.toNat, 0, 0]
@[reducible] def k0_t4_loop : Scf.Loop 32 :=
  let c0_i32_48 : BitVec 32 := 0#32
  let c4_i32_49 : BitVec 32 := 4#32
  let v84 : BitVec 32 := Scalar.addi c0_i32_48 c4_i32_49
  let c1_i32_50 : BitVec 32 := 1#32
  ⟨c0_i32_48, v84, c1_i32_50⟩
def k0_mult5 (k0_t4 : Fin k0_t4_loop.trips) : BitVec 32 :=
  let c0_i32_48 : BitVec 32 := 0#32
  let c1_i32_50 : BitVec 32 := 1#32
  let arg20 : BitVec 32 := Scf.iv c0_i32_48 c1_i32_50 k0_t4
  let c128_i32 : BitVec 32 := 128#32
  let v121 : BitVec 32 := Scalar.muli arg20 c128_i32
  v121
def k0_off16 (k0_t4 : Fin k0_t4_loop.trips) : Fin 3 → Nat :=
  let c0_69 : Index := 0#32
  let c512 : Index := 512#32
  let c0_i32_48 : BitVec 32 := 0#32
  let c1_i32_50 : BitVec 32 := 1#32
  let arg20 : BitVec 32 := Scf.iv c0_i32_48 c1_i32_50 k0_t4
  let c128_i32 : BitVec 32 := 128#32
  let v121 : BitVec 32 := Scalar.muli arg20 c128_i32
  let v122 : BitVec 32 := v121
  let v123 : Index := Scalar.indexCast v122
  ![0, 512, v123.toNat]
def k0_off17 (k0_t4 : Fin k0_t4_loop.trips) (c0_i32_71 : BitVec 32) : Fin 3 → Nat :=
  let c4_i32_70 : BitVec 32 := 4#32
  let c0_i32_48 : BitVec 32 := 0#32
  let c1_i32_50 : BitVec 32 := 1#32
  let arg20 : BitVec 32 := Scf.iv c0_i32_48 c1_i32_50 k0_t4
  let v126 : BitVec 32 := Scalar.muli c4_i32_70 arg20
  let v130 : BitVec 32 := Scalar.addi v126 c0_i32_71
  let v131 : Index := Scalar.indexCast v130
  let c512_72 : Index := 512#32
  ![v131.toNat, 0, 512]
def k0_off18 (k0_t4 : Fin k0_t4_loop.trips) (c0_i32_117 : BitVec 32) : Fin 3 → Nat :=
  let c4_i32_70 : BitVec 32 := 4#32
  let c0_i32_48 : BitVec 32 := 0#32
  let c1_i32_50 : BitVec 32 := 1#32
  let arg20 : BitVec 32 := Scf.iv c0_i32_48 c1_i32_50 k0_t4
  let v126 : BitVec 32 := Scalar.muli c4_i32_70 arg20
  let v436 : BitVec 32 := Scalar.addi v126 c0_i32_117
  let v437 : Index := Scalar.indexCast v436
  let c640 : Index := 640#32
  ![v437.toNat, 0, 640]
def k0_off19 (k0_t4 : Fin k0_t4_loop.trips) : Fin 3 → Nat :=
  let c0_i32_48 : BitVec 32 := 0#32
  let c1_i32_50 : BitVec 32 := 1#32
  let arg20 : BitVec 32 := Scf.iv c0_i32_48 c1_i32_50 k0_t4
  let v756 : Index := Scalar.indexCast arg20
  let c0_164 : Index := 0#32
  let c0_165 : Index := 0#32
  ![v756.toNat, 0, 0]
@[reducible] def k0_t5_loop : Scf.Loop 32 :=
  let c0_i32_59 : BitVec 32 := 0#32
  let c4_i32_60 : BitVec 32 := 4#32
  let v103 : BitVec 32 := Scalar.addi c0_i32_59 c4_i32_60
  let c1_i32_61 : BitVec 32 := 1#32
  ⟨c0_i32_59, v103, c1_i32_61⟩
def k0_mult6 (k0_t5 : Fin k0_t5_loop.trips) : BitVec 32 :=
  let c0_i32_59 : BitVec 32 := 0#32
  let c1_i32_61 : BitVec 32 := 1#32
  let arg20 : BitVec 32 := Scf.iv c0_i32_59 c1_i32_61 k0_t5
  let c128_i32 : BitVec 32 := 128#32
  let v121 : BitVec 32 := Scalar.muli arg20 c128_i32
  v121
def k0_off20 (k0_t5 : Fin k0_t5_loop.trips) : Fin 3 → Nat :=
  let c0_69 : Index := 0#32
  let c768 : Index := 768#32
  let c0_i32_59 : BitVec 32 := 0#32
  let c1_i32_61 : BitVec 32 := 1#32
  let arg20 : BitVec 32 := Scf.iv c0_i32_59 c1_i32_61 k0_t5
  let c128_i32 : BitVec 32 := 128#32
  let v121 : BitVec 32 := Scalar.muli arg20 c128_i32
  let v122 : BitVec 32 := v121
  let v123 : Index := Scalar.indexCast v122
  ![0, 768, v123.toNat]
def k0_off21 (k0_t5 : Fin k0_t5_loop.trips) (c0_i32_71 : BitVec 32) : Fin 3 → Nat :=
  let c4_i32_70 : BitVec 32 := 4#32
  let c0_i32_59 : BitVec 32 := 0#32
  let c1_i32_61 : BitVec 32 := 1#32
  let arg20 : BitVec 32 := Scf.iv c0_i32_59 c1_i32_61 k0_t5
  let v126 : BitVec 32 := Scalar.muli c4_i32_70 arg20
  let v130 : BitVec 32 := Scalar.addi v126 c0_i32_71
  let v131 : Index := Scalar.indexCast v130
  let c768_72 : Index := 768#32
  ![v131.toNat, 0, 768]
def k0_off22 (k0_t5 : Fin k0_t5_loop.trips) (c0_i32_117 : BitVec 32) : Fin 3 → Nat :=
  let c4_i32_70 : BitVec 32 := 4#32
  let c0_i32_59 : BitVec 32 := 0#32
  let c1_i32_61 : BitVec 32 := 1#32
  let arg20 : BitVec 32 := Scf.iv c0_i32_59 c1_i32_61 k0_t5
  let v126 : BitVec 32 := Scalar.muli c4_i32_70 arg20
  let v436 : BitVec 32 := Scalar.addi v126 c0_i32_117
  let v437 : Index := Scalar.indexCast v436
  let c896 : Index := 896#32
  ![v437.toNat, 0, 896]
def k0_off23 (k0_t5 : Fin k0_t5_loop.trips) : Fin 3 → Nat :=
  let c0_i32_59 : BitVec 32 := 0#32
  let c1_i32_61 : BitVec 32 := 1#32
  let arg20 : BitVec 32 := Scf.iv c0_i32_59 c1_i32_61 k0_t5
  let v756 : Index := Scalar.indexCast arg20
  let c0_164 : Index := 0#32
  let c0_165 : Index := 0#32
  ![v756.toNat, 0, 0]
def k0_cond4 (i : grid0.Coords) : BitVec 1 :=
  let arg0 : BitVec 32 := BitVec.ofNat 32 (i 0).val
  let c7_i32 : BitVec 32 := 7#32
  let v15 : BitVec 1 := Scalar.cmpi .eq arg0 c7_i32
  let arg1 : BitVec 32 := BitVec.ofNat 32 (i 1).val
  let c8_i32 : BitVec 32 := 8#32
  let v16 : BitVec 1 := Scalar.cmpi .eq arg1 c8_i32
  let v17 : BitVec 1 := Scalar.andi v15 v16
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (k0_off1_inb : ∀ i : grid0.Coords, ∀ a, (k0_off1 i) a + S1.size a ≤ S8.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c0_i32 : BitVec 32 := 0#32
  let c0_i32_1 : BitVec 32 := 0#32
  ![v1.toNat, v5.toNat, c0_i32.toNat]

def cc0_transform_5 (k0_off1_inb : ∀ i : grid0.Coords, ∀ a, (k0_off1 i) a + S1.size a ≤ S8.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c0_i32 : BitVec 32 := 0#32
  let c0_i32_1 : BitVec 32 := 0#32
  ![v1.toNat, c0_i32.toNat, v5.toNat]

def cc0_transform_6 (k0_off1_inb : ∀ i : grid0.Coords, ∀ a, (k0_off1 i) a + S1.size a ≤ S8.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c0_i32 : BitVec 32 := 0#32
  let c0_i32_1 : BitVec 32 := 0#32
  ![v1.toNat, v5.toNat, c0_i32.toNat]

def cc0_transform_7 (k0_off1_inb : ∀ i : grid0.Coords, ∀ a, (k0_off1 i) a + S1.size a ≤ S8.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c0_i32 : BitVec 32 := 0#32
  let c0_i32_1 : BitVec 32 := 0#32
  ![v1.toNat, c0_i32.toNat, v5.toNat]

def cc0_transform_8 (k0_off1_inb : ∀ i : grid0.Coords, ∀ a, (k0_off1 i) a + S1.size a ≤ S8.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c4_i32 : BitVec 32 := 4#32
  let v4 : BitVec 32 := Scalar.subi arg1 c4_i32
  let c0_i32 : BitVec 32 := 0#32
  let v5 : BitVec 32 := Scalar.maxsi v4 c0_i32
  let c4_i32_0 : BitVec 32 := 4#32
  let v6 : BitVec 32 := Scalar.select v3 v5 c4_i32_0
  let c0_i32_1 : BitVec 32 := 0#32
  let c0_i32_2 : BitVec 32 := 0#32
  ![v1.toNat, v6.toNat, c0_i32_1.toNat]

def cc0_transform_9 (k0_off1_inb : ∀ i : grid0.Coords, ∀ a, (k0_off1 i) a + S1.size a ≤ S8.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c4_i32 : BitVec 32 := 4#32
  let v4 : BitVec 32 := Scalar.subi arg1 c4_i32
  let c0_i32 : BitVec 32 := 0#32
  let v5 : BitVec 32 := Scalar.maxsi v4 c0_i32
  let c4_i32_0 : BitVec 32 := 4#32
  let v6 : BitVec 32 := Scalar.select v3 v5 c4_i32_0
  let c0_i32_1 : BitVec 32 := 0#32
  let c0_i32_2 : BitVec 32 := 0#32
  ![v1.toNat, c0_i32_1.toNat, v6.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x192x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x32x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2560 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x80x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2560 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x80x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S192x5120 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S192x1x5120 : Shape := ⟨3, ![192, 1, 5120]⟩
abbrev S192x1x2 : Shape := ⟨3, ![192, 1, 2]⟩
abbrev S8x1024x2560 : Shape := ⟨3, ![8, 1024, 2560]⟩
abbrev S8x1024x80 : Shape := ⟨3, ![8, 1024, 80]⟩
abbrev S8x5120x512 : Shape := ⟨3, ![8, 5120, 512]⟩
abbrev S8x5120x16 : Shape := ⟨3, ![8, 5120, 16]⟩
abbrev S16 : Shape := ⟨1, ![16]⟩
abbrev S192x5120 : Shape := ⟨2, ![192, 5120]⟩
abbrev S_ : Shape := ⟨0, ![]⟩
abbrev S8x1024x2560x1 : Shape := ⟨4, ![8, 1024, 2560, 1]⟩
abbrev S8x1024x2560x2 : Shape := ⟨4, ![8, 1024, 2560, 2]⟩
abbrev S8x1024x80x64 : Shape := ⟨4, ![8, 1024, 80, 64]⟩
abbrev S8x1024x80x64x1 : Shape := ⟨5, ![8, 1024, 80, 64, 1]⟩
abbrev S8x1024x80x1 : Shape := ⟨4, ![8, 1024, 80, 1]⟩
abbrev S8x1024x5120 : Shape := ⟨3, ![8, 1024, 5120]⟩
abbrev S8x1024x192 : Shape := ⟨3, ![8, 1024, 192]⟩
abbrev S8x192x1024 : Shape := ⟨3, ![8, 192, 1024]⟩
abbrev S8x5120x512x1 : Shape := ⟨4, ![8, 5120, 512, 1]⟩
abbrev S8x5120x512x2 : Shape := ⟨4, ![8, 5120, 512, 2]⟩
abbrev S8x5120x16x64 : Shape := ⟨4, ![8, 5120, 16, 64]⟩
abbrev S8x5120x16x64x1 : Shape := ⟨5, ![8, 5120, 16, 64, 1]⟩
abbrev S8x5120x16x1 : Shape := ⟨4, ![8, 5120, 16, 1]⟩
abbrev S8x5120x1024 : Shape := ⟨3, ![8, 5120, 1024]⟩
abbrev S8x192x5120 : Shape := ⟨3, ![8, 192, 5120]⟩
abbrev S192x2 : Shape := ⟨2, ![192, 2]⟩
abbrev S8 : Shape := ⟨1, ![8]⟩
abbrev S8x1x1 : Shape := ⟨3, ![8, 1, 1]⟩
abbrev S1x192x2 : Shape := ⟨3, ![1, 192, 2]⟩
abbrev S8x192x2 : Shape := ⟨3, ![8, 192, 2]⟩
abbrev S8x192 : Shape := ⟨2, ![8, 192]⟩
abbrev S8x192x1 : Shape := ⟨3, ![8, 192, 1]⟩

abbrev nBuf : Space → Nat
  | .hbm => 126
  | .vmem => 0
  | .smem => 0
  | _ => 0

abbrev bufTy : (tb : Table) → Fin (tcTables nBuf tb) → BufTy
  | .hbm, ⟨0, _⟩ => ⟨S192x1x5120, .bf16⟩
  | .hbm, ⟨1, _⟩ => ⟨S192x1x2, .i32⟩
  | .hbm, ⟨2, _⟩ => ⟨S192x1x2, .f32⟩
  | .hbm, ⟨3, _⟩ => ⟨S8x1024x2560, .i8⟩
  | .hbm, ⟨4, _⟩ => ⟨S8x1024x80, .f32⟩
  | .hbm, ⟨5, _⟩ => ⟨S8x1024x2560, .i8⟩
  | .hbm, ⟨6, _⟩ => ⟨S8x1024x80, .f32⟩
  | .hbm, ⟨7, _⟩ => ⟨S8x5120x512, .i8⟩
  | .hbm, ⟨8, _⟩ => ⟨S8x5120x16, .f32⟩
  | .hbm, ⟨9, _⟩ => ⟨S16, .bf16⟩
  | .hbm, ⟨10, _⟩ => ⟨S16, .bf16⟩
  | .hbm, ⟨11, _⟩ => ⟨S16, .bf16⟩
  | .hbm, ⟨12, _⟩ => ⟨S192x5120, .bf16⟩
  | .hbm, ⟨13, _⟩ => ⟨S8x1024x2560, .i32⟩
  | .hbm, ⟨14, _⟩ => ⟨S_, .i32⟩
  | .hbm, ⟨15, _⟩ => ⟨S8x1024x2560, .i32⟩
  | .hbm, ⟨16, _⟩ => ⟨S8x1024x2560, .i32⟩
  | .hbm, ⟨17, _⟩ => ⟨S_, .i32⟩
  | .hbm, ⟨18, _⟩ => ⟨S8x1024x2560, .i32⟩
  | .hbm, ⟨19, _⟩ => ⟨S8x1024x2560, .i32⟩
  | .hbm, ⟨20, _⟩ => ⟨S8x1024x2560x1, .i32⟩
  | .hbm, ⟨21, _⟩ => ⟨S8x1024x2560x1, .i32⟩
  | .hbm, ⟨22, _⟩ => ⟨S8x1024x2560x2, .i32⟩
  | .hbm, ⟨23, _⟩ => ⟨S8x1024x80x64, .i32⟩
  | .hbm, ⟨24, _⟩ => ⟨S_, .i32⟩
  | .hbm, ⟨25, _⟩ => ⟨S8x1024x80x64, .i32⟩
  | .hbm, ⟨26, _⟩ => ⟨S8x1024x80x64, .i1⟩
  | .hbm, ⟨27, _⟩ => ⟨S_, .i32⟩
  | .hbm, ⟨28, _⟩ => ⟨S8x1024x80x64, .i32⟩
  | .hbm, ⟨29, _⟩ => ⟨S8x1024x80x64, .i32⟩
  | .hbm, ⟨30, _⟩ => ⟨S8x1024x80x64, .i32⟩
  | .hbm, ⟨31, _⟩ => ⟨S8x1024x80x64x1, .i32⟩
  | .hbm, ⟨32, _⟩ => ⟨S8x1024x80x64, .bf16⟩
  | .hbm, ⟨33, _⟩ => ⟨S8x1024x80, .bf16⟩
  | .hbm, ⟨34, _⟩ => ⟨S8x1024x80x1, .bf16⟩
  | .hbm, ⟨35, _⟩ => ⟨S8x1024x80x64, .bf16⟩
  | .hbm, ⟨36, _⟩ => ⟨S8x1024x80x64, .bf16⟩
  | .hbm, ⟨37, _⟩ => ⟨S8x1024x5120, .bf16⟩
  | .hbm, ⟨38, _⟩ => ⟨S8x1024x192, .f32⟩
  | .hbm, ⟨39, _⟩ => ⟨S8x192x1024, .f32⟩
  | .hbm, ⟨40, _⟩ => ⟨S8x1024x2560, .i32⟩
  | .hbm, ⟨41, _⟩ => ⟨S_, .i32⟩
  | .hbm, ⟨42, _⟩ => ⟨S8x1024x2560, .i32⟩
  | .hbm, ⟨43, _⟩ => ⟨S8x1024x2560, .i32⟩
  | .hbm, ⟨44, _⟩ => ⟨S_, .i32⟩
  | .hbm, ⟨45, _⟩ => ⟨S8x1024x2560, .i32⟩
  | .hbm, ⟨46, _⟩ => ⟨S8x1024x2560, .i32⟩
  | .hbm, ⟨47, _⟩ => ⟨S8x1024x2560x1, .i32⟩
  | .hbm, ⟨48, _⟩ => ⟨S8x1024x2560x1, .i32⟩
  | .hbm, ⟨49, _⟩ => ⟨S8x1024x2560x2, .i32⟩
  | .hbm, ⟨50, _⟩ => ⟨S8x1024x80x64, .i32⟩
  | .hbm, ⟨51, _⟩ => ⟨S_, .i32⟩
  | .hbm, ⟨52, _⟩ => ⟨S8x1024x80x64, .i32⟩
  | .hbm, ⟨53, _⟩ => ⟨S8x1024x80x64, .i1⟩
  | .hbm, ⟨54, _⟩ => ⟨S_, .i32⟩
  | .hbm, ⟨55, _⟩ => ⟨S8x1024x80x64, .i32⟩
  | .hbm, ⟨56, _⟩ => ⟨S8x1024x80x64, .i32⟩
  | .hbm, ⟨57, _⟩ => ⟨S8x1024x80x64, .i32⟩
  | .hbm, ⟨58, _⟩ => ⟨S8x1024x80x64x1, .i32⟩
  | .hbm, ⟨59, _⟩ => ⟨S8x1024x80x64, .bf16⟩
  | .hbm, ⟨60, _⟩ => ⟨S8x1024x80, .bf16⟩
  | .hbm, ⟨61, _⟩ => ⟨S8x1024x80x1, .bf16⟩
  | .hbm, ⟨62, _⟩ => ⟨S8x1024x80x64, .bf16⟩
  | .hbm, ⟨63, _⟩ => ⟨S8x1024x80x64, .bf16⟩
  | .hbm, ⟨64, _⟩ => ⟨S8x1024x5120, .bf16⟩
  | .hbm, ⟨65, _⟩ => ⟨S8x1024x192, .f32⟩
  | .hbm, ⟨66, _⟩ => ⟨S8x192x1024, .f32⟩
  | .hbm, ⟨67, _⟩ => ⟨S8x192x1024, .f32⟩
  | .hbm, ⟨68, _⟩ => ⟨S8x192x1024, .f32⟩
  | .hbm, ⟨69, _⟩ => ⟨S_, .f32⟩
  | .hbm, ⟨70, _⟩ => ⟨S8x192x1024, .f32⟩
  | .hbm, ⟨71, _⟩ => ⟨S8x192x1024, .f32⟩
  | .hbm, ⟨72, _⟩ => ⟨S_, .f32⟩
  | .hbm, ⟨73, _⟩ => ⟨S8x192x1024, .f32⟩
  | .hbm, ⟨74, _⟩ => ⟨S8x192x1024, .f32⟩
  | .hbm, ⟨75, _⟩ => ⟨S8x192x1024, .f32⟩
  | .hbm, ⟨76, _⟩ => ⟨S8x192x1024, .f32⟩
  | .hbm, ⟨77, _⟩ => ⟨S8x192x1024, .bf16⟩
  | .hbm, ⟨78, _⟩ => ⟨S8x5120x512, .i32⟩
  | .hbm, ⟨79, _⟩ => ⟨S_, .i32⟩
  | .hbm, ⟨80, _⟩ => ⟨S8x5120x512, .i32⟩
  | .hbm, ⟨81, _⟩ => ⟨S8x5120x512, .i32⟩
  | .hbm, ⟨82, _⟩ => ⟨S_, .i32⟩
  | .hbm, ⟨83, _⟩ => ⟨S8x5120x512, .i32⟩
  | .hbm, ⟨84, _⟩ => ⟨S8x5120x512, .i32⟩
  | .hbm, ⟨85, _⟩ => ⟨S8x5120x512x1, .i32⟩
  | .hbm, ⟨86, _⟩ => ⟨S8x5120x512x1, .i32⟩
  | .hbm, ⟨87, _⟩ => ⟨S8x5120x512x2, .i32⟩
  | .hbm, ⟨88, _⟩ => ⟨S8x5120x16x64, .i32⟩
  | .hbm, ⟨89, _⟩ => ⟨S_, .i32⟩
  | .hbm, ⟨90, _⟩ => ⟨S8x5120x16x64, .i32⟩
  | .hbm, ⟨91, _⟩ => ⟨S8x5120x16x64, .i1⟩
  | .hbm, ⟨92, _⟩ => ⟨S_, .i32⟩
  | .hbm, ⟨93, _⟩ => ⟨S8x5120x16x64, .i32⟩
  | .hbm, ⟨94, _⟩ => ⟨S8x5120x16x64, .i32⟩
  | .hbm, ⟨95, _⟩ => ⟨S8x5120x16x64, .i32⟩
  | .hbm, ⟨96, _⟩ => ⟨S8x5120x16x64x1, .i32⟩
  | .hbm, ⟨97, _⟩ => ⟨S8x5120x16x64, .bf16⟩
  | .hbm, ⟨98, _⟩ => ⟨S8x5120x16, .bf16⟩
  | .hbm, ⟨99, _⟩ => ⟨S8x5120x16x1, .bf16⟩
  | .hbm, ⟨100, _⟩ => ⟨S8x5120x16x64, .bf16⟩
  | .hbm, ⟨101, _⟩ => ⟨S8x5120x16x64, .bf16⟩
  | .hbm, ⟨102, _⟩ => ⟨S8x5120x1024, .bf16⟩
  | .hbm, ⟨103, _⟩ => ⟨S8x192x5120, .f32⟩
  | .hbm, ⟨104, _⟩ => ⟨S192x2, .i32⟩
  | .hbm, ⟨105, _⟩ => ⟨S192x2, .f32⟩
  | .hbm, ⟨106, _⟩ => ⟨S8, .i32⟩
  | .hbm, ⟨107, _⟩ => ⟨S8x1x1, .i32⟩
  | .hbm, ⟨108, _⟩ => ⟨S1x192x2, .i32⟩
  | .hbm, ⟨109, _⟩ => ⟨S8x192x2, .i32⟩
  | .hbm, ⟨110, _⟩ => ⟨S8x192x2, .i32⟩
  | .hbm, ⟨111, _⟩ => ⟨S8x192x2, .i1⟩
  | .hbm, ⟨112, _⟩ => ⟨S1x192x2, .f32⟩
  | .hbm, ⟨113, _⟩ => ⟨S_, .f32⟩
  | .hbm, ⟨114, _⟩ => ⟨S_, .f32⟩
  | .hbm, ⟨115, _⟩ => ⟨S8x192x2, .f32⟩
  | .hbm, ⟨116, _⟩ => ⟨S8x192x2, .f32⟩
  | .hbm, ⟨117, _⟩ => ⟨S8x192x2, .f32⟩
  | .hbm, ⟨118, _⟩ => ⟨S_, .f32⟩
  | .hbm, ⟨119, _⟩ => ⟨S8x192, .f32⟩
  | .hbm, ⟨120, _⟩ => ⟨S8x192x1, .f32⟩
  | .hbm, ⟨121, _⟩ => ⟨S8x192x5120, .f32⟩
  | .hbm, ⟨122, _⟩ => ⟨S8x192x5120, .f32⟩
  | .hbm, ⟨123, _⟩ => ⟨S_, .f32⟩
  | .hbm, ⟨124, _⟩ => ⟨S192x5120, .f32⟩
  | .hbm, ⟨125, _⟩ => ⟨S192x5120, .bf16⟩
  | _, _ => ⟨S192x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_c_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_13 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v81 : Ref sig .tc := ⟨.hbm, 117, rfl⟩
abbrev main_cst_14 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_15 : Ref sig .tc := ⟨.hbm, 123, rfl⟩
abbrev main_v86 : Ref sig .tc := ⟨.hbm, 124, rfl⟩
abbrev main_v87 : Ref sig .tc := ⟨.hbm, 125, rfl⟩

abbrev nD : Nat := 1
abbrev τ : Topo := Topo.v7x

variable {F : FTy → Type} [FloatOps F]
-- ==== Proof.KernelRegions.lean ====
/-
  The body of `Kernel`'s kernel as four regions (clear the accumulator; one gate/up tile; one down tile; write the
  result), each with a triple that says it runs and hands its buffers back.
-/
module

public import proofs.«01_k».proof.Proof.Gen.Kernel.Loops
public import proofs.«01_k».proof.Proof.Gen.Kernel.Launch
public import Idealize.ShloMosaic.Lib.Pipeline.Frame
public import Idealize.ShloMosaic.Lib.Tactic

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-! ## The side condition the body assumes -/

/-- In a gate/up step the step number is below four. -/
theorem step_lt_of_gate : ∀ (b : BitVec 1) (s : Fin 9),
    Scalar.cmpi .ne (Scalar.extui (Scalar.andi b (Scalar.cmpi .slt (BitVec.ofNat 32 s.val) 4#32)) : BitVec 32) 0#32 = 1#1 → s.val < 4 := by decide
/-- In a down step it is four or more. -/
theorem step_ge_of_down : ∀ (b : BitVec 1) (s : Fin 9),
    Scalar.cmpi .ne (Scalar.extui (Scalar.andi b (Scalar.cmpi .sge (BitVec.ofNat 32 s.val) 4#32)) : BitVec 32) 0#32 = 1#1 → 4 ≤ s.val := by decide

theorem step_lt (i : grid0.Coords) (v0 : BitVec 32) (h : k0_cond2 i v0 = 1#1) : (i 1).val < 4 := step_lt_of_gate _ (i 1) h
theorem step_ge (i : grid0.Coords) (v0 : BitVec 32) (h : k0_cond3 i v0 = 1#1) : 4 ≤ (i 1).val := step_ge_of_down _ (i 1) h

theorem off6_lead : ∀ s : Fin 9, s.val < 4 → (Scalar.indexCast (BitVec.ofNat 32 s.val) : Index).toNat + 1 ≤ 4 := by decide
theorem off11_lead : ∀ (s : Fin 9) (r : Fin 4), 4 ≤ s.val →
    (Scalar.indexCast (Scalar.addi (Scalar.muli (Scalar.subi (BitVec.ofNat 32 s.val) 4#32) 4#32) (BitVec.ofNat 32 r.val)) : Index).toNat + 1 ≤ 20 := by decide

theorem off11_word : ∀ (s : Fin 9) (r : Fin 4), 4 ≤ s.val →
    (Scalar.indexCast (Scalar.addi (Scalar.muli (Scalar.subi (BitVec.ofNat 32 s.val) 4#32) 4#32) (BitVec.ofNat 32 r.val)) : Index).toNat = 4 * (s.val - 4) + r.val := by decide

/-- Where a down step's four tiles lie in the accumulator. -/
theorem off11_form (i : grid0.Coords) (r : Fin 4) (h : 4 ≤ (i 1).val) :
    k0_off11 i (BitVec.ofNat 32 r.val) = ![4 * ((i 1).val - 4) + r.val, 0, 0] := by
  have e := off11_word (i 1) r h
  funext a
  match a with
  | 0 => exact e
  | 1 => rfl
  | 2 => rfl

theorem off6_word : ∀ s : Fin 9, (Scalar.indexCast (BitVec.ofNat 32 s.val) : Index).toNat = s.val := by decide
/-- Where a gate/up step's tile lies among the hidden activations. -/
theorem off6_form (i : grid0.Coords) : k0_off6 i = ![(i 1).val, 0, 0] := by
  have e := off6_word (i 1)
  funext a
  match a with
  | 0 => exact e
  | 1 => rfl
  | 2 => rfl

/-- The body's side condition holds at every point of the grid, whatever the number of active experts. -/
theorem chk1 (i : grid0.Coords) (v0 : BitVec 32) : k0_chk1 i v0 := by
  refine ⟨fun h => ?_, fun h hinb => ?_, fun h r => ?_⟩
  · have h4 := off6_lead (i 1) (step_lt i v0 h)
    intro a
    match a with
    | 0 => exact h4
    | 1 => exact le_refl 192
    | 2 => exact le_refl 256
  · exact (Rect.packedRows_iff_at _ _).mpr (.inr ⟨by decide, rfl, .inl ⟨⟨0, rfl⟩, ⟨96, rfl⟩⟩⟩)
  · have h4 := off11_lead (i 1) r (step_ge i v0 h)
    intro a
    match a with
    | 0 => exact h4
    | 1 => exact le_refl 192
    | 2 => exact le_refl 256

/-! ## The regions -/
set_option maxHeartbeats 4000000 in
/-- The first region: at the first point the accumulator is cleared. -/
noncomputable def regA (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x256 .i32) (harg17 : arg17.IsWhole) (arg18 : Memref sig .tc .vmem S80x256 .i32) (harg18 : arg18.IsWhole) (arg19 : Memref sig .tc .vmem S16x1024 .i32) (harg19 : arg19.IsWhole) :
    Prog (TpuEff nD τ sig (Elt F) Λ₀ .tc) PUnit := do
  let arg0 : BitVec 32 := BitVec.ofNat 32 (i 0).val
  let arg1 : BitVec 32 := BitVec.ofNat 32 (i 1).val
  let v2 : BitVec 1 := Scalar.cmpi .eq arg0 0#32
  let v3 : BitVec 1 := Scalar.cmpi .eq arg1 0#32
  let v4 : BitVec 1 := Scalar.andi v2 v3
  let v5 : BitVec 32 := Scalar.extui v4
  let v6 : BitVec 1 := Scalar.cmpi .ne v5 0#32
  if k0_h1 : v6 = 1#1 then do
    let v21 : Vec F S20x192x256 .f32 ← Prog.lift (.load arg15 (Rect.unit (s := S20x192x256) ![0, 0, 0] S20x192x256.size inb_S20x192x256_S20x192x256_0_0_0).toLoadRect (View.loadsAt_vmem h_S20x192x256))
    Prog.lift (.store arg15 (Rect.unit (s := S20x192x256) ![0, 0, 0] S20x192x256.size inb_S20x192x256_S20x192x256_0_0_0) (k0_pay1 (F := F)) Finset.univ (View.stores_vmem_bits_univ h_S20x192x256 rfl) (.inl rfl))
    pure ⟨⟩
  else do
    pure ⟨⟩

set_option maxHeartbeats 4000000 in
/-- The second: a gate/up step of an active expert stores one tile of the hidden activations. -/
noncomputable def regB (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x256 .i32) (harg17 : arg17.IsWhole) (arg18 : Memref sig .tc .vmem S80x256 .i32) (harg18 : arg18.IsWhole) (arg19 : Memref sig .tc .vmem S16x1024 .i32) (harg19 : arg19.IsWhole) (v0 : Elt F .i32) (k0_hw1 : k0_chk1 i v0) :
    Prog (TpuEff nD τ sig (Elt F) Λ₀ .tc) PUnit := do
  let arg0 : BitVec 32 := BitVec.ofNat 32 (i 0).val
  let arg1 : BitVec 32 := BitVec.ofNat 32 (i 1).val
  if k0_h2 : k0_cond2 i v0 = 1#1 then do
    let ⟨v49, v51⟩ : Σ' (v49 : FVec F S192x256 .bf16), FVec F S256x256 .bf16 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v55 : Vec F S1x192x256 .bf16 ← Prog.lift (.load arg16 (Rect.unit (s := S4x192x256) (k0_off6 i) S1x192x256.size (k0_off6_inb i v0 k0_hw1 k0_h2)).toLoadRect (View.loadsAt_vmem h_S1x192x256))
    Prog.lift (.store arg16 (Rect.unit (s := S4x192x256) (k0_off6 i) S1x192x256.size (k0_off6_inb i v0 k0_hw1 k0_h2)) (k0_pay2 v49 v51) Finset.univ (View.stores_vmem h_S1x192x256 (harg16.storeExact_slice rfl _ (k0_off6_packedbf16 i v0 k0_hw1 k0_h2)) (fun _ => rfl)) (.inl rfl))
    pure ⟨⟩
  else do
    pure ⟨⟩

set_option maxHeartbeats 4000000 in
/-- The third: a down step of an active expert adds its four tiles to the accumulator. -/
noncomputable def regC (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x256 .i32) (harg17 : arg17.IsWhole) (arg18 : Memref sig .tc .vmem S80x256 .i32) (harg18 : arg18.IsWhole) (arg19 : Memref sig .tc .vmem S16x1024 .i32) (harg19 : arg19.IsWhole) (v0 : Elt F .i32) (k0_hw1 : k0_chk1 i v0) :
    Prog (TpuEff nD τ sig (Elt F) Λ₀ .tc) PUnit := do
  let arg0 : BitVec 32 := BitVec.ofNat 32 (i 0).val
  let arg1 : BitVec 32 := BitVec.ofNat 32 (i 1).val
  if k0_h3 : k0_cond3 i v0 = 1#1 then do
    let ⟨v25, v27, v29, v38, v43, v44, v47, v49⟩ : Σ' (v25 : IVec S32x128 1) (v27 : IVec S32x128 8) (v29 : IVec S32x128 8) (v38 : FVec F S192x1 .f32) (v43 : IVec S192x1 1) (v44 : BitVec 32) (v47 : FVec F S192x256 .f32), BitVec 32 ← k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1
    let ⟨v85, c4_i32_52⟩ : Σ' (v85 : FVec F S192x256 .f32), BitVec 32 ← k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v47 v49
    let v89 : Vec F S1x192x256 .f32 ← Prog.lift (.load arg15 (Rect.unit (s := S20x192x256) (k0_off11 i 2#32) S1x192x256.size (k0_off11_inb i v0 k0_hw1 k0_h3 2)).toLoadRect (View.loadsAt_vmem h_S1x192x256))
    let v99 : Vec F S1x192x256 .f32 ← Prog.lift (.load arg15 (Rect.unit (s := S20x192x256) (k0_off11 i 2#32) S1x192x256.size (k0_off11_inb i v0 k0_hw1 k0_h3 2)).toLoadRect (View.loadsAt_vmem h_S1x192x256))
    Prog.lift (.store arg15 (Rect.unit (s := S20x192x256) (k0_off11 i 2#32) S1x192x256.size (k0_off11_inb i v0 k0_hw1 k0_h3 2)) (k0_pay3 v38 v43 v85 v89) Finset.univ (View.stores_vmem_bits_univ h_S1x192x256 rfl) (.inl rfl))
    let v104 : FVec F S192x256 .f32 ← Scf.Loop.for k0_t5_loop k0_t5_ok (k0_pay4 (F := F)) (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29)
    let v108 : Vec F S1x192x256 .f32 ← Prog.lift (.load arg15 (Rect.unit (s := S20x192x256) (k0_off11 i 3#32) S1x192x256.size (k0_off11_inb i v0 k0_hw1 k0_h3 3)).toLoadRect (View.loadsAt_vmem h_S1x192x256))
    let v118 : Vec F S1x192x256 .f32 ← Prog.lift (.load arg15 (Rect.unit (s := S20x192x256) (k0_off11 i 3#32) S1x192x256.size (k0_off11_inb i v0 k0_hw1 k0_h3 3)).toLoadRect (View.loadsAt_vmem h_S1x192x256))
    Prog.lift (.store arg15 (Rect.unit (s := S20x192x256) (k0_off11 i 3#32) S1x192x256.size (k0_off11_inb i v0 k0_hw1 k0_h3 3)) (k0_pay6 v38 v43 v104 v108) Finset.univ (View.stores_vmem_bits_univ h_S1x192x256 rfl) (.inl rfl))
    pure ⟨⟩
  else do
    pure ⟨⟩

set_option maxHeartbeats 4000000 in
/-- The fourth: the last point rounds the accumulator to the result. -/
noncomputable def regD (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x256 .i32) (harg17 : arg17.IsWhole) (arg18 : Memref sig .tc .vmem S80x256 .i32) (harg18 : arg18.IsWhole) (arg19 : Memref sig .tc .vmem S16x1024 .i32) (harg19 : arg19.IsWhole) :
    Prog (TpuEff nD τ sig (Elt F) Λ₀ .tc) PUnit := do
  let arg0 : BitVec 32 := BitVec.ofNat 32 (i 0).val
  let arg1 : BitVec 32 := BitVec.ofNat 32 (i 1).val
  if k0_h4 : k0_cond4 i = 1#1 then do
    k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v92 : Vec F S1x192x256 .f32 ← Prog.lift (.load arg15 (Rect.unit (s := S20x192x256) ![18, 0, 0] S1x192x256.size inb_S20x192x256_S1x192x256_18_0_0).toLoadRect (View.loadsAt_vmem h_S1x192x256))
    let v95 : Vec F S192x256 .bf16 ← Prog.lift (.load arg14 (Rect.unit (s := S192x5120) ![0, 4608] S192x256.size inb_S192x5120_S192x256_0_4608).toLoadRect (View.loadsAt_vmem h_S192x256))
    Prog.lift (.store arg14 (Rect.unit (s := S192x5120) ![0, 4608] S192x256.size inb_S192x5120_S192x256_0_4608) (k0_pay7 v92) Finset.univ (View.stores_vmem h_S192x256 (harg14.storeExact_slice rfl _ packedbf16_S192x5120_S192x256_0_4608) (fun _ => rfl)) (.inl rfl))
    let v96 : Vec F S1x192x256 .f32 ← Prog.lift (.load arg15 (Rect.unit (s := S20x192x256) ![19, 0, 0] S1x192x256.size inb_S20x192x256_S1x192x256_19_0_0).toLoadRect (View.loadsAt_vmem h_S1x192x256))
    let v99 : Vec F S192x256 .bf16 ← Prog.lift (.load arg14 (Rect.unit (s := S192x5120) ![0, 4864] S192x256.size inb_S192x5120_S192x256_0_4864).toLoadRect (View.loadsAt_vmem h_S192x256))
    Prog.lift (.store arg14 (Rect.unit (s := S192x5120) ![0, 4864] S192x256.size inb_S192x5120_S192x256_0_4864) (k0_pay8 v96) Finset.univ (View.stores_vmem h_S192x256 (harg14.storeExact_slice rfl _ packedbf16_S192x5120_S192x256_0_4864) (fun _ => rfl)) (.inl rfl))
    pure ⟨⟩
  else do
    pure ⟨⟩

/-- What follows a branch may be moved into it. -/
theorem dite_then {p : Prop} [Decidable p] {E : Type → Type} {α β : Type} (f : p → Prog E α) (g : ¬ p → Prog E α) (k : α → Prog E β) :
    (dite p f g >>= k) = dite p (fun h => f h >>= k) (fun h => g h >>= k) := by
  by_cases h : p <;> simp [h]

set_option maxHeartbeats 4000000 in
/-- The kernel's body is the four regions, one after another. -/
theorem skel_eq (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x256 .i32) (harg17 : arg17.IsWhole) (arg18 : Memref sig .tc .vmem S80x256 .i32) (harg18 : arg18.IsWhole) (arg19 : Memref sig .tc .vmem S16x1024 .i32) (harg19 : arg19.IsWhole):
    cc0_nf4_moe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (do
      let v0 : Elt F .i32 ← smemLoad arg3 (Rect.unit (s := S1) ![0] S1.size inb_S1_S1_0) numel1_S1 rfl
      have k0_hw1 : k0_chk1 i v0 := (← Prog.lift (TpuEff.assume (k0_chk1 i v0) (k0_chk1.dec i v0))).down
      regA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      regB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1
      regC i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1
      regD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  rw [cc0_nf4_moe_eq_skeleton]
  simp only [cc0_nf4_moe_skel, regA, regB, regC, regD, dite_then, bind_assoc, bind_pure, pure_bind]

/-- A buffer the core owns whole, at some contents. -/
abbrev own (c : Dev nD) {sp : Space} {s : Shape} {e : EltTy} (M : Memref sig .tc sp s e) : sProp 𝕄 :=
  iprop(∃ d, owns (c : Thread nD τ) M fullShare d)

end Cert.Kernel.Hand

end
-- ==== Proof.KernelRunA.lean ====
/-
  The body of `Kernel`'s kernel : region A runs and hands its buffers back.
-/
module

public import proofs.«01_k».proof.Proof.KernelRegions
public import proofs.«01_k».proof.Proof.Gen.Kernel.Launch
public import Idealize.ShloMosaic.Lib.Pipeline.Frame
public import Idealize.ShloMosaic.Lib.Tactic

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

set_option maxHeartbeats 40000000 in
theorem regA_run (c : Dev nD) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x256 .i32) (harg17 : arg17.IsWhole) (arg18 : Memref sig .tc .vmem S80x256 .i32) (harg18 : arg18.IsWhole) (arg19 : Memref sig .tc .vmem S16x1024 .i32) (harg19 : arg19.IsWhole)(K : PUnit → sProp 𝕄) :
    iprop(own c arg15 ∗ (iprop(own c arg15) -∗ K ⟨⟩))
      ⊢ wp frame (wpE (defs₀ (F := F)) Variants.none c none) Set.univ (regA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold regA own owns
  iintro ⟨⟨%d15, %f15, -, H15⟩, Hk⟩
  by_cases h : Scalar.cmpi .ne (Scalar.extui (Scalar.andi (Scalar.cmpi .eq (BitVec.ofNat 32 (i 0).val) 0#32) (Scalar.cmpi .eq (BitVec.ofNat 32 (i 1).val) 0#32)) : BitVec 32) 0#32 = 1#1
  · sl_exec (disch := exact h)
    sl_step
    iapply Hk
    iexists _, _; isplitr; swap; · iexact H15
    ipureintro; rfl
  · sl_exec (disch := exact h)
    sl_step
    iapply Hk
    iexists _, _; isplitr; swap; · iexact H15
    ipureintro; rfl

end Cert.Kernel.Hand

end
-- ==== Proof.KernelRunB.lean ====
/-
  The body of `Kernel`'s kernel : region B runs and hands its buffers back.
-/
module

public import proofs.«01_k».proof.Proof.KernelRegions
public import proofs.«01_k».proof.Proof.Gen.Kernel.Launch
public import Idealize.ShloMosaic.Lib.Pipeline.Frame
public import Idealize.ShloMosaic.Lib.Tactic

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

set_option maxHeartbeats 40000000 in
theorem regB_run (c : Dev nD) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x256 .i32) (harg17 : arg17.IsWhole) (arg18 : Memref sig .tc .vmem S80x256 .i32) (harg18 : arg18.IsWhole) (arg19 : Memref sig .tc .vmem S16x1024 .i32) (harg19 : arg19.IsWhole)(v0 : Elt F .i32) (k0_hw1 : k0_chk1 i v0) (K : PUnit → sProp 𝕄) :
    iprop(own c arg4 ∗ own c arg6 ∗ own c arg7 ∗ own c arg8 ∗ own c arg9 ∗ own c arg10 ∗ own c arg11 ∗ own c arg16 ∗ own c arg17 ∗ own c arg18 ∗ (iprop(own c arg4 ∗ own c arg6 ∗ own c arg7 ∗ own c arg8 ∗ own c arg9 ∗ own c arg10 ∗ own c arg11 ∗ own c arg16 ∗ own c arg17 ∗ own c arg18) -∗ K ⟨⟩))
      ⊢ wp frame (wpE (defs₀ (F := F)) Variants.none c none) Set.univ (regB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1) K := by
  unfold regB own owns
  iintro ⟨⟨%d4, %f4, -, H4⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d16, %f16, -, H16⟩, ⟨%d17, %f17, -, H17⟩, ⟨%d18, %f18, -, H18⟩, Hk⟩
  by_cases h : k0_cond2 i v0 = 1#1
  · sl_exec (disch := exact h)
    sl_step
    iapply Hk
    isplitl [H4]
    · iexists _, _; isplitr; swap; · iexact H4
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl
  · sl_exec (disch := exact h)
    sl_step
    iapply Hk
    isplitl [H4]
    · iexists _, _; isplitr; swap; · iexact H4
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Cert.Kernel.Hand

end
-- ==== Proof.KernelRunC.lean ====
/-
  The body of `Kernel`'s kernel : region C runs and hands its buffers back.
-/
module

public import proofs.«01_k».proof.Proof.KernelRegions
public import proofs.«01_k».proof.Proof.Gen.Kernel.Launch
public import Idealize.ShloMosaic.Lib.Pipeline.Frame
public import Idealize.ShloMosaic.Lib.Tactic

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

set_option maxHeartbeats 40000000 in
theorem regC_run (c : Dev nD) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x256 .i32) (harg17 : arg17.IsWhole) (arg18 : Memref sig .tc .vmem S80x256 .i32) (harg18 : arg18.IsWhole) (arg19 : Memref sig .tc .vmem S16x1024 .i32) (harg19 : arg19.IsWhole)(v0 : Elt F .i32) (k0_hw1 : k0_chk1 i v0) (K : PUnit → sProp 𝕄) :
    iprop(own c arg5 ∗ own c arg7 ∗ own c arg12 ∗ own c arg13 ∗ own c arg15 ∗ own c arg16 ∗ own c arg19 ∗ (iprop(own c arg5 ∗ own c arg7 ∗ own c arg12 ∗ own c arg13 ∗ own c arg15 ∗ own c arg16 ∗ own c arg19) -∗ K ⟨⟩))
      ⊢ wp frame (wpE (defs₀ (F := F)) Variants.none c none) Set.univ (regC i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1) K := by
  unfold regC own owns
  iintro ⟨⟨%d5, %f5, -, H5⟩, ⟨%d7, %f7, -, H7⟩, ⟨%d12, %f12, -, H12⟩, ⟨%d13, %f13, -, H13⟩, ⟨%d15, %f15, -, H15⟩, ⟨%d16, %f16, -, H16⟩, ⟨%d19, %f19, -, H19⟩, Hk⟩
  by_cases h : k0_cond3 i v0 = 1#1
  · have h4 := step_ge i v0 h
    letI c0 : ClosedOff (k0_off11 i 0#32) := ⟨![4 * ((i 1).val - 4) + 0, 0, 0], off11_form i 0 h4⟩
    letI c1 : ClosedOff (k0_off11 i 1#32) := ⟨![4 * ((i 1).val - 4) + 1, 0, 0], off11_form i 1 h4⟩
    letI c2 : ClosedOff (k0_off11 i 2#32) := ⟨![4 * ((i 1).val - 4) + 2, 0, 0], off11_form i 2 h4⟩
    letI c3 : ClosedOff (k0_off11 i 3#32) := ⟨![4 * ((i 1).val - 4) + 3, 0, 0], off11_form i 3 h4⟩
    sl_exec (disch := exact h)
    sl_step
    iapply Hk
    isplitl [H5]
    · iexists _, _; isplitr; swap; · iexact H5
      ipureintro; rfl
    isplitl [H7]
    · iexists _, _; isplitr; swap; · iexact H7
      ipureintro; rfl
    isplitl [H12]
    · iexists _, _; isplitr; swap; · iexact H12
      ipureintro; rfl
    isplitl [H13]
    · iexists _, _; isplitr; swap; · iexact H13
      ipureintro; rfl
    isplitl [H15]
    · iexists _, _; isplitr; swap; · iexact H15
      ipureintro; rfl
    isplitl [H16]
    · iexists _, _; isplitr; swap; · iexact H16
      ipureintro; rfl
    iexists _, _; isplitr; swap; · iexact H19
    ipureintro; rfl
  · sl_exec (disch := exact h)
    sl_step
    iapply Hk
    isplitl [H5]
    · iexists _, _; isplitr; swap; · iexact H5
      ipureintro; rfl
    isplitl [H7]
    · iexists _, _; isplitr; swap; · iexact H7
      ipureintro; rfl
    isplitl [H12]
    · iexists _, _; isplitr; swap; · iexact H12
      ipureintro; rfl
    isplitl [H13]
    · iexists _, _; isplitr; swap; · iexact H13
      ipureintro; rfl
    isplitl [H15]
    · iexists _, _; isplitr; swap; · iexact H15
      ipureintro; rfl
    isplitl [H16]
    · iexists _, _; isplitr; swap; · iexact H16
      ipureintro; rfl
    iexists _, _; isplitr; swap; · iexact H19
    ipureintro; rfl

end Cert.Kernel.Hand

end
-- ==== Proof.KernelRunD.lean ====
/-
  The body of `Kernel`'s kernel : region D runs and hands its buffers back.
-/
module

public import proofs.«01_k».proof.Proof.KernelRegions
public import proofs.«01_k».proof.Proof.Gen.Kernel.Launch
public import Idealize.ShloMosaic.Lib.Pipeline.Frame
public import Idealize.ShloMosaic.Lib.Tactic

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

set_option maxHeartbeats 40000000 in
theorem regD_run (c : Dev nD) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x256 .i32) (harg17 : arg17.IsWhole) (arg18 : Memref sig .tc .vmem S80x256 .i32) (harg18 : arg18.IsWhole) (arg19 : Memref sig .tc .vmem S16x1024 .i32) (harg19 : arg19.IsWhole)(K : PUnit → sProp 𝕄) :
    iprop(own c arg14 ∗ own c arg15 ∗ (iprop(own c arg14 ∗ own c arg15) -∗ K ⟨⟩))
      ⊢ wp frame (wpE (defs₀ (F := F)) Variants.none c none) Set.univ (regD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold regD own owns
  iintro ⟨⟨%d14, %f14, -, H14⟩, ⟨%d15, %f15, -, H15⟩, Hk⟩
  by_cases h : k0_cond4 i = 1#1
  · sl_exec (disch := exact h)
    sl_step
    iapply Hk
    isplitl [H14]
    · iexists _, _; isplitr; swap; · iexact H14
      ipureintro; rfl
    iexists _, _; isplitr; swap; · iexact H15
    ipureintro; rfl
  · sl_exec (disch := exact h)
    sl_step
    iapply Hk
    isplitl [H14]
    · iexists _, _; isplitr; swap; · iexact H14
      ipureintro; rfl
    iexists _, _; isplitr; swap; · iexact H15
    ipureintro; rfl

end Cert.Kernel.Hand

end
-- ==== Proof.KernelBody.lean ====
/-
  The body of `Kernel`'s kernel whole: it runs from any contents of its buffers and hands them back.
-/
module

public import proofs.«01_k».proof.Proof.KernelRunA
public import proofs.«01_k».proof.Proof.KernelRunB
public import proofs.«01_k».proof.Proof.KernelRunC
public import proofs.«01_k».proof.Proof.KernelRunD
public import proofs.«01_k».proof.Proof.Gen.Kernel.Launch
public import Idealize.ShloMosaic.Lib.Pipeline.Frame
public import Idealize.ShloMosaic.Lib.Tactic

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-- The table that holds the number of active experts, as the kernel is handed it. -/
abbrev T3 : Memref sig .tc .smem S1 .i32 := Memref.whole main_v22
abbrev hT3 : (T3).IsWhole := Memref.isWhole_whole _

/-- The half of a prefetched table that the body reads. -/
abbrev tbPt (c : Dev nD) {sp : Space} {S : Shape} {e : EltTy} (M : Memref sig .tc sp S e) (f : Buf (Elt F) (M.view.loc (c : Thread nD τ))) : sProp 𝕄 :=
  M.view.loc (c : Thread nD τ) ↦{fullShare.right} f

/-- The number of active experts, read from its table. -/
abbrev nactOf (c : Dev nD) (ft : Buf (Elt F) ((T3).view.loc (c : Thread nD τ))) : Elt F .i32 :=
  (View.whole main_v22).readAt (Elt F) (Rect.unit (s := S1) ![0] S1.size inb_S1_S1_0) ft (Shape.Idx.first (numel1_S1 ▸ Nat.one_pos))

/-- Reading the table yields the number of active experts. -/
theorem head_run (c : Dev nD) (ft : Buf (Elt F) ((T3).view.loc (c : Thread nD τ))) (K : Elt F .i32 → sProp 𝕄) :
    iprop(tbPt c T3 ft ∗ (tbPt c T3 ft -∗ K (nactOf c ft)))
      ⊢ wp frame (wpE (defs₀ (F := F)) Variants.none c none) Set.univ
          (smemLoad T3 (Rect.unit (s := S1) ![0] S1.size inb_S1_S1_0) numel1_S1 rfl) K := by
  iintro ⟨HT, Hk⟩
  sl_exec
  sl_step
  iapply Hk
  iexact HT

/-- A side condition that holds is passed. -/
theorem assume_run (c : Dev nD) (P : Prop) [d : Decidable P] (h : P) (K : PLift P → sProp 𝕄) :
    K ⟨h⟩ ⊢ wp frame (wpE (defs₀ (F := F)) Variants.none c none) Set.univ (Prog.lift (TpuEff.assume P d)) K := by
  iintro Hk
  sl_exec (disch := exact h)
  sl_step
  iexact Hk

set_option maxHeartbeats 40000000 in
/-- The whole body: from any contents of its buffers it runs and hands them back. -/
theorem body_run (c : Dev nD) (i : grid0.Coords) (arg2 : Memref sig .tc .smem S8 .i32) (harg2 : arg2.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x256 .i32) (harg17 : arg17.IsWhole) (arg18 : Memref sig .tc .vmem S80x256 .i32) (harg18 : arg18.IsWhole) (arg19 : Memref sig .tc .vmem S16x1024 .i32) (harg19 : arg19.IsWhole)(ft : Buf (Elt F) ((T3).view.loc (c : Thread nD τ))) (K : PUnit → sProp 𝕄) :
    iprop(tbPt c T3 ft ∗ own c arg4 ∗ own c arg5 ∗ own c arg6 ∗ own c arg7 ∗ own c arg8 ∗ own c arg9 ∗ own c arg10 ∗ own c arg11 ∗ own c arg12 ∗ own c arg13 ∗ own c arg14 ∗ own c arg15 ∗ own c arg16 ∗ own c arg17 ∗ own c arg18 ∗ own c arg19 ∗ (iprop(tbPt c T3 ft ∗ own c arg4 ∗ own c arg5 ∗ own c arg6 ∗ own c arg7 ∗ own c arg8 ∗ own c arg9 ∗ own c arg10 ∗ own c arg11 ∗ own c arg12 ∗ own c arg13 ∗ own c arg14 ∗ own c arg15 ∗ own c arg16 ∗ own c arg17 ∗ own c arg18 ∗ own c arg19) -∗ K ⟨⟩))
      ⊢ wp frame (wpE (defs₀ (F := F)) Variants.none c none) Set.univ (cc0_nf4_moe i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [skel_eq]
  iintro ⟨HT, H4, H5, H6, H7, H8, H9, H10, H11, H12, H13, H14, H15, H16, H17, H18, H19, Hk⟩
  rw [wp_bind]
  iapply (head_run c ft _)
  isplitl [HT]; · iexact HT
  iintro HT
  rw [wp_bind]
  iapply (assume_run c (k0_chk1 i _) (chk1 i _) _)
  rw [wp_bind]
  iapply (regA_run c i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _)
  isplitl [H15]; · iexact H15
  iintro H15
  rw [wp_bind]
  iapply (regB_run c i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ (chk1 i _) _)
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H16]; · iexact H16
  isplitl [H17]; · iexact H17
  isplitl [H18]; · iexact H18
  iintro ⟨H4, H6, H7, H8, H9, H10, H11, H16, H17, H18⟩
  rw [wp_bind]
  iapply (regC_run c i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ (chk1 i _) _)
  isplitl [H5]; · iexact H5
  isplitl [H7]; · iexact H7
  isplitl [H12]; · iexact H12
  isplitl [H13]; · iexact H13
  isplitl [H15]; · iexact H15
  isplitl [H16]; · iexact H16
  isplitl [H19]; · iexact H19
  iintro ⟨H5, H7, H12, H13, H15, H16, H19⟩
  iapply (regD_run c i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _)
  isplitl [H14]; · iexact H14
  isplitl [H15]; · iexact H15
  iintro ⟨H14, H15⟩
  iapply Hk
  isplitl [HT]; · iexact HT
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

end Cert.Kernel.Hand

end
-- ==== Proof.KernelTables.lean ====
/-
  The buffers of `Kernel`'s program when its kernel is entered, and the tables of expert numbers among them.
-/
module

public import Idealize.ShloMosaic.Lib.StableHlo.RunRead
public import proofs.«01_k».proof.Proof.Gen.Kernel.Launch
public import Idealize.ShloMosaic.Lib.Pipeline.Frame
public import Idealize.ShloMosaic.Lib.Tactic

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

variable (m : (ℓ : Loc nD τ sig) → Buf (Elt F) ℓ) (c : Dev nD)

/-- The program's host operations, line by line. -/
abbrev hostLines : List (List (HloOp τ sig (Elt F))) :=
  [hostOps0, hostOps0_1, hostOps0_2, hostOps0_3, hostOps0_4, hostOps0_5, hostOps0_6, hostOps0_7, hostOps0_8]

/-- What each buffer holds when the kernel is entered. -/
def V (b : Ref sig .tc) : Buf (Elt F) ((c : Thread nD τ).loc b) :=
  StableHlo.after hostLines.flatten (fun b => m (c, b)) b

/-- An entry gathered from the sorted expert numbers is an expert number. -/
theorem gathered_lt (x : IVec S8 1) (idx : IVec S8x1 32) (j : S8.Idx) :
    (Host.gather gather_S8_S8x1_S8_n_0_n_n_0_1_1 (Host.sort2 S8 0 comparator_i1_i32_d0 x (iotaInDim S8 32 0)).2 idx j).toNat < 8 := by
  have h : ∃ k : S8.Idx, Host.gather gather_S8_S8x1_S8_n_0_n_n_0_1_1 (Host.sort2 S8 0 comparator_i1_i32_d0 x (iotaInDim S8 32 0)).2 idx j
      = (BitVec.ofNat 32 (k 0).val) := ⟨_, rfl⟩
  obtain ⟨k, hk⟩ := h
  have hk0 : (k 0).val < 8 := (k 0).isLt
  rw [hk, BitVec.toNat_ofNat]
  omega

set_option maxHeartbeats 4000000 in
/-- The order table holds expert numbers. -/
theorem order_lt (j : S8.Idx) : ((V m c main_v35 : S8.Idx → BitVec 32) j).toNat < 8 := by
  unfold V
  after_reads_simp
  exact gathered_lt _ _ j

/-! ## The tables admit the pipeline's blocks -/

/-- A gate/up step's block number, whatever the condition: at most three. -/
theorem gate_block_le : ∀ (b : BitVec 1) (s : Fin 9),
    (Scalar.select b (Scalar.minsi (BitVec.ofNat 32 s.val) 3#32) 3#32 : BitVec 32).toNat ≤ 3 := by decide
/-- A down step's: at most four. -/
theorem down_block_le : ∀ (b : BitVec 1) (s : Fin 9),
    (Scalar.select b (Scalar.maxsi (Scalar.subi (BitVec.ofNat 32 s.val) 4#32) 0#32) 4#32 : BitVec 32).toNat ≤ 4 := by decide

/-- Where the order table holds expert numbers, every block the pipeline moves lies inside its array, in whole words. -/
theorem ok0_of (pf : pre0.Contents (Elt F)) (h : ∀ j : S8.Idx, ((pf 0 : S8.Idx → BitVec 32) j).toNat < 8) : ok0 pf := by
  have e (i : grid0.Coords) : (pf.at 0 (Rect.unit (s := S8) ![(Scalar.indexCast (BitVec.ofNat 32 (i 0).val) : Index).toNat] S1.size (k0_off1_inb i)) numel1_S1 : BitVec 32).toNat < 8 := h _
  refine ⟨fun i => ⟨?_, .inl rfl⟩, fun i => ⟨?_, .inr (.inl (.inr ⟨by decide, rfl, .inl ⟨?_, ⟨64, rfl⟩⟩⟩))⟩,
    fun i => ⟨?_, .inl rfl⟩, fun i => ⟨?_, .inr (.inl (.inr ⟨by decide, rfl, .inl ⟨?_, ⟨64, rfl⟩⟩⟩))⟩,
    fun i => ⟨?_, .inl rfl⟩, fun i => ⟨?_, .inr (.inl (.inr ⟨by decide, rfl, .inl ⟨?_, ⟨256, rfl⟩⟩⟩))⟩, fun i => ⟨?_, .inl rfl⟩⟩
  all_goals have h0 := e i
  · intro a
    match a with
    | 0 => exact Nat.le_trans (Nat.le_of_eq (Nat.mul_one _)) h0
    | 1 => exact le_refl 192
    | 2 => exact le_refl 2
  · intro a
    match a with
    | 0 => exact Nat.le_trans (Nat.le_of_eq (Nat.mul_one _)) h0
    | 1 => exact Nat.mul_le_mul_right 256 (Nat.succ_le_succ (gate_block_le _ (i 1)))
    | 2 => exact le_refl 2560
  · exact Dvd.dvd.mul_left (⟨64, rfl⟩ : 4 ∣ 256) _
  · intro a
    match a with
    | 0 => exact Nat.le_trans (Nat.le_of_eq (Nat.mul_one _)) h0
    | 1 => exact le_refl 80
    | 2 => exact Nat.mul_le_mul_right 256 (Nat.succ_le_succ (gate_block_le _ (i 1)))
  · intro a
    match a with
    | 0 => exact Nat.le_trans (Nat.le_of_eq (Nat.mul_one _)) h0
    | 1 => exact Nat.mul_le_mul_right 256 (Nat.succ_le_succ (gate_block_le _ (i 1)))
    | 2 => exact le_refl 2560
  · exact Dvd.dvd.mul_left (⟨64, rfl⟩ : 4 ∣ 256) _
  · intro a
    match a with
    | 0 => exact Nat.le_trans (Nat.le_of_eq (Nat.mul_one _)) h0
    | 1 => exact le_refl 80
    | 2 => exact Nat.mul_le_mul_right 256 (Nat.succ_le_succ (gate_block_le _ (i 1)))
  · intro a
    match a with
    | 0 => exact Nat.le_trans (Nat.le_of_eq (Nat.mul_one _)) h0
    | 1 => exact Nat.mul_le_mul_right 1024 (Nat.succ_le_succ (down_block_le _ (i 1)))
    | 2 => exact le_refl 512
  · exact Dvd.dvd.mul_left (⟨256, rfl⟩ : 4 ∣ 1024) _
  · intro a
    match a with
    | 0 => exact Nat.le_trans (Nat.le_of_eq (Nat.mul_one _)) h0
    | 1 => exact le_refl 16
    | 2 => exact Nat.mul_le_mul_right 1024 (Nat.succ_le_succ (down_block_le _ (i 1)))

/-- The tables' contents when the kernel is entered (there is one core). -/
def tables : pre0.Contents (Elt F) := fun k => V m (0 : Dev nD) (pre0.ref k)

/-- They are admissible. -/
def adm : (pcfg0 (F := F)).Adm := ⟨tables m, ok0_of (tables m) (order_lt m (0 : Dev nD))⟩

/-- On every core the tables hold these contents. -/
theorem tables_eq (k : Fin 2) : V m c (pre0.ref k) = (adm m).1 k := by
  have hc : c = (0 : Dev nD) := Subsingleton.elim _ _
  subst hc
  rfl

end Cert.Kernel.Hand

end
-- ==== Proof.KernelFrame.lean ====
/-
  The launch of `Kernel`'s program, for any proof data of its pipeline, and its frame: it runs, and its arguments end as
  they began.
-/
module

public import proofs.«01_k».proof.Proof.KernelBody
public import proofs.«01_k».proof.Proof.KernelTables
public import proofs.«01_k».proof.Defs
public import Idealize.ShloMosaic.Lib.Quiescent
public import Idealize.ShloMosaic.Lib.Pipeline.FrameBody
public import proofs.«01_k».proof.Proof.Gen.Kernel.Launch
public import Idealize.ShloMosaic.Lib.Pipeline.Frame
public import Idealize.ShloMosaic.Lib.Tactic

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The one pipeline's tables. -/
abbrev admOf : (p : Fin 1) → (pcfgs (F := F) p).Adm := fun _ => adm m

/-- The kernel's body as the pipeline calls it at a point of the grid. -/
abbrev bodyAt (t : Fin (cfg0 (adm m)).N) : Prog (TpuEff nD τ sig (Elt F) Λ₀ .tc) PUnit :=
  cc0_nf4_moe (grid0.coords t) (Memref.whole main_v35) (Memref.isWhole_whole _) (Memref.whole main_v22) (Memref.isWhole_whole _) (spec0_0.stage ((cfg0 (adm m)).slots t 0)) (hstage0_0 (((cfg0 (adm m)).slots t 0).cast nbuf0_0)) (spec0_1.stage ((cfg0 (adm m)).slots t 1)) (hstage0_1 (((cfg0 (adm m)).slots t 1).cast nbuf0_1)) (spec0_2.stage ((cfg0 (adm m)).slots t 2)) (hstage0_2 (((cfg0 (adm m)).slots t 2).cast nbuf0_2)) (spec0_3.stage ((cfg0 (adm m)).slots t 3)) (hstage0_3 (((cfg0 (adm m)).slots t 3).cast nbuf0_3)) (spec0_4.stage ((cfg0 (adm m)).slots t 4)) (hstage0_4 (((cfg0 (adm m)).slots t 4).cast nbuf0_4)) (spec0_5.stage ((cfg0 (adm m)).slots t 5)) (hstage0_5 (((cfg0 (adm m)).slots t 5).cast nbuf0_5)) (spec0_6.stage ((cfg0 (adm m)).slots t 6)) (hstage0_6 (((cfg0 (adm m)).slots t 6).cast nbuf0_6)) (spec0_7.stage ((cfg0 (adm m)).slots t 7)) (hstage0_7 (((cfg0 (adm m)).slots t 7).cast nbuf0_7)) (spec0_8.stage ((cfg0 (adm m)).slots t 8)) (hstage0_8 (((cfg0 (adm m)).slots t 8).cast nbuf0_8)) (spec0_9.stage ((cfg0 (adm m)).slots t 9)) (hstage0_9 (((cfg0 (adm m)).slots t 9).cast nbuf0_9)) (spec0_10.stage ((cfg0 (adm m)).slots t 10)) (hstage0_10 (((cfg0 (adm m)).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

/-- The body table's row at the point is the body. -/
theorem defs₀_row (t : Fin (cfg0 (adm m)).N) :
    defs₀ (F := F) .tc (cfg0 (adm m)).body ((cfg0 (adm m)).bodyArgs t ((cfg0 (adm m)).slots t)) = bodyAt m t := by
  unfold defs₀; rw [Defs.onTc_tc]

/-- The program up to its kernel: host operations only. -/
theorem hmain : Pipeline.HMainP (Ix := Unit) (Name := ℕ) (U := UR sig nD τ) (Lvl := ℕ) (pcfgs (F := F)) 0 defs₀ Variants.none m main (V m) :=
  Pipeline.hmainP_prefixes _ 0 defs₀ Variants.none m main hostLines
    ⟨hostOps0_sub, hostOps0_1_sub, hostOps0_2_sub, hostOps0_3_sub, hostOps0_4_sub, hostOps0_5_sub, hostOps0_6_sub, hostOps0_7_sub, hostOps0_8_sub⟩
    (by repeat' (first | exact rfl | exact True.intro | refine And.intro ?_ ?_))
    main_chain

/-- The scratch buffers and the generator register, at whatever they hold. -/
abbrev scrAny (c : Dev nD) : sProp 𝕄 :=
  iprop((own c (Memref.whole cc0_scratch0 : Memref sig .tc .vmem S20x192x256 .f32) ∗ own c (Memref.whole cc0_scratch1 : Memref sig .tc .vmem S4x192x256 .bf16)
    ∗ own c (Memref.whole cc0_scratch2 : Memref sig .tc .vmem S80x256 .i32) ∗ own c (Memref.whole cc0_scratch3 : Memref sig .tc .vmem S80x256 .i32) ∗ own c (Memref.whole cc0_scratch4 : Memref sig .tc .vmem S16x1024 .i32)) ∗ ∃ r, prngReg c r)

theorem PhiA_eq (c : Dev nD) : (Pipeline.ΦA (U := UR sig nD τ) spec0 c : sProp 𝕄) = scrAny c := by
  unfold Pipeline.ΦA
  rw [scopedRest0_eq]
  simp only [scrAny, own, owns_whole]

/-- The halves of the two tables that the body may read. -/
theorem PhiT_eq (c : Dev nD) (v : pre0.Contents (Elt F)) :
    (Pipeline.ΦT (U := UR sig nD τ) pre0 v c : sProp 𝕄)
      = iprop(tbPt c (Memref.whole main_v35 : Memref sig .tc .smem S8 .i32) (v 0) ∗ tbPt c T3 (v 1)) := by
  unfold Pipeline.ΦT Pipeline.prefHeld
  rw [show (Finset.univ : Finset (Fin 2)) = insert 0 {1} from by decide, bigSep_insert (by decide), bigSep_singleton]
  rfl

set_option backward.isDefEq.respectTransparency.types false in
/-- The launch, for proof data that lend whole shares, owe nothing and start from the buffers at the kernel's entry. -/
theorem launch (rd : (c : Dev nD) → RDat τ (Elt F) Unit ℕ (UR sig nD τ) ℕ (cfg0 (adm m)) c)
    (hbody : ∀ c, (rd c).BodyObligation defs₀ Variants.none () Set.univ)
    (hshare : ∀ c w, (rd c).share w = fullShare) (howed : ∀ c t, (rd c).owed t = 0)
    (hA : ∀ c w, (rd c).A w = V m c (Pipeline.arrRef spec0 w))
    (hin : ∀ c, iprop(scrAny c ∗ tbPt c (Memref.whole main_v35 : Memref sig .tc .smem S8 .i32) (tables m 0) ∗ tbPt c T3 (tables m 1)) ⊢ (rd c).Φ 0)
    (hout : ∀ c, (rd c).Φ (Fin.last (cfg0 (adm m)).N) ⊢ scrAny c) :
    θ_run defs (onTc (τ := τ) (main (F := F))) (s₀ m ρ)
      (fun r => RDat.FramePost (cfg0 (adm m)) rd (V m) r ∧ r.2.sem = fun _ => 0) :=
  RDat.θ_run_frameP_track (Q' := _) pcfgs (admOf m) 0 launch0 defs₀ Variants.none rd m ρ main hbody hshare howed (V m)
    (hmain m) hA (fun c k => tables_eq m c k)
    (fun c => by
      show iprop(Pipeline.ΦA spec0 c ∗ Pipeline.ΦT pre0 (tables m) c) ⊢ _
      rw [PhiA_eq, PhiT_eq]
      exact hin c)
    (fun c => by
      show _ ⊢ Pipeline.ΦA spec0 c
      rw [PhiA_eq]
      exact hout c)

/-! ## The frame -/

/-- Proof data that say nothing of what the body leaves in its buffers. -/
def rdAny (c : Dev nD) : RDat τ (Elt F) Unit ℕ (UR sig nD τ) ℕ (cfg0 (adm m)) c where
  A w := V m c (Pipeline.arrRef spec0 w)
  after _ _ _ _ := True
  Φ _ := iprop(scrAny c ∗ tbPt c (Memref.whole main_v35 : Memref sig .tc .smem S8 .i32) (tables m 0) ∗ tbPt c T3 (tables m 1))
  q _ := fullShare
  owed _ := 0

abbrev winAny (c : Dev nD) (t : Fin (cfg0 (adm m)).N) : sProp 𝕄 :=
  iprop(own c (((cfg0 (adm m)).win 0).stage ((cfg0 (adm m)).slots t 0)) ∗ own c (((cfg0 (adm m)).win 1).stage ((cfg0 (adm m)).slots t 1)) ∗ own c (((cfg0 (adm m)).win 2).stage ((cfg0 (adm m)).slots t 2)) ∗ own c (((cfg0 (adm m)).win 3).stage ((cfg0 (adm m)).slots t 3)) ∗ own c (((cfg0 (adm m)).win 4).stage ((cfg0 (adm m)).slots t 4)) ∗ own c (((cfg0 (adm m)).win 5).stage ((cfg0 (adm m)).slots t 5)) ∗ own c (((cfg0 (adm m)).win 6).stage ((cfg0 (adm m)).slots t 6)) ∗ own c (((cfg0 (adm m)).win 7).stage ((cfg0 (adm m)).slots t 7)) ∗ own c (((cfg0 (adm m)).win 8).stage ((cfg0 (adm m)).slots t 8)) ∗ own c (((cfg0 (adm m)).win 9).stage ((cfg0 (adm m)).slots t 9)) ∗ own c (((cfg0 (adm m)).win 10).stage ((cfg0 (adm m)).slots t 10)))

/-- The body at a point, from any contents of its windows to any contents. -/
theorem sound_any (c : Dev nD) (t : Fin (cfg0 (adm m)).N) :
    iprop((rdAny m c).Φ t.castSucc ∗ (rdAny m c).owesAt () t.castSucc ∗ winAny m c t)
      ⊢ wp frame (wpE (defs₀ (F := F)) Variants.none c none) Set.univ (bodyAt m t)
          (fun _ => iprop((rdAny m c).Φ t.succ ∗ (rdAny m c).owesAt () t.succ ∗ winAny m c t)) := by
  rw [show (rdAny m c).Φ t.succ = (rdAny m c).Φ t.castSucc from rfl,
    show (rdAny m c).owesAt () t.succ = (rdAny m c).owesAt () t.castSucc from rfl]
  unfold rdAny scrAny
  iintro ⟨⟨⟨⟨HA, HH, HG, HU, HD⟩, Hp⟩, HO, HT⟩, HW, ⟨W0, W1, W2, W3, W4, W5, W6, W7, W8, W9, W10⟩⟩
  iapply (body_run c (grid0.coords t) (Memref.whole main_v35) (Memref.isWhole_whole _) (spec0_0.stage ((cfg0 (adm m)).slots t 0)) (hstage0_0 (((cfg0 (adm m)).slots t 0).cast nbuf0_0)) (spec0_1.stage ((cfg0 (adm m)).slots t 1)) (hstage0_1 (((cfg0 (adm m)).slots t 1).cast nbuf0_1)) (spec0_2.stage ((cfg0 (adm m)).slots t 2)) (hstage0_2 (((cfg0 (adm m)).slots t 2).cast nbuf0_2)) (spec0_3.stage ((cfg0 (adm m)).slots t 3)) (hstage0_3 (((cfg0 (adm m)).slots t 3).cast nbuf0_3)) (spec0_4.stage ((cfg0 (adm m)).slots t 4)) (hstage0_4 (((cfg0 (adm m)).slots t 4).cast nbuf0_4)) (spec0_5.stage ((cfg0 (adm m)).slots t 5)) (hstage0_5 (((cfg0 (adm m)).slots t 5).cast nbuf0_5)) (spec0_6.stage ((cfg0 (adm m)).slots t 6)) (hstage0_6 (((cfg0 (adm m)).slots t 6).cast nbuf0_6)) (spec0_7.stage ((cfg0 (adm m)).slots t 7)) (hstage0_7 (((cfg0 (adm m)).slots t 7).cast nbuf0_7)) (spec0_8.stage ((cfg0 (adm m)).slots t 8)) (hstage0_8 (((cfg0 (adm m)).slots t 8).cast nbuf0_8)) (spec0_9.stage ((cfg0 (adm m)).slots t 9)) (hstage0_9 (((cfg0 (adm m)).slots t 9).cast nbuf0_9)) (spec0_10.stage ((cfg0 (adm m)).slots t 10)) (hstage0_10 (((cfg0 (adm m)).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) _ _)
  isplitl [HT]; · iexact HT
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [HA]; · iexact HA
  isplitl [HH]; · iexact HH
  isplitl [HG]; · iexact HG
  isplitl [HU]; · iexact HU
  isplitl [HD]; · iexact HD
  iintro ⟨HT, W0, W1, W2, W3, W4, W5, W6, W7, W8, W9, W10, HA, HH, HG, HU, HD⟩
  isplitl [HA HH HG HU HD Hp HO HT]
  · isplitl [HA HH HG HU HD Hp]
    · isplitl [HA HH HG HU HD]
      · isplitl [HA]; · iexact HA
        isplitl [HH]; · iexact HH
        isplitl [HG]; · iexact HG
        isplitl [HU]; · iexact HU
        iexact HD
      iexact Hp
    isplitl [HO]; · iexact HO
    iexact HT
  isplitl [HW]; · iexact HW
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  iexact W10

/-- The body obligation. -/
theorem body_any (c : Dev nD) : (rdAny m c).BodyObligation (defs₀ (F := F)) Variants.none () Set.univ := fun t Y _ => by
  rw [bigSep_W0, bigSep_W0, defs₀_row]
  refine triple_restated (sound_any m c t) rfl ?_ fun _ => ?_
  · iintro ⟨HF, HW, ⟨W0, W1, W2, W3, W4, W5, W6, W7, W8, W9, W10⟩⟩
    isplitl [HF]; · iexact HF
    isplitl [HW]; · iexact HW
    isplitl [W0]; · iexists _; iexact W0
    isplitl [W1]; · iexists _; iexact W1
    isplitl [W2]; · iexists _; iexact W2
    isplitl [W3]; · iexists _; iexact W3
    isplitl [W4]; · iexists _; iexact W4
    isplitl [W5]; · iexists _; iexact W5
    isplitl [W6]; · iexists _; iexact W6
    isplitl [W7]; · iexists _; iexact W7
    isplitl [W8]; · iexists _; iexact W8
    isplitl [W9]; · iexists _; iexact W9
    iexists _; iexact W10
  · iintro ⟨HF, HW, ⟨⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩⟩⟩
    isplitl [HF]; · iexact HF
    isplitl [HW]; · iexact HW
    isplitl [W0]; · iexists _; isplitr; swap; · iexact W0
                    ipureintro; trivial
    isplitl [W1]; · iexists _; isplitr; swap; · iexact W1
                    ipureintro; trivial
    isplitl [W2]; · iexists _; isplitr; swap; · iexact W2
                    ipureintro; trivial
    isplitl [W3]; · iexists _; isplitr; swap; · iexact W3
                    ipureintro; trivial
    isplitl [W4]; · iexists _; isplitr; swap; · iexact W4
                    ipureintro; trivial
    isplitl [W5]; · iexists _; isplitr; swap; · iexact W5
                    ipureintro; trivial
    isplitl [W6]; · iexists _; isplitr; swap; · iexact W6
                    ipureintro; trivial
    isplitl [W7]; · iexists _; isplitr; swap; · iexact W7
                    ipureintro; trivial
    isplitl [W8]; · iexists _; isplitr; swap; · iexact W8
                    ipureintro; trivial
    isplitl [W9]; · iexists _; isplitr; swap; · iexact W9
                    ipureintro; trivial
    iexists _; isplitr; swap; · iexact W10
    ipureintro; trivial

/-- The program runs, saying nothing of its result. -/
theorem run_any :
    θ_run defs (onTc (τ := τ) (main (F := F))) (s₀ m ρ)
      (fun r => RDat.FramePost (cfg0 (adm m)) (rdAny m) (V m) r ∧ r.2.sem = fun _ => 0) :=
  launch m ρ (rdAny m) (body_any m) (fun c => (rdAny m c).share_full fun _ => rfl) (fun _ _ => rfl) (fun _ _ => rfl)
    (fun _ => .rfl) (fun c => by
      unfold rdAny
      iintro ⟨H, -⟩
      iexact H)

set_option maxHeartbeats 4000000 in
theorem V_arg0 (c : Dev nD) : V m c main_arg0 = m ((c : Thread nD τ).loc main_arg0) := by
  unfold V; after_reads_simp
set_option maxHeartbeats 4000000 in
theorem V_arg1 (c : Dev nD) : V m c main_arg1 = m ((c : Thread nD τ).loc main_arg1) := by
  unfold V; after_reads_simp
set_option maxHeartbeats 4000000 in
theorem V_arg2 (c : Dev nD) : V m c main_arg2 = m ((c : Thread nD τ).loc main_arg2) := by
  unfold V; after_reads_simp
set_option maxHeartbeats 4000000 in
theorem V_arg3 (c : Dev nD) : V m c main_arg3 = m ((c : Thread nD τ).loc main_arg3) := by
  unfold V; after_reads_simp
set_option maxHeartbeats 4000000 in
theorem V_arg4 (c : Dev nD) : V m c main_arg4 = m ((c : Thread nD τ).loc main_arg4) := by
  unfold V; after_reads_simp
set_option maxHeartbeats 4000000 in
theorem V_arg5 (c : Dev nD) : V m c main_arg5 = m ((c : Thread nD τ).loc main_arg5) := by
  unfold V; after_reads_simp
set_option maxHeartbeats 4000000 in
theorem V_arg6 (c : Dev nD) : V m c main_arg6 = m ((c : Thread nD τ).loc main_arg6) := by
  unfold V; after_reads_simp
set_option maxHeartbeats 4000000 in
theorem V_arg7 (c : Dev nD) : V m c main_arg7 = m ((c : Thread nD τ).loc main_arg7) := by
  unfold V; after_reads_simp
set_option maxHeartbeats 4000000 in
theorem V_arg8 (c : Dev nD) : V m c main_arg8 = m ((c : Thread nD τ).loc main_arg8) := by
  unfold V; after_reads_simp

variable {m ρ}

/-- After the run the arguments are unchanged. -/
theorem args_unchanged {rd : (c : Dev nD) → RDat τ (Elt F) Unit ℕ (UR sig nD τ) ℕ (cfg0 (adm m)) c} {r : PUnit × MemSt nD τ sig (Elt F)}
    (hA : ∀ c w, (rd c).A w = V m c (Pipeline.arrRef spec0 w)) (h : RDat.FramePost (cfg0 (adm m)) rd (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  ⟨((h c).2 main_arg0 (show main_arg0 ∈ Pipeline.restRefs sig spec0 from Pipeline.mem_restRefs_of main_arg0 (by decide) (by decide))).trans (V_arg0 m c),
   ((h c).2 main_arg1 (show main_arg1 ∈ Pipeline.restRefs sig spec0 from Pipeline.mem_restRefs_of main_arg1 (by decide) (by decide))).trans (V_arg1 m c),
   ((h c).2 main_arg2 (show main_arg2 ∈ Pipeline.restRefs sig spec0 from Pipeline.mem_restRefs_of main_arg2 (by decide) (by decide))).trans (V_arg2 m c),
   ((congrFun ((rd c).ArrAt_in 4 rfl _) _).mp ((h c).1 4)).trans ((hA c 4).trans (V_arg3 m c)),
   ((h c).2 main_arg4 (show main_arg4 ∈ Pipeline.restRefs sig spec0 from Pipeline.mem_restRefs_of main_arg4 (by decide) (by decide))).trans (V_arg4 m c),
   ((congrFun ((rd c).ArrAt_in 6 rfl _) _).mp ((h c).1 6)).trans ((hA c 6).trans (V_arg5 m c)),
   ((h c).2 main_arg6 (show main_arg6 ∈ Pipeline.restRefs sig spec0 from Pipeline.mem_restRefs_of main_arg6 (by decide) (by decide))).trans (V_arg6 m c),
   ((congrFun ((rd c).ArrAt_in 8 rfl _) _).mp ((h c).1 8)).trans ((hA c 8).trans (V_arg7 m c)),
   ((h c).2 main_arg8 (show main_arg8 ∈ Pipeline.restRefs sig spec0 from Pipeline.mem_restRefs_of main_arg8 (by decide) (by decide))).trans (V_arg8 m c)⟩

end Cert.Kernel.Hand

end
-- ==== Proof.KernelIdealRegions.lean ====
/-
  The body of `KernelIdeal`'s kernel as four regions (clear the accumulator; one gate/up tile; one down tile; write the
  result), each with a triple that says it runs and hands its buffers back.
-/
module

public import proofs.«01_k».proof.Proof.Gen.KernelIdeal.Loops
public import proofs.«01_k».proof.Proof.Gen.KernelIdeal.Launch
public import Idealize.ShloMosaic.Lib.Pipeline.Frame
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-! ## The side condition the body assumes -/

/-- In a gate/up step the step number is below four. -/
theorem step_lt_of_gate : ∀ (b : BitVec 1) (s : Fin 9),
    Scalar.cmpi .ne (Scalar.extui (Scalar.andi b (Scalar.cmpi .slt (BitVec.ofNat 32 s.val) 4#32)) : BitVec 32) 0#32 = 1#1 → s.val < 4 := by decide
/-- In a down step it is four or more. -/
theorem step_ge_of_down : ∀ (b : BitVec 1) (s : Fin 9),
    Scalar.cmpi .ne (Scalar.extui (Scalar.andi b (Scalar.cmpi .sge (BitVec.ofNat 32 s.val) 4#32)) : BitVec 32) 0#32 = 1#1 → 4 ≤ s.val := by decide

theorem step_lt (i : grid0.Coords) (v0 : BitVec 32) (h : k0_cond2 i v0 = 1#1) : (i 1).val < 4 := step_lt_of_gate _ (i 1) h
theorem step_ge (i : grid0.Coords) (v0 : BitVec 32) (h : k0_cond3 i v0 = 1#1) : 4 ≤ (i 1).val := step_ge_of_down _ (i 1) h

theorem off6_lead : ∀ s : Fin 9, s.val < 4 → (Scalar.indexCast (BitVec.ofNat 32 s.val) : Index).toNat + 1 ≤ 4 := by decide
theorem off11_lead : ∀ (s : Fin 9) (r : Fin 4), 4 ≤ s.val →
    (Scalar.indexCast (Scalar.addi (Scalar.muli (Scalar.subi (BitVec.ofNat 32 s.val) 4#32) 4#32) (BitVec.ofNat 32 r.val)) : Index).toNat + 1 ≤ 20 := by decide

theorem off11_word : ∀ (s : Fin 9) (r : Fin 4), 4 ≤ s.val →
    (Scalar.indexCast (Scalar.addi (Scalar.muli (Scalar.subi (BitVec.ofNat 32 s.val) 4#32) 4#32) (BitVec.ofNat 32 r.val)) : Index).toNat = 4 * (s.val - 4) + r.val := by decide

/-- Where a down step's four tiles lie in the accumulator. -/
theorem off11_form (i : grid0.Coords) (r : Fin 4) (h : 4 ≤ (i 1).val) :
    k0_off11 i (BitVec.ofNat 32 r.val) = ![4 * ((i 1).val - 4) + r.val, 0, 0] := by
  have e := off11_word (i 1) r h
  funext a
  match a with
  | 0 => exact e
  | 1 => rfl
  | 2 => rfl

theorem off6_word : ∀ s : Fin 9, (Scalar.indexCast (BitVec.ofNat 32 s.val) : Index).toNat = s.val := by decide
/-- Where a gate/up step's tile lies among the hidden activations. -/
theorem off6_form (i : grid0.Coords) : k0_off6 i = ![(i 1).val, 0, 0] := by
  have e := off6_word (i 1)
  funext a
  match a with
  | 0 => exact e
  | 1 => rfl
  | 2 => rfl

/-- The body's side condition holds at every point of the grid, whatever the number of active experts. -/
theorem chk1 (i : grid0.Coords) (v0 : BitVec 32) : k0_chk1 i v0 := by
  refine ⟨fun h => ?_, fun h hinb => ?_, fun h r => ?_⟩
  · have h4 := off6_lead (i 1) (step_lt i v0 h)
    intro a
    match a with
    | 0 => exact h4
    | 1 => exact le_refl 192
    | 2 => exact le_refl 256
  · exact (Rect.packedRows_iff_at _ _).mpr (.inr ⟨by decide, rfl, .inl ⟨⟨0, rfl⟩, ⟨96, rfl⟩⟩⟩)
  · have h4 := off11_lead (i 1) r (step_ge i v0 h)
    intro a
    match a with
    | 0 => exact h4
    | 1 => exact le_refl 192
    | 2 => exact le_refl 256

/-! ## The regions -/
set_option maxHeartbeats 4000000 in
/-- The first region: at the first point the accumulator is cleared. -/
noncomputable def regA (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) :
    Prog (TpuEff nD τ sig (Elt F) Λ₀ .tc) PUnit := do
  let arg0 : BitVec 32 := BitVec.ofNat 32 (i 0).val
  let arg1 : BitVec 32 := BitVec.ofNat 32 (i 1).val
  let v2 : BitVec 1 := Scalar.cmpi .eq arg0 0#32
  let v3 : BitVec 1 := Scalar.cmpi .eq arg1 0#32
  let v4 : BitVec 1 := Scalar.andi v2 v3
  let v5 : BitVec 32 := Scalar.extui v4
  let v6 : BitVec 1 := Scalar.cmpi .ne v5 0#32
  if k0_h1 : v6 = 1#1 then do
    let v21 : Vec F S20x192x256 .f32 ← Prog.lift (.load arg15 (Rect.unit (s := S20x192x256) ![0, 0, 0] S20x192x256.size inb_S20x192x256_S20x192x256_0_0_0).toLoadRect (View.loadsAt_vmem h_S20x192x256))
    Prog.lift (.store arg15 (Rect.unit (s := S20x192x256) ![0, 0, 0] S20x192x256.size inb_S20x192x256_S20x192x256_0_0_0) (k0_pay1 (F := F)) Finset.univ (View.stores_vmem_bits_univ h_S20x192x256 rfl) (.inl rfl))
    pure ⟨⟩
  else do
    pure ⟨⟩

set_option maxHeartbeats 4000000 in
/-- The second: a gate/up step of an active expert stores one tile of the hidden activations. -/
noncomputable def regB (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (v0 : Elt F .i32) (k0_hw1 : k0_chk1 i v0) :
    Prog (TpuEff nD τ sig (Elt F) Λ₀ .tc) PUnit := do
  let arg0 : BitVec 32 := BitVec.ofNat 32 (i 0).val
  let arg1 : BitVec 32 := BitVec.ofNat 32 (i 1).val
  if k0_h2 : k0_cond2 i v0 = 1#1 then do
    let ⟨v25, v27, v29, v42, v43, c0_i32_23, c20_i32⟩ : Σ' (v25 : IVec S32x128 1) (v27 : IVec S32x128 8) (v29 : IVec S32x128 8) (v42 : FVec F S192x256 .f32) (v43 : FVec F S192x256 .f32) (c0_i32_23 : BitVec 32), BitVec 32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let (v45_0, v45_1) ← Scf.Loop.for k0_t1_loop k0_t1_ok (v42, v43) (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29 c0_i32_23)
    let v50 : Vec F S256x256 .bf16 ← Prog.lift (.load arg6 (Rect.unit (s := S256x256) ![0, 0] S256x256.size inb_S256x256_S256x256_0_0).toLoadRect (View.loadsAt_vmem h_S256x256))
    let v55 : Vec F S1x192x256 .bf16 ← Prog.lift (.load arg16 (Rect.unit (s := S4x192x256) (k0_off6 i) S1x192x256.size (k0_off6_inb i v0 k0_hw1 k0_h2)).toLoadRect (View.loadsAt_vmem h_S1x192x256))
    Prog.lift (.store arg16 (Rect.unit (s := S4x192x256) (k0_off6 i) S1x192x256.size (k0_off6_inb i v0 k0_hw1 k0_h2)) (k0_pay4 v45_0 v45_1 v50) Finset.univ (View.stores_vmem h_S1x192x256 (harg16.storeExact_slice rfl _ (k0_off6_packedbf16 i v0 k0_hw1 k0_h2)) (fun _ => rfl)) (.inl rfl))
    pure ⟨⟩
  else do
    pure ⟨⟩

set_option maxHeartbeats 4000000 in
/-- The third: a down step of an active expert adds its four tiles to the accumulator. -/
noncomputable def regC (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (v0 : Elt F .i32) (k0_hw1 : k0_chk1 i v0) :
    Prog (TpuEff nD τ sig (Elt F) Λ₀ .tc) PUnit := do
  let arg0 : BitVec 32 := BitVec.ofNat 32 (i 0).val
  let arg1 : BitVec 32 := BitVec.ofNat 32 (i 1).val
  if k0_h3 : k0_cond3 i v0 = 1#1 then do
    let ⟨v25, v27, v29, v38, v43, v44, v47⟩ : Σ' (v25 : IVec S32x128 1) (v27 : IVec S32x128 8) (v29 : IVec S32x128 8) (v38 : FVec F S192x1 .f32) (v43 : IVec S192x1 1) (v44 : BitVec 32), FVec F S192x256 .f32 ← k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1
    let ⟨v83, c0_i32_48⟩ : Σ' (v83 : FVec F S192x256 .f32), BitVec 32 ← k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v47
    let v120 : FVec F S1x192x256 .f32 ← k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v83 c0_i32_48
    Prog.lift (.store arg15 (Rect.unit (s := S20x192x256) (k0_off11 i 3#32) S1x192x256.size (k0_off11_inb i v0 k0_hw1 k0_h3 3)) v120 Finset.univ (View.stores_vmem_bits_univ h_S1x192x256 rfl) (.inl rfl))
    pure ⟨⟩
  else do
    pure ⟨⟩

set_option maxHeartbeats 4000000 in
/-- The fourth: the last point rounds the accumulator to the result. -/
noncomputable def regD (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) :
    Prog (TpuEff nD τ sig (Elt F) Λ₀ .tc) PUnit := do
  let arg0 : BitVec 32 := BitVec.ofNat 32 (i 0).val
  let arg1 : BitVec 32 := BitVec.ofNat 32 (i 1).val
  if k0_h4 : k0_cond4 i = 1#1 then do
    k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v92 : Vec F S1x192x256 .f32 ← Prog.lift (.load arg15 (Rect.unit (s := S20x192x256) ![18, 0, 0] S1x192x256.size inb_S20x192x256_S1x192x256_18_0_0).toLoadRect (View.loadsAt_vmem h_S1x192x256))
    let v95 : Vec F S192x256 .bf16 ← Prog.lift (.load arg14 (Rect.unit (s := S192x5120) ![0, 4608] S192x256.size inb_S192x5120_S192x256_0_4608).toLoadRect (View.loadsAt_vmem h_S192x256))
    Prog.lift (.store arg14 (Rect.unit (s := S192x5120) ![0, 4608] S192x256.size inb_S192x5120_S192x256_0_4608) (k0_pay5 v92) Finset.univ (View.stores_vmem h_S192x256 (harg14.storeExact_slice rfl _ packedbf16_S192x5120_S192x256_0_4608) (fun _ => rfl)) (.inl rfl))
    let v96 : Vec F S1x192x256 .f32 ← Prog.lift (.load arg15 (Rect.unit (s := S20x192x256) ![19, 0, 0] S1x192x256.size inb_S20x192x256_S1x192x256_19_0_0).toLoadRect (View.loadsAt_vmem h_S1x192x256))
    let v99 : Vec F S192x256 .bf16 ← Prog.lift (.load arg14 (Rect.unit (s := S192x5120) ![0, 4864] S192x256.size inb_S192x5120_S192x256_0_4864).toLoadRect (View.loadsAt_vmem h_S192x256))
    Prog.lift (.store arg14 (Rect.unit (s := S192x5120) ![0, 4864] S192x256.size inb_S192x5120_S192x256_0_4864) (k0_pay6 v96) Finset.univ (View.stores_vmem h_S192x256 (harg14.storeExact_slice rfl _ packedbf16_S192x5120_S192x256_0_4864) (fun _ => rfl)) (.inl rfl))
    pure ⟨⟩
  else do
    pure ⟨⟩

/-- What follows a branch may be moved into it. -/
theorem dite_then {p : Prop} [Decidable p] {E : Type → Type} {α β : Type} (f : p → Prog E α) (g : ¬ p → Prog E α) (k : α → Prog E β) :
    (dite p f g >>= k) = dite p (fun h => f h >>= k) (fun h => g h >>= k) := by
  by_cases h : p <;> simp [h]

set_option maxHeartbeats 4000000 in
/-- The kernel's body is the four regions, one after another. -/
theorem skel_eq (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole):
    cc0_nf4_moe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (do
      let v0 : Elt F .i32 ← smemLoad arg3 (Rect.unit (s := S1) ![0] S1.size inb_S1_S1_0) numel1_S1 rfl
      have k0_hw1 : k0_chk1 i v0 := (← Prog.lift (TpuEff.assume (k0_chk1 i v0) (k0_chk1.dec i v0))).down
      regA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      regB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1
      regC i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1
      regD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  rw [cc0_nf4_moe_eq_skeleton]
  simp only [cc0_nf4_moe_skel, regA, regB, regC, regD, dite_then, bind_assoc, bind_pure, pure_bind]

/-- A buffer the core owns whole, at some contents. -/
abbrev own (c : Dev nD) {sp : Space} {s : Shape} {e : EltTy} (M : Memref sig .tc sp s e) : sProp 𝕄 :=
  iprop(∃ d, owns (c : Thread nD τ) M fullShare d)

end Cert.KernelIdeal.Hand

end
-- ==== Proof.KernelIdealRunA.lean ====
/-
  The body of `KernelIdeal`'s kernel : region A runs and hands its buffers back.
-/
module

public import proofs.«01_k».proof.Proof.KernelIdealRegions
public import proofs.«01_k».proof.Proof.Gen.KernelIdeal.Launch
public import Idealize.ShloMosaic.Lib.Pipeline.Frame
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 40000000 in
theorem regA_run (c : Dev nD) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole)(K : PUnit → sProp 𝕄) :
    iprop(own c arg15 ∗ (iprop(own c arg15) -∗ K ⟨⟩))
      ⊢ wp frame (wpE (defs₀ (F := F)) Variants.none c none) Set.univ (regA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold regA own owns
  iintro ⟨⟨%d15, %f15, -, H15⟩, Hk⟩
  by_cases h : Scalar.cmpi .ne (Scalar.extui (Scalar.andi (Scalar.cmpi .eq (BitVec.ofNat 32 (i 0).val) 0#32) (Scalar.cmpi .eq (BitVec.ofNat 32 (i 1).val) 0#32)) : BitVec 32) 0#32 = 1#1
  · sl_exec (disch := exact h)
    sl_step
    iapply Hk
    iexists _, _; isplitr; swap; · iexact H15
    ipureintro; rfl
  · sl_exec (disch := exact h)
    sl_step
    iapply Hk
    iexists _, _; isplitr; swap; · iexact H15
    ipureintro; rfl

end Cert.KernelIdeal.Hand

end
-- ==== Proof.KernelIdealRunB.lean ====
/-
  The body of `KernelIdeal`'s kernel : region B runs and hands its buffers back.
-/
module

public import proofs.«01_k».proof.Proof.KernelIdealRegions
public import proofs.«01_k».proof.Proof.Gen.KernelIdeal.Launch
public import Idealize.ShloMosaic.Lib.Pipeline.Frame
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 40000000 in
theorem regB_run (c : Dev nD) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole)(v0 : Elt F .i32) (k0_hw1 : k0_chk1 i v0) (K : PUnit → sProp 𝕄) :
    iprop(own c arg4 ∗ own c arg6 ∗ own c arg7 ∗ own c arg8 ∗ own c arg9 ∗ own c arg10 ∗ own c arg11 ∗ own c arg16 ∗ own c arg17 ∗ own c arg18 ∗ (iprop(own c arg4 ∗ own c arg6 ∗ own c arg7 ∗ own c arg8 ∗ own c arg9 ∗ own c arg10 ∗ own c arg11 ∗ own c arg16 ∗ own c arg17 ∗ own c arg18) -∗ K ⟨⟩))
      ⊢ wp frame (wpE (defs₀ (F := F)) Variants.none c none) Set.univ (regB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1) K := by
  unfold regB own owns
  iintro ⟨⟨%d4, %f4, -, H4⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d16, %f16, -, H16⟩, ⟨%d17, %f17, -, H17⟩, ⟨%d18, %f18, -, H18⟩, Hk⟩
  by_cases h : k0_cond2 i v0 = 1#1
  · sl_exec (disch := exact h)
    sl_step
    iapply Hk
    isplitl [H4]
    · iexists _, _; isplitr; swap; · iexact H4
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl
  · sl_exec (disch := exact h)
    sl_step
    iapply Hk
    isplitl [H4]
    · iexists _, _; isplitr; swap; · iexact H4
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Cert.KernelIdeal.Hand

end
-- ==== Proof.KernelIdealRunC.lean ====
/-
  The body of `KernelIdeal`'s kernel : region C runs and hands its buffers back.
-/
module

public import proofs.«01_k».proof.Proof.KernelIdealRegions
public import proofs.«01_k».proof.Proof.Gen.KernelIdeal.Launch
public import Idealize.ShloMosaic.Lib.Pipeline.Frame
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 40000000 in
theorem regC_run (c : Dev nD) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole)(v0 : Elt F .i32) (k0_hw1 : k0_chk1 i v0) (K : PUnit → sProp 𝕄) :
    iprop(own c arg5 ∗ own c arg7 ∗ own c arg12 ∗ own c arg13 ∗ own c arg15 ∗ own c arg16 ∗ own c arg19 ∗ (iprop(own c arg5 ∗ own c arg7 ∗ own c arg12 ∗ own c arg13 ∗ own c arg15 ∗ own c arg16 ∗ own c arg19) -∗ K ⟨⟩))
      ⊢ wp frame (wpE (defs₀ (F := F)) Variants.none c none) Set.univ (regC i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1) K := by
  unfold regC own owns
  iintro ⟨⟨%d5, %f5, -, H5⟩, ⟨%d7, %f7, -, H7⟩, ⟨%d12, %f12, -, H12⟩, ⟨%d13, %f13, -, H13⟩, ⟨%d15, %f15, -, H15⟩, ⟨%d16, %f16, -, H16⟩, ⟨%d19, %f19, -, H19⟩, Hk⟩
  by_cases h : k0_cond3 i v0 = 1#1
  · have h4 := step_ge i v0 h
    letI c0 : ClosedOff (k0_off11 i 0#32) := ⟨![4 * ((i 1).val - 4) + 0, 0, 0], off11_form i 0 h4⟩
    letI c1 : ClosedOff (k0_off11 i 1#32) := ⟨![4 * ((i 1).val - 4) + 1, 0, 0], off11_form i 1 h4⟩
    letI c2 : ClosedOff (k0_off11 i 2#32) := ⟨![4 * ((i 1).val - 4) + 2, 0, 0], off11_form i 2 h4⟩
    letI c3 : ClosedOff (k0_off11 i 3#32) := ⟨![4 * ((i 1).val - 4) + 3, 0, 0], off11_form i 3 h4⟩
    sl_exec (disch := exact h)
    sl_step
    iapply Hk
    isplitl [H5]
    · iexists _, _; isplitr; swap; · iexact H5
      ipureintro; rfl
    isplitl [H7]
    · iexists _, _; isplitr; swap; · iexact H7
      ipureintro; rfl
    isplitl [H12]
    · iexists _, _; isplitr; swap; · iexact H12
      ipureintro; rfl
    isplitl [H13]
    · iexists _, _; isplitr; swap; · iexact H13
      ipureintro; rfl
    isplitl [H15]
    · iexists _, _; isplitr; swap; · iexact H15
      ipureintro; rfl
    isplitl [H16]
    · iexists _, _; isplitr; swap; · iexact H16
      ipureintro; rfl
    iexists _, _; isplitr; swap; · iexact H19
    ipureintro; rfl
  · sl_exec (disch := exact h)
    sl_step
    iapply Hk
    isplitl [H5]
    · iexists _, _; isplitr; swap; · iexact H5
      ipureintro; rfl
    isplitl [H7]
    · iexists _, _; isplitr; swap; · iexact H7
      ipureintro; rfl
    isplitl [H12]
    · iexists _, _; isplitr; swap; · iexact H12
      ipureintro; rfl
    isplitl [H13]
    · iexists _, _; isplitr; swap; · iexact H13
      ipureintro; rfl
    isplitl [H15]
    · iexists _, _; isplitr; swap; · iexact H15
      ipureintro; rfl
    isplitl [H16]
    · iexists _, _; isplitr; swap; · iexact H16
      ipureintro; rfl
    iexists _, _; isplitr; swap; · iexact H19
    ipureintro; rfl

end Cert.KernelIdeal.Hand

end
-- ==== Proof.KernelIdealRunD.lean ====
/-
  The body of `KernelIdeal`'s kernel : region D runs and hands its buffers back.
-/
module

public import proofs.«01_k».proof.Proof.KernelIdealRegions
public import proofs.«01_k».proof.Proof.Gen.KernelIdeal.Launch
public import Idealize.ShloMosaic.Lib.Pipeline.Frame
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 40000000 in
theorem regD_run (c : Dev nD) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole)(K : PUnit → sProp 𝕄) :
    iprop(own c arg14 ∗ own c arg15 ∗ (iprop(own c arg14 ∗ own c arg15) -∗ K ⟨⟩))
      ⊢ wp frame (wpE (defs₀ (F := F)) Variants.none c none) Set.univ (regD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold regD own owns
  iintro ⟨⟨%d14, %f14, -, H14⟩, ⟨%d15, %f15, -, H15⟩, Hk⟩
  by_cases h : k0_cond4 i = 1#1
  · sl_exec (disch := exact h)
    sl_step
    iapply Hk
    isplitl [H14]
    · iexists _, _; isplitr; swap; · iexact H14
      ipureintro; rfl
    iexists _, _; isplitr; swap; · iexact H15
    ipureintro; rfl
  · sl_exec (disch := exact h)
    sl_step
    iapply Hk
    isplitl [H14]
    · iexists _, _; isplitr; swap; · iexact H14
      ipureintro; rfl
    iexists _, _; isplitr; swap; · iexact H15
    ipureintro; rfl

end Cert.KernelIdeal.Hand

end
-- ==== Proof.KernelIdealBody.lean ====
/-
  The body of `KernelIdeal`'s kernel whole: it runs from any contents of its buffers and hands them back.
-/
module

public import proofs.«01_k».proof.Proof.KernelIdealRunA
public import proofs.«01_k».proof.Proof.KernelIdealRunB
public import proofs.«01_k».proof.Proof.KernelIdealRunC
public import proofs.«01_k».proof.Proof.KernelIdealRunD
public import proofs.«01_k».proof.Proof.Gen.KernelIdeal.Launch
public import Idealize.ShloMosaic.Lib.Pipeline.Frame
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- The table that holds the number of active experts, as the kernel is handed it. -/
abbrev T3 : Memref sig .tc .smem S1 .i32 := Memref.whole main_v22
abbrev hT3 : (T3).IsWhole := Memref.isWhole_whole _

/-- The half of a prefetched table that the body reads. -/
abbrev tbPt (c : Dev nD) {sp : Space} {S : Shape} {e : EltTy} (M : Memref sig .tc sp S e) (f : Buf (Elt F) (M.view.loc (c : Thread nD τ))) : sProp 𝕄 :=
  M.view.loc (c : Thread nD τ) ↦{fullShare.right} f

/-- The number of active experts, read from its table. -/
abbrev nactOf (c : Dev nD) (ft : Buf (Elt F) ((T3).view.loc (c : Thread nD τ))) : Elt F .i32 :=
  (View.whole main_v22).readAt (Elt F) (Rect.unit (s := S1) ![0] S1.size inb_S1_S1_0) ft (Shape.Idx.first (numel1_S1 ▸ Nat.one_pos))

/-- Reading the table yields the number of active experts. -/
theorem head_run (c : Dev nD) (ft : Buf (Elt F) ((T3).view.loc (c : Thread nD τ))) (K : Elt F .i32 → sProp 𝕄) :
    iprop(tbPt c T3 ft ∗ (tbPt c T3 ft -∗ K (nactOf c ft)))
      ⊢ wp frame (wpE (defs₀ (F := F)) Variants.none c none) Set.univ
          (smemLoad T3 (Rect.unit (s := S1) ![0] S1.size inb_S1_S1_0) numel1_S1 rfl) K := by
  iintro ⟨HT, Hk⟩
  sl_exec
  sl_step
  iapply Hk
  iexact HT

/-- A side condition that holds is passed. -/
theorem assume_run (c : Dev nD) (P : Prop) [d : Decidable P] (h : P) (K : PLift P → sProp 𝕄) :
    K ⟨h⟩ ⊢ wp frame (wpE (defs₀ (F := F)) Variants.none c none) Set.univ (Prog.lift (TpuEff.assume P d)) K := by
  iintro Hk
  sl_exec (disch := exact h)
  sl_step
  iexact Hk

set_option maxHeartbeats 40000000 in
/-- The whole body: from any contents of its buffers it runs and hands them back. -/
theorem body_run (c : Dev nD) (i : grid0.Coords) (arg2 : Memref sig .tc .smem S8 .i32) (harg2 : arg2.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole)(ft : Buf (Elt F) ((T3).view.loc (c : Thread nD τ))) (K : PUnit → sProp 𝕄) :
    iprop(tbPt c T3 ft ∗ own c arg4 ∗ own c arg5 ∗ own c arg6 ∗ own c arg7 ∗ own c arg8 ∗ own c arg9 ∗ own c arg10 ∗ own c arg11 ∗ own c arg12 ∗ own c arg13 ∗ own c arg14 ∗ own c arg15 ∗ own c arg16 ∗ own c arg17 ∗ own c arg18 ∗ own c arg19 ∗ (iprop(tbPt c T3 ft ∗ own c arg4 ∗ own c arg5 ∗ own c arg6 ∗ own c arg7 ∗ own c arg8 ∗ own c arg9 ∗ own c arg10 ∗ own c arg11 ∗ own c arg12 ∗ own c arg13 ∗ own c arg14 ∗ own c arg15 ∗ own c arg16 ∗ own c arg17 ∗ own c arg18 ∗ own c arg19) -∗ K ⟨⟩))
      ⊢ wp frame (wpE (defs₀ (F := F)) Variants.none c none) Set.univ (cc0_nf4_moe i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [skel_eq]
  iintro ⟨HT, H4, H5, H6, H7, H8, H9, H10, H11, H12, H13, H14, H15, H16, H17, H18, H19, Hk⟩
  rw [wp_bind]
  iapply (head_run c ft _)
  isplitl [HT]; · iexact HT
  iintro HT
  rw [wp_bind]
  iapply (assume_run c (k0_chk1 i _) (chk1 i _) _)
  rw [wp_bind]
  iapply (regA_run c i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _)
  isplitl [H15]; · iexact H15
  iintro H15
  rw [wp_bind]
  iapply (regB_run c i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ (chk1 i _) _)
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H16]; · iexact H16
  isplitl [H17]; · iexact H17
  isplitl [H18]; · iexact H18
  iintro ⟨H4, H6, H7, H8, H9, H10, H11, H16, H17, H18⟩
  rw [wp_bind]
  iapply (regC_run c i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ (chk1 i _) _)
  isplitl [H5]; · iexact H5
  isplitl [H7]; · iexact H7
  isplitl [H12]; · iexact H12
  isplitl [H13]; · iexact H13
  isplitl [H15]; · iexact H15
  isplitl [H16]; · iexact H16
  isplitl [H19]; · iexact H19
  iintro ⟨H5, H7, H12, H13, H15, H16, H19⟩
  iapply (regD_run c i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _)
  isplitl [H14]; · iexact H14
  isplitl [H15]; · iexact H15
  iintro ⟨H14, H15⟩
  iapply Hk
  isplitl [HT]; · iexact HT
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

end Cert.KernelIdeal.Hand

end
-- ==== Proof.KernelIdealTables.lean ====
/-
  The buffers of `KernelIdeal`'s program when its kernel is entered, and the tables of expert numbers among them.
-/
module

public import Idealize.ShloMosaic.Lib.StableHlo.RunRead
public import proofs.«01_k».proof.Proof.Gen.KernelIdeal.Launch
public import Idealize.ShloMosaic.Lib.Pipeline.Frame
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (m : (ℓ : Loc nD τ sig) → Buf (Elt F) ℓ) (c : Dev nD)

/-- The program's host operations, line by line. -/
abbrev hostLines : List (List (HloOp τ sig (Elt F))) :=
  [hostOps0, hostOps0_1, hostOps0_2, hostOps0_3, hostOps0_4, hostOps0_5, hostOps0_6, hostOps0_7, hostOps0_8]

/-- What each buffer holds when the kernel is entered. -/
def V (b : Ref sig .tc) : Buf (Elt F) ((c : Thread nD τ).loc b) :=
  StableHlo.after hostLines.flatten (fun b => m (c, b)) b

/-- An entry gathered from the sorted expert numbers is an expert number. -/
theorem gathered_lt (x : IVec S8 1) (idx : IVec S8x1 32) (j : S8.Idx) :
    (Host.gather gather_S8_S8x1_S8_n_0_n_n_0_1_1 (Host.sort2 S8 0 comparator_i1_i32_d0 x (iotaInDim S8 32 0)).2 idx j).toNat < 8 := by
  have h : ∃ k : S8.Idx, Host.gather gather_S8_S8x1_S8_n_0_n_n_0_1_1 (Host.sort2 S8 0 comparator_i1_i32_d0 x (iotaInDim S8 32 0)).2 idx j
      = (BitVec.ofNat 32 (k 0).val) := ⟨_, rfl⟩
  obtain ⟨k, hk⟩ := h
  have hk0 : (k 0).val < 8 := (k 0).isLt
  rw [hk, BitVec.toNat_ofNat]
  omega

set_option maxHeartbeats 4000000 in
/-- The order table holds expert numbers. -/
theorem order_lt (j : S8.Idx) : ((V m c main_v35 : S8.Idx → BitVec 32) j).toNat < 8 := by
  unfold V
  after_reads_simp
  exact gathered_lt _ _ j

/-! ## The tables admit the pipeline's blocks -/

/-- A gate/up step's block number, whatever the condition: at most three. -/
theorem gate_block_le : ∀ (b : BitVec 1) (s : Fin 9),
    (Scalar.select b (Scalar.minsi (BitVec.ofNat 32 s.val) 3#32) 3#32 : BitVec 32).toNat ≤ 3 := by decide
/-- A down step's: at most four. -/
theorem down_block_le : ∀ (b : BitVec 1) (s : Fin 9),
    (Scalar.select b (Scalar.maxsi (Scalar.subi (BitVec.ofNat 32 s.val) 4#32) 0#32) 4#32 : BitVec 32).toNat ≤ 4 := by decide

/-- Where the order table holds expert numbers, every block the pipeline moves lies inside its array, in whole words. -/
theorem ok0_of (pf : pre0.Contents (Elt F)) (h : ∀ j : S8.Idx, ((pf 0 : S8.Idx → BitVec 32) j).toNat < 8) : ok0 pf := by
  have e (i : grid0.Coords) : (pf.at 0 (Rect.unit (s := S8) ![(Scalar.indexCast (BitVec.ofNat 32 (i 0).val) : Index).toNat] S1.size (k0_off1_inb i)) numel1_S1 : BitVec 32).toNat < 8 := h _
  refine ⟨fun i => ⟨?_, .inl rfl⟩, fun i => ⟨?_, .inr (.inl (.inr ⟨by decide, rfl, .inl ⟨?_, ⟨64, rfl⟩⟩⟩))⟩,
    fun i => ⟨?_, .inl rfl⟩, fun i => ⟨?_, .inr (.inl (.inr ⟨by decide, rfl, .inl ⟨?_, ⟨64, rfl⟩⟩⟩))⟩,
    fun i => ⟨?_, .inl rfl⟩, fun i => ⟨?_, .inr (.inl (.inr ⟨by decide, rfl, .inl ⟨?_, ⟨256, rfl⟩⟩⟩))⟩, fun i => ⟨?_, .inl rfl⟩⟩
  all_goals have h0 := e i
  · intro a
    match a with
    | 0 => exact Nat.le_trans (Nat.le_of_eq (Nat.mul_one _)) h0
    | 1 => exact le_refl 192
    | 2 => exact le_refl 2
  · intro a
    match a with
    | 0 => exact Nat.le_trans (Nat.le_of_eq (Nat.mul_one _)) h0
    | 1 => exact Nat.mul_le_mul_right 256 (Nat.succ_le_succ (gate_block_le _ (i 1)))
    | 2 => exact le_refl 2560
  · exact Dvd.dvd.mul_left (⟨64, rfl⟩ : 4 ∣ 256) _
  · intro a
    match a with
    | 0 => exact Nat.le_trans (Nat.le_of_eq (Nat.mul_one _)) h0
    | 1 => exact le_refl 80
    | 2 => exact Nat.mul_le_mul_right 256 (Nat.succ_le_succ (gate_block_le _ (i 1)))
  · intro a
    match a with
    | 0 => exact Nat.le_trans (Nat.le_of_eq (Nat.mul_one _)) h0
    | 1 => exact Nat.mul_le_mul_right 256 (Nat.succ_le_succ (gate_block_le _ (i 1)))
    | 2 => exact le_refl 2560
  · exact Dvd.dvd.mul_left (⟨64, rfl⟩ : 4 ∣ 256) _
  · intro a
    match a with
    | 0 => exact Nat.le_trans (Nat.le_of_eq (Nat.mul_one _)) h0
    | 1 => exact le_refl 80
    | 2 => exact Nat.mul_le_mul_right 256 (Nat.succ_le_succ (gate_block_le _ (i 1)))
  · intro a
    match a with
    | 0 => exact Nat.le_trans (Nat.le_of_eq (Nat.mul_one _)) h0
    | 1 => exact Nat.mul_le_mul_right 1024 (Nat.succ_le_succ (down_block_le _ (i 1)))
    | 2 => exact le_refl 512
  · exact Dvd.dvd.mul_left (⟨256, rfl⟩ : 4 ∣ 1024) _
  · intro a
    match a with
    | 0 => exact Nat.le_trans (Nat.le_of_eq (Nat.mul_one _)) h0
    | 1 => exact le_refl 16
    | 2 => exact Nat.mul_le_mul_right 1024 (Nat.succ_le_succ (down_block_le _ (i 1)))

/-- The tables' contents when the kernel is entered (there is one core). -/
def tables : pre0.Contents (Elt F) := fun k => V m (0 : Dev nD) (pre0.ref k)

/-- They are admissible. -/
def adm : (pcfg0 (F := F)).Adm := ⟨tables m, ok0_of (tables m) (order_lt m (0 : Dev nD))⟩

/-- On every core the tables hold these contents. -/
theorem tables_eq (k : Fin 2) : V m c (pre0.ref k) = (adm m).1 k := by
  have hc : c = (0 : Dev nD) := Subsingleton.elim _ _
  subst hc
  rfl

end Cert.KernelIdeal.Hand

end
-- ==== Proof.KernelIdealFrame.lean ====
/-
  The launch of `KernelIdeal`'s program, for any proof data of its pipeline, and its frame: it runs, and its arguments end as
  they began.
-/
module

public import proofs.«01_k».proof.Proof.KernelIdealBody
public import proofs.«01_k».proof.Proof.KernelIdealTables
public import proofs.«01_k».proof.Defs
public import Idealize.ShloMosaic.Lib.Quiescent
public import Idealize.ShloMosaic.Lib.Pipeline.FrameBody
public import proofs.«01_k».proof.Proof.Gen.KernelIdeal.Launch
public import Idealize.ShloMosaic.Lib.Pipeline.Frame
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The one pipeline's tables. -/
abbrev admOf : (p : Fin 1) → (pcfgs (F := F) p).Adm := fun _ => adm m

/-- The kernel's body as the pipeline calls it at a point of the grid. -/
abbrev bodyAt (t : Fin (cfg0 (adm m)).N) : Prog (TpuEff nD τ sig (Elt F) Λ₀ .tc) PUnit :=
  cc0_nf4_moe (grid0.coords t) (Memref.whole main_v35) (Memref.isWhole_whole _) (Memref.whole main_v22) (Memref.isWhole_whole _) (spec0_0.stage ((cfg0 (adm m)).slots t 0)) (hstage0_0 (((cfg0 (adm m)).slots t 0).cast nbuf0_0)) (spec0_1.stage ((cfg0 (adm m)).slots t 1)) (hstage0_1 (((cfg0 (adm m)).slots t 1).cast nbuf0_1)) (spec0_2.stage ((cfg0 (adm m)).slots t 2)) (hstage0_2 (((cfg0 (adm m)).slots t 2).cast nbuf0_2)) (spec0_3.stage ((cfg0 (adm m)).slots t 3)) (hstage0_3 (((cfg0 (adm m)).slots t 3).cast nbuf0_3)) (spec0_4.stage ((cfg0 (adm m)).slots t 4)) (hstage0_4 (((cfg0 (adm m)).slots t 4).cast nbuf0_4)) (spec0_5.stage ((cfg0 (adm m)).slots t 5)) (hstage0_5 (((cfg0 (adm m)).slots t 5).cast nbuf0_5)) (spec0_6.stage ((cfg0 (adm m)).slots t 6)) (hstage0_6 (((cfg0 (adm m)).slots t 6).cast nbuf0_6)) (spec0_7.stage ((cfg0 (adm m)).slots t 7)) (hstage0_7 (((cfg0 (adm m)).slots t 7).cast nbuf0_7)) (spec0_8.stage ((cfg0 (adm m)).slots t 8)) (hstage0_8 (((cfg0 (adm m)).slots t 8).cast nbuf0_8)) (spec0_9.stage ((cfg0 (adm m)).slots t 9)) (hstage0_9 (((cfg0 (adm m)).slots t 9).cast nbuf0_9)) (spec0_10.stage ((cfg0 (adm m)).slots t 10)) (hstage0_10 (((cfg0 (adm m)).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

/-- The body table's row at the point is the body. -/
theorem defs₀_row (t : Fin (cfg0 (adm m)).N) :
    defs₀ (F := F) .tc (cfg0 (adm m)).body ((cfg0 (adm m)).bodyArgs t ((cfg0 (adm m)).slots t)) = bodyAt m t := by
  unfold defs₀; rw [Defs.onTc_tc]

/-- The program up to its kernel: host operations only. -/
theorem hmain : Pipeline.HMainP (Ix := Unit) (Name := ℕ) (U := UR sig nD τ) (Lvl := ℕ) (pcfgs (F := F)) 0 defs₀ Variants.none m main (V m) :=
  Pipeline.hmainP_prefixes _ 0 defs₀ Variants.none m main hostLines
    ⟨hostOps0_sub, hostOps0_1_sub, hostOps0_2_sub, hostOps0_3_sub, hostOps0_4_sub, hostOps0_5_sub, hostOps0_6_sub, hostOps0_7_sub, hostOps0_8_sub⟩
    (by repeat' (first | exact rfl | exact True.intro | refine And.intro ?_ ?_))
    main_chain

/-- The scratch buffers and the generator register, at whatever they hold. -/
abbrev scrAny (c : Dev nD) : sProp 𝕄 :=
  iprop((own c (Memref.whole cc0_scratch0 : Memref sig .tc .vmem S20x192x256 .f32) ∗ own c (Memref.whole cc0_scratch1 : Memref sig .tc .vmem S4x192x256 .bf16)
    ∗ own c (Memref.whole cc0_scratch2 : Memref sig .tc .vmem S80x2x256 .bf16) ∗ own c (Memref.whole cc0_scratch3 : Memref sig .tc .vmem S80x2x256 .bf16) ∗ own c (Memref.whole cc0_scratch4 : Memref sig .tc .vmem S16x2x1024 .bf16)) ∗ ∃ r, prngReg c r)

theorem PhiA_eq (c : Dev nD) : (Pipeline.ΦA (U := UR sig nD τ) spec0 c : sProp 𝕄) = scrAny c := by
  unfold Pipeline.ΦA
  rw [scopedRest0_eq]
  simp only [scrAny, own, owns_whole]

/-- The halves of the two tables that the body may read. -/
theorem PhiT_eq (c : Dev nD) (v : pre0.Contents (Elt F)) :
    (Pipeline.ΦT (U := UR sig nD τ) pre0 v c : sProp 𝕄)
      = iprop(tbPt c (Memref.whole main_v35 : Memref sig .tc .smem S8 .i32) (v 0) ∗ tbPt c T3 (v 1)) := by
  unfold Pipeline.ΦT Pipeline.prefHeld
  rw [show (Finset.univ : Finset (Fin 2)) = insert 0 {1} from by decide, bigSep_insert (by decide), bigSep_singleton]
  rfl

set_option backward.isDefEq.respectTransparency.types false in
/-- The launch, for proof data that lend whole shares, owe nothing and start from the buffers at the kernel's entry. -/
theorem launch (rd : (c : Dev nD) → RDat τ (Elt F) Unit ℕ (UR sig nD τ) ℕ (cfg0 (adm m)) c)
    (hbody : ∀ c, (rd c).BodyObligation defs₀ Variants.none () Set.univ)
    (hshare : ∀ c w, (rd c).share w = fullShare) (howed : ∀ c t, (rd c).owed t = 0)
    (hA : ∀ c w, (rd c).A w = V m c (Pipeline.arrRef spec0 w))
    (hin : ∀ c, iprop(scrAny c ∗ tbPt c (Memref.whole main_v35 : Memref sig .tc .smem S8 .i32) (tables m 0) ∗ tbPt c T3 (tables m 1)) ⊢ (rd c).Φ 0)
    (hout : ∀ c, (rd c).Φ (Fin.last (cfg0 (adm m)).N) ⊢ scrAny c) :
    θ_run defs (onTc (τ := τ) (main (F := F))) (s₀ m ρ)
      (fun r => RDat.FramePost (cfg0 (adm m)) rd (V m) r ∧ r.2.sem = fun _ => 0) :=
  RDat.θ_run_frameP_track (Q' := _) pcfgs (admOf m) 0 launch0 defs₀ Variants.none rd m ρ main hbody hshare howed (V m)
    (hmain m) hA (fun c k => tables_eq m c k)
    (fun c => by
      show iprop(Pipeline.ΦA spec0 c ∗ Pipeline.ΦT pre0 (tables m) c) ⊢ _
      rw [PhiA_eq, PhiT_eq]
      exact hin c)
    (fun c => by
      show _ ⊢ Pipeline.ΦA spec0 c
      rw [PhiA_eq]
      exact hout c)

/-! ## The frame -/

/-- Proof data that say nothing of what the body leaves in its buffers. -/
def rdAny (c : Dev nD) : RDat τ (Elt F) Unit ℕ (UR sig nD τ) ℕ (cfg0 (adm m)) c where
  A w := V m c (Pipeline.arrRef spec0 w)
  after _ _ _ _ := True
  Φ _ := iprop(scrAny c ∗ tbPt c (Memref.whole main_v35 : Memref sig .tc .smem S8 .i32) (tables m 0) ∗ tbPt c T3 (tables m 1))
  q _ := fullShare
  owed _ := 0

abbrev winAny (c : Dev nD) (t : Fin (cfg0 (adm m)).N) : sProp 𝕄 :=
  iprop(own c (((cfg0 (adm m)).win 0).stage ((cfg0 (adm m)).slots t 0)) ∗ own c (((cfg0 (adm m)).win 1).stage ((cfg0 (adm m)).slots t 1)) ∗ own c (((cfg0 (adm m)).win 2).stage ((cfg0 (adm m)).slots t 2)) ∗ own c (((cfg0 (adm m)).win 3).stage ((cfg0 (adm m)).slots t 3)) ∗ own c (((cfg0 (adm m)).win 4).stage ((cfg0 (adm m)).slots t 4)) ∗ own c (((cfg0 (adm m)).win 5).stage ((cfg0 (adm m)).slots t 5)) ∗ own c (((cfg0 (adm m)).win 6).stage ((cfg0 (adm m)).slots t 6)) ∗ own c (((cfg0 (adm m)).win 7).stage ((cfg0 (adm m)).slots t 7)) ∗ own c (((cfg0 (adm m)).win 8).stage ((cfg0 (adm m)).slots t 8)) ∗ own c (((cfg0 (adm m)).win 9).stage ((cfg0 (adm m)).slots t 9)) ∗ own c (((cfg0 (adm m)).win 10).stage ((cfg0 (adm m)).slots t 10)))

/-- The body at a point, from any contents of its windows to any contents. -/
theorem sound_any (c : Dev nD) (t : Fin (cfg0 (adm m)).N) :
    iprop((rdAny m c).Φ t.castSucc ∗ (rdAny m c).owesAt () t.castSucc ∗ winAny m c t)
      ⊢ wp frame (wpE (defs₀ (F := F)) Variants.none c none) Set.univ (bodyAt m t)
          (fun _ => iprop((rdAny m c).Φ t.succ ∗ (rdAny m c).owesAt () t.succ ∗ winAny m c t)) := by
  rw [show (rdAny m c).Φ t.succ = (rdAny m c).Φ t.castSucc from rfl,
    show (rdAny m c).owesAt () t.succ = (rdAny m c).owesAt () t.castSucc from rfl]
  unfold rdAny scrAny
  iintro ⟨⟨⟨⟨HA, HH, HG, HU, HD⟩, Hp⟩, HO, HT⟩, HW, ⟨W0, W1, W2, W3, W4, W5, W6, W7, W8, W9, W10⟩⟩
  iapply (body_run c (grid0.coords t) (Memref.whole main_v35) (Memref.isWhole_whole _) (spec0_0.stage ((cfg0 (adm m)).slots t 0)) (hstage0_0 (((cfg0 (adm m)).slots t 0).cast nbuf0_0)) (spec0_1.stage ((cfg0 (adm m)).slots t 1)) (hstage0_1 (((cfg0 (adm m)).slots t 1).cast nbuf0_1)) (spec0_2.stage ((cfg0 (adm m)).slots t 2)) (hstage0_2 (((cfg0 (adm m)).slots t 2).cast nbuf0_2)) (spec0_3.stage ((cfg0 (adm m)).slots t 3)) (hstage0_3 (((cfg0 (adm m)).slots t 3).cast nbuf0_3)) (spec0_4.stage ((cfg0 (adm m)).slots t 4)) (hstage0_4 (((cfg0 (adm m)).slots t 4).cast nbuf0_4)) (spec0_5.stage ((cfg0 (adm m)).slots t 5)) (hstage0_5 (((cfg0 (adm m)).slots t 5).cast nbuf0_5)) (spec0_6.stage ((cfg0 (adm m)).slots t 6)) (hstage0_6 (((cfg0 (adm m)).slots t 6).cast nbuf0_6)) (spec0_7.stage ((cfg0 (adm m)).slots t 7)) (hstage0_7 (((cfg0 (adm m)).slots t 7).cast nbuf0_7)) (spec0_8.stage ((cfg0 (adm m)).slots t 8)) (hstage0_8 (((cfg0 (adm m)).slots t 8).cast nbuf0_8)) (spec0_9.stage ((cfg0 (adm m)).slots t 9)) (hstage0_9 (((cfg0 (adm m)).slots t 9).cast nbuf0_9)) (spec0_10.stage ((cfg0 (adm m)).slots t 10)) (hstage0_10 (((cfg0 (adm m)).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) _ _)
  isplitl [HT]; · iexact HT
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [HA]; · iexact HA
  isplitl [HH]; · iexact HH
  isplitl [HG]; · iexact HG
  isplitl [HU]; · iexact HU
  isplitl [HD]; · iexact HD
  iintro ⟨HT, W0, W1, W2, W3, W4, W5, W6, W7, W8, W9, W10, HA, HH, HG, HU, HD⟩
  isplitl [HA HH HG HU HD Hp HO HT]
  · isplitl [HA HH HG HU HD Hp]
    · isplitl [HA HH HG HU HD]
      · isplitl [HA]; · iexact HA
        isplitl [HH]; · iexact HH
        isplitl [HG]; · iexact HG
        isplitl [HU]; · iexact HU
        iexact HD
      iexact Hp
    isplitl [HO]; · iexact HO
    iexact HT
  isplitl [HW]; · iexact HW
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  iexact W10

/-- The body obligation. -/
theorem body_any (c : Dev nD) : (rdAny m c).BodyObligation (defs₀ (F := F)) Variants.none () Set.univ := fun t Y _ => by
  rw [bigSep_W0, bigSep_W0, defs₀_row]
  refine triple_restated (sound_any m c t) rfl ?_ fun _ => ?_
  · iintro ⟨HF, HW, ⟨W0, W1, W2, W3, W4, W5, W6, W7, W8, W9, W10⟩⟩
    isplitl [HF]; · iexact HF
    isplitl [HW]; · iexact HW
    isplitl [W0]; · iexists _; iexact W0
    isplitl [W1]; · iexists _; iexact W1
    isplitl [W2]; · iexists _; iexact W2
    isplitl [W3]; · iexists _; iexact W3
    isplitl [W4]; · iexists _; iexact W4
    isplitl [W5]; · iexists _; iexact W5
    isplitl [W6]; · iexists _; iexact W6
    isplitl [W7]; · iexists _; iexact W7
    isplitl [W8]; · iexists _; iexact W8
    isplitl [W9]; · iexists _; iexact W9
    iexists _; iexact W10
  · iintro ⟨HF, HW, ⟨⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩⟩⟩
    isplitl [HF]; · iexact HF
    isplitl [HW]; · iexact HW
    isplitl [W0]; · iexists _; isplitr; swap; · iexact W0
                    ipureintro; trivial
    isplitl [W1]; · iexists _; isplitr; swap; · iexact W1
                    ipureintro; trivial
    isplitl [W2]; · iexists _; isplitr; swap; · iexact W2
                    ipureintro; trivial
    isplitl [W3]; · iexists _; isplitr; swap; · iexact W3
                    ipureintro; trivial
    isplitl [W4]; · iexists _; isplitr; swap; · iexact W4
                    ipureintro; trivial
    isplitl [W5]; · iexists _; isplitr; swap; · iexact W5
                    ipureintro; trivial
    isplitl [W6]; · iexists _; isplitr; swap; · iexact W6
                    ipureintro; trivial
    isplitl [W7]; · iexists _; isplitr; swap; · iexact W7
                    ipureintro; trivial
    isplitl [W8]; · iexists _; isplitr; swap; · iexact W8
                    ipureintro; trivial
    isplitl [W9]; · iexists _; isplitr; swap; · iexact W9
                    ipureintro; trivial
    iexists _; isplitr; swap; · iexact W10
    ipureintro; trivial

/-- The program runs, saying nothing of its result. -/
theorem run_any :
    θ_run defs (onTc (τ := τ) (main (F := F))) (s₀ m ρ)
      (fun r => RDat.FramePost (cfg0 (adm m)) (rdAny m) (V m) r ∧ r.2.sem = fun _ => 0) :=
  launch m ρ (rdAny m) (body_any m) (fun c => (rdAny m c).share_full fun _ => rfl) (fun _ _ => rfl) (fun _ _ => rfl)
    (fun _ => .rfl) (fun c => by
      unfold rdAny
      iintro ⟨H, -⟩
      iexact H)

set_option maxHeartbeats 4000000 in
theorem V_arg0 (c : Dev nD) : V m c main_arg0 = m ((c : Thread nD τ).loc main_arg0) := by
  unfold V; after_reads_simp
set_option maxHeartbeats 4000000 in
theorem V_arg1 (c : Dev nD) : V m c main_arg1 = m ((c : Thread nD τ).loc main_arg1) := by
  unfold V; after_reads_simp
set_option maxHeartbeats 4000000 in
theorem V_arg2 (c : Dev nD) : V m c main_arg2 = m ((c : Thread nD τ).loc main_arg2) := by
  unfold V; after_reads_simp
set_option maxHeartbeats 4000000 in
theorem V_arg3 (c : Dev nD) : V m c main_arg3 = m ((c : Thread nD τ).loc main_arg3) := by
  unfold V; after_reads_simp
set_option maxHeartbeats 4000000 in
theorem V_arg4 (c : Dev nD) : V m c main_arg4 = m ((c : Thread nD τ).loc main_arg4) := by
  unfold V; after_reads_simp
set_option maxHeartbeats 4000000 in
theorem V_arg5 (c : Dev nD) : V m c main_arg5 = m ((c : Thread nD τ).loc main_arg5) := by
  unfold V; after_reads_simp
set_option maxHeartbeats 4000000 in
theorem V_arg6 (c : Dev nD) : V m c main_arg6 = m ((c : Thread nD τ).loc main_arg6) := by
  unfold V; after_reads_simp
set_option maxHeartbeats 4000000 in
theorem V_arg7 (c : Dev nD) : V m c main_arg7 = m ((c : Thread nD τ).loc main_arg7) := by
  unfold V; after_reads_simp
set_option maxHeartbeats 4000000 in
theorem V_arg8 (c : Dev nD) : V m c main_arg8 = m ((c : Thread nD τ).loc main_arg8) := by
  unfold V; after_reads_simp

variable {m ρ}

/-- After the run the arguments are unchanged. -/
theorem args_unchanged {rd : (c : Dev nD) → RDat τ (Elt F) Unit ℕ (UR sig nD τ) ℕ (cfg0 (adm m)) c} {r : PUnit × MemSt nD τ sig (Elt F)}
    (hA : ∀ c w, (rd c).A w = V m c (Pipeline.arrRef spec0 w)) (h : RDat.FramePost (cfg0 (adm m)) rd (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  ⟨((h c).2 main_arg0 (show main_arg0 ∈ Pipeline.restRefs sig spec0 from Pipeline.mem_restRefs_of main_arg0 (by decide) (by decide))).trans (V_arg0 m c),
   ((h c).2 main_arg1 (show main_arg1 ∈ Pipeline.restRefs sig spec0 from Pipeline.mem_restRefs_of main_arg1 (by decide) (by decide))).trans (V_arg1 m c),
   ((h c).2 main_arg2 (show main_arg2 ∈ Pipeline.restRefs sig spec0 from Pipeline.mem_restRefs_of main_arg2 (by decide) (by decide))).trans (V_arg2 m c),
   ((congrFun ((rd c).ArrAt_in 4 rfl _) _).mp ((h c).1 4)).trans ((hA c 4).trans (V_arg3 m c)),
   ((h c).2 main_arg4 (show main_arg4 ∈ Pipeline.restRefs sig spec0 from Pipeline.mem_restRefs_of main_arg4 (by decide) (by decide))).trans (V_arg4 m c),
   ((congrFun ((rd c).ArrAt_in 6 rfl _) _).mp ((h c).1 6)).trans ((hA c 6).trans (V_arg5 m c)),
   ((h c).2 main_arg6 (show main_arg6 ∈ Pipeline.restRefs sig spec0 from Pipeline.mem_restRefs_of main_arg6 (by decide) (by decide))).trans (V_arg6 m c),
   ((congrFun ((rd c).ArrAt_in 8 rfl _) _).mp ((h c).1 8)).trans ((hA c 8).trans (V_arg7 m c)),
   ((h c).2 main_arg8 (show main_arg8 ∈ Pipeline.restRefs sig spec0 from Pipeline.mem_restRefs_of main_arg8 (by decide) (by decide))).trans (V_arg8 m c)⟩

end Cert.KernelIdeal.Hand

end
-- ==== Proof.Frames.lean ====
/- The frames of the three programs and the ledger's statements.
   Each kernel's frame is the launch of its grid (KernelFrame, KernelIdealFrame) read at the nine argument arrays; the
   reference declares no semaphore, and its generated run leaves its arguments as they were. -/
module

public import proofs.«01_k».proof.Defs
public import proofs.«01_k».proof.Proof.KernelFrame
public import proofs.«01_k».proof.Proof.KernelIdealFrame
public import proofs.«01_k».proof.Proof.Gen.ReferenceIdeal.Run
public import Idealize.ShloMosaic.Lib.Bf16Pair
public import Idealize.ShloMosaic.Lib.Bf16PairInverse

@[expose] public section

noncomputable section

namespace Cert.Frames

open Idealize.ShloMosaic Idealize.SL.Sem

/-- The printed kernel leaves its nine arguments as they were, and every counter at zero. -/
theorem kernel : Cert.quiescent_Kernel := fun m ρ _ =>
  (θ_run _ _ _).mono (fun _ h => ⟨fun c => Cert.Kernel.Hand.args_unchanged (fun _ _ => rfl) h.1 c, h.2⟩)
    (Cert.Kernel.Hand.run_any m ρ)

/-- So does the idealized kernel. -/
theorem kernelIdeal : Cert.quiescent_KernelIdeal := fun m ρ _ =>
  (θ_run _ _ _).mono (fun _ h => ⟨fun c => Cert.KernelIdeal.Hand.args_unchanged (fun _ _ => rfl) h.1 c, h.2⟩)
    (Cert.KernelIdeal.Hand.run_any m ρ)

/-- So does the reference: its generated run says so of the arguments, and it declares no semaphore. -/
theorem referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ledger: two scratch shapes re-typed from words to pairs of bf16, and the sites that pack into them and read
    them. -/
theorem preserves : Cert.preserves_Kernel_KernelIdeal :=
  open Cert.KernelIdeal IdealRules.bf16_pair in
  ⟨bufferStatement S80x2x256 S80x1x256, bufferStatement S16x2x1024 S16x1x1024, packStatement S80x256,
    statement S80x2x256 S80x1x256, statement S1x2x128 S1x1x128, statement S2x128 S1x128, packStatement S16x1024,
    statement S16x2x1024 S16x1x1024⟩

end Cert.Frames

end
-- ==== Proof.Decode.lean ====
/-
  The decode of a packed tile, read at an element: which nibble of which byte, which entry of the table, which scale.
-/
module

public import proofs.«01_k».proof.Proof.Gen.KernelIdeal.Loops
public import Idealize.ShloMosaic.Lib.Tactic
public import Idealize.ShloMosaic.Lib.BitcastFour
public import Idealize.ShloMosaic.Lib.Pointwise
public import Idealize.ShloMosaic.PureOps.Ideal

@[expose] public section

set_option maxRecDepth 65536

noncomputable section

namespace Cert.KernelIdeal.Hand

open Cert.KernelIdeal Cert.KernelIdeal.Gen
open Idealize.ShloMosaic

variable {F : FTy → Type} [FloatOps F]

/-! ## The decode's steps, as the kernel writes them -/

/-- The high nibbles of a tile of bytes. -/
def nibHigh (v : IVec S32x128 8) : IVec S32x128 8 :=
  trunci 8 (shrui (extui 32 v natLt_8_32) (broadcast S32x128 4#32)) natLt_8_32
/-- The low nibbles. -/
def nibLow (v : IVec S32x128 8) : IVec S32x128 8 := andi v (broadcast S32x128 15#8)
/-- The table's bytes at a tile of nibbles. -/
def lookup (tab idx : IVec S32x128 8) : IVec S32x128 8 :=
  trunci 8 (dynamicGather 1 (extsi 32 tab natLt_8_32)
    (shapeCast S32x128 (shapeCast S32x128x1 (extsi 32 idx natLt_8_32) shapeCasts_S32x128_S32x128x1)
      shapeCasts_S32x128x1_S32x128)) natLt_8_32
/-- The values of the even byte rows, of the two byte planes. -/
def evenRows (lo hi : IVec S32x128 8) : FVec F S16x128 .bf16 :=
  bitcastToFloat .bf16 (bitcast S16x128 16
    (ori (andi (bitcast S8x128 32 lo bitcasts_S32x128_w8_S8x128_w32) (broadcast S8x128 16711935#32))
      (shli (andi (bitcast S8x128 32 hi bitcasts_S32x128_w8_S8x128_w32) (broadcast S8x128 16711935#32))
        (broadcast S8x128 8#32))) bitcasts_S8x128_w32_S16x128_w16)
/-- The values of the odd byte rows. -/
def oddRows (par : IVec S32x128 1) (lo hi : IVec S32x128 8) : FVec F S16x128 .bf16 :=
  bitcastToFloat .bf16 (bitcast S16x128 16 (bitcast S8x128 32 (select par hi
    (bitcast S32x128 8 (shrui (bitcast S8x128 32 lo bitcasts_S32x128_w8_S8x128_w32) (broadcast S8x128 8#32))
      bitcasts_S8x128_w32_S32x128_w8)) bitcasts_S32x128_w8_S8x128_w32) bitcasts_S8x128_w32_S16x128_w16)
/-- A row of scales, as a pair of equal rows, laid along sixteen rows. -/
def scaleRows (raw : Vec F S1x2x128 .bf16) : FVec F S16x128 .bf16 :=
  broadcastTo S16x128 (shapeCast S1x128 (extractStridedSlice S1x128 ![0, 0] (interleaveRows S2x128
    (shapeCast S1x128 (rowsOfParity 0 S1x1x128 raw bitcasts_S1x2x128_w16_S1x1x128_w32) shapeCasts_S1x1x128_S1x128)
    (shapeCast S1x128 (rowsOfParity 1 S1x1x128 raw bitcasts_S1x2x128_w16_S1x1x128_w32) shapeCasts_S1x1x128_S1x128)
    bitcasts_S2x128_w16_S1x128_w32) slices_S2x128_o0_0_S1x128) shapeCasts_S1x128_S1x128) broadcasts_S1x128_S16x128
/-- Half 0 of a tile of bytes, transposed. -/
def half0 (w : IVec S256x128 8) : IVec S128x128 8 :=
  transpose S128x128 [1, 0] (extractStridedSlice S128x128 ![0, 0] w slices_S256x128_o0_0_S128x128) transposes_S128x128_p1_0_S128x128
/-- Half 1 of a tile of bytes, transposed. -/
def half1 (w : IVec S256x128 8) : IVec S128x128 8 :=
  transpose S128x128 [1, 0] (extractStridedSlice S128x128 ![128, 0] w slices_S256x128_o128_0_S128x128) transposes_S128x128_p1_0_S128x128
/-- Byte rows 0 to 31 of a half. -/
def rows0 (v : IVec S128x128 8) : IVec S32x128 8 := extractStridedSlice S32x128 ![0, 0] v slices_S128x128_o0_0_S32x128
/-- Byte rows 32 to 63 of a half. -/
def rows1 (v : IVec S128x128 8) : IVec S32x128 8 := extractStridedSlice S32x128 ![32, 0] v slices_S128x128_o32_0_S32x128
/-- Byte rows 64 to 95 of a half. -/
def rows2 (v : IVec S128x128 8) : IVec S32x128 8 := extractStridedSlice S32x128 ![64, 0] v slices_S128x128_o64_0_S32x128
/-- Byte rows 96 to 127 of a half. -/
def rows3 (v : IVec S128x128 8) : IVec S32x128 8 := extractStridedSlice S32x128 ![96, 0] v slices_S128x128_o96_0_S32x128
/-- The whole tile: four quarters of four blocks of sixteen rows, each of two halves side by side. -/
def decodeTile (par : IVec S32x128 1) (lo hi : IVec S32x128 8) (w : IVec S256x128 8)
    (s : Fin 2 → Fin 4 → Vec F S1x2x128 .bf16) : FVec F S256x256 .bf16 :=
  concatenate S256x256 0 [
    ⟨S16x256, concatenate S16x256 1 [⟨S16x128, mulf (evenRows (lookup lo (nibHigh (rows0 (half0 w)))) (lookup hi (nibHigh (rows0 (half0 w))))) (scaleRows (s 0 0))⟩,
      ⟨S16x128, mulf (evenRows (lookup lo (nibHigh (rows0 (half1 w)))) (lookup hi (nibHigh (rows0 (half1 w))))) (scaleRows (s 1 0))⟩] concatenates_S16x128_S16x128_S16x256_d1⟩,
    ⟨S16x256, concatenate S16x256 1 [⟨S16x128, mulf (evenRows (lookup lo (nibHigh (rows1 (half0 w)))) (lookup hi (nibHigh (rows1 (half0 w))))) (scaleRows (s 0 1))⟩,
      ⟨S16x128, mulf (evenRows (lookup lo (nibHigh (rows1 (half1 w)))) (lookup hi (nibHigh (rows1 (half1 w))))) (scaleRows (s 1 1))⟩] concatenates_S16x128_S16x128_S16x256_d1⟩,
    ⟨S16x256, concatenate S16x256 1 [⟨S16x128, mulf (evenRows (lookup lo (nibHigh (rows2 (half0 w)))) (lookup hi (nibHigh (rows2 (half0 w))))) (scaleRows (s 0 2))⟩,
      ⟨S16x128, mulf (evenRows (lookup lo (nibHigh (rows2 (half1 w)))) (lookup hi (nibHigh (rows2 (half1 w))))) (scaleRows (s 1 2))⟩] concatenates_S16x128_S16x128_S16x256_d1⟩,
    ⟨S16x256, concatenate S16x256 1 [⟨S16x128, mulf (evenRows (lookup lo (nibHigh (rows3 (half0 w)))) (lookup hi (nibHigh (rows3 (half0 w))))) (scaleRows (s 0 3))⟩,
      ⟨S16x128, mulf (evenRows (lookup lo (nibHigh (rows3 (half1 w)))) (lookup hi (nibHigh (rows3 (half1 w))))) (scaleRows (s 1 3))⟩] concatenates_S16x128_S16x128_S16x256_d1⟩,
    ⟨S16x256, concatenate S16x256 1 [⟨S16x128, mulf (evenRows (lookup lo (nibLow (rows0 (half0 w)))) (lookup hi (nibLow (rows0 (half0 w))))) (scaleRows (s 0 0))⟩,
      ⟨S16x128, mulf (evenRows (lookup lo (nibLow (rows0 (half1 w)))) (lookup hi (nibLow (rows0 (half1 w))))) (scaleRows (s 1 0))⟩] concatenates_S16x128_S16x128_S16x256_d1⟩,
    ⟨S16x256, concatenate S16x256 1 [⟨S16x128, mulf (evenRows (lookup lo (nibLow (rows1 (half0 w)))) (lookup hi (nibLow (rows1 (half0 w))))) (scaleRows (s 0 1))⟩,
      ⟨S16x128, mulf (evenRows (lookup lo (nibLow (rows1 (half1 w)))) (lookup hi (nibLow (rows1 (half1 w))))) (scaleRows (s 1 1))⟩] concatenates_S16x128_S16x128_S16x256_d1⟩,
    ⟨S16x256, concatenate S16x256 1 [⟨S16x128, mulf (evenRows (lookup lo (nibLow (rows2 (half0 w)))) (lookup hi (nibLow (rows2 (half0 w))))) (scaleRows (s 0 2))⟩,
      ⟨S16x128, mulf (evenRows (lookup lo (nibLow (rows2 (half1 w)))) (lookup hi (nibLow (rows2 (half1 w))))) (scaleRows (s 1 2))⟩] concatenates_S16x128_S16x128_S16x256_d1⟩,
    ⟨S16x256, concatenate S16x256 1 [⟨S16x128, mulf (evenRows (lookup lo (nibLow (rows3 (half0 w)))) (lookup hi (nibLow (rows3 (half0 w))))) (scaleRows (s 0 3))⟩,
      ⟨S16x128, mulf (evenRows (lookup lo (nibLow (rows3 (half1 w)))) (lookup hi (nibLow (rows3 (half1 w))))) (scaleRows (s 1 3))⟩] concatenates_S16x128_S16x128_S16x256_d1⟩,
    ⟨S16x256, concatenate S16x256 1 [⟨S16x128, mulf (oddRows par (lookup lo (nibHigh (rows0 (half0 w)))) (lookup hi (nibHigh (rows0 (half0 w))))) (scaleRows (s 0 0))⟩,
      ⟨S16x128, mulf (oddRows par (lookup lo (nibHigh (rows0 (half1 w)))) (lookup hi (nibHigh (rows0 (half1 w))))) (scaleRows (s 1 0))⟩] concatenates_S16x128_S16x128_S16x256_d1⟩,
    ⟨S16x256, concatenate S16x256 1 [⟨S16x128, mulf (oddRows par (lookup lo (nibHigh (rows1 (half0 w)))) (lookup hi (nibHigh (rows1 (half0 w))))) (scaleRows (s 0 1))⟩,
      ⟨S16x128, mulf (oddRows par (lookup lo (nibHigh (rows1 (half1 w)))) (lookup hi (nibHigh (rows1 (half1 w))))) (scaleRows (s 1 1))⟩] concatenates_S16x128_S16x128_S16x256_d1⟩,
    ⟨S16x256, concatenate S16x256 1 [⟨S16x128, mulf (oddRows par (lookup lo (nibHigh (rows2 (half0 w)))) (lookup hi (nibHigh (rows2 (half0 w))))) (scaleRows (s 0 2))⟩,
      ⟨S16x128, mulf (oddRows par (lookup lo (nibHigh (rows2 (half1 w)))) (lookup hi (nibHigh (rows2 (half1 w))))) (scaleRows (s 1 2))⟩] concatenates_S16x128_S16x128_S16x256_d1⟩,
    ⟨S16x256, concatenate S16x256 1 [⟨S16x128, mulf (oddRows par (lookup lo (nibHigh (rows3 (half0 w)))) (lookup hi (nibHigh (rows3 (half0 w))))) (scaleRows (s 0 3))⟩,
      ⟨S16x128, mulf (oddRows par (lookup lo (nibHigh (rows3 (half1 w)))) (lookup hi (nibHigh (rows3 (half1 w))))) (scaleRows (s 1 3))⟩] concatenates_S16x128_S16x128_S16x256_d1⟩,
    ⟨S16x256, concatenate S16x256 1 [⟨S16x128, mulf (oddRows par (lookup lo (nibLow (rows0 (half0 w)))) (lookup hi (nibLow (rows0 (half0 w))))) (scaleRows (s 0 0))⟩,
      ⟨S16x128, mulf (oddRows par (lookup lo (nibLow (rows0 (half1 w)))) (lookup hi (nibLow (rows0 (half1 w))))) (scaleRows (s 1 0))⟩] concatenates_S16x128_S16x128_S16x256_d1⟩,
    ⟨S16x256, concatenate S16x256 1 [⟨S16x128, mulf (oddRows par (lookup lo (nibLow (rows1 (half0 w)))) (lookup hi (nibLow (rows1 (half0 w))))) (scaleRows (s 0 1))⟩,
      ⟨S16x128, mulf (oddRows par (lookup lo (nibLow (rows1 (half1 w)))) (lookup hi (nibLow (rows1 (half1 w))))) (scaleRows (s 1 1))⟩] concatenates_S16x128_S16x128_S16x256_d1⟩,
    ⟨S16x256, concatenate S16x256 1 [⟨S16x128, mulf (oddRows par (lookup lo (nibLow (rows2 (half0 w)))) (lookup hi (nibLow (rows2 (half0 w))))) (scaleRows (s 0 2))⟩,
      ⟨S16x128, mulf (oddRows par (lookup lo (nibLow (rows2 (half1 w)))) (lookup hi (nibLow (rows2 (half1 w))))) (scaleRows (s 1 2))⟩] concatenates_S16x128_S16x128_S16x256_d1⟩,
    ⟨S16x256, concatenate S16x256 1 [⟨S16x128, mulf (oddRows par (lookup lo (nibLow (rows3 (half0 w)))) (lookup hi (nibLow (rows3 (half0 w))))) (scaleRows (s 0 3))⟩,
      ⟨S16x128, mulf (oddRows par (lookup lo (nibLow (rows3 (half1 w)))) (lookup hi (nibLow (rows3 (half1 w))))) (scaleRows (s 1 3))⟩] concatenates_S16x128_S16x128_S16x256_d1⟩] concatenates_S16x256_S16x256_S16x256_S16x256_S16x256_S16x256_S16x256_S16x256_S16x256_S16x256_S16x256_S16x256_S16x256_S16x256_S16x256_S16x256_S256x256_d0

/-! ## The steps at an element -/

theorem word_of_bytes (x : IVec S32x128 8) (a : Fin 8) (l : Fin 128) :
    bitcast S8x128 32 x bitcasts_S32x128_w8_S8x128_w32 (ix2 a l)
      = x (ix2 ⟨4 * a.val + 3, by omega⟩ l) ++ x (ix2 ⟨4 * a.val + 2, by omega⟩ l)
        ++ x (ix2 ⟨4 * a.val + 1, by omega⟩ l) ++ x (ix2 ⟨4 * a.val, by omega⟩ l) := by
  apply BitVec.eq_of_getLsbD_eq
  intro q hq
  have e : ∀ (b : Fin 32), ValueIdx.ix2 b l = ix2 b l := fun b => by
    funext d; match d with | ⟨0, _⟩ => rfl | ⟨1, _⟩ => rfl
  have e' : ValueIdx.ix2 a l = ix2 a l := by funext d; match d with | ⟨0, _⟩ => rfl | ⟨1, _⟩ => rfl
  have h := bitcast_8_32_getLsbD_ix2 x bitcasts_S32x128_w8_S8x128_w32 a l q hq ⟨4 * a.val + q / 8, by omega⟩ rfl
  rw [e, e'] at h
  refine h.trans ?_
  have hq4 : q / 8 = 0 ∨ q / 8 = 1 ∨ q / 8 = 2 ∨ q / 8 = 3 := by omega
  simp only [BitVec.getLsbD_append]
  rcases hq4 with h | h | h | h
  · rw [if_pos (by omega)]; congr 2
    · simp only [h]; rfl
    · omega
  · rw [if_neg (by omega), if_pos (by omega)]; congr 2
    · simp only [h]
    · omega
  · rw [if_neg (by omega), if_neg (by omega), if_pos (by omega)]; congr 2
    · simp only [h]
    · omega
  · rw [if_neg (by omega), if_neg (by omega), if_neg (by omega)]; congr 2
    · simp only [h]
    · omega

theorem half_of_word (x : IVec S8x128 32) (a : Fin 8) (h : Fin 2) (l : Fin 128) :
    bitcast S16x128 16 x bitcasts_S8x128_w32_S16x128_w16 (ix2 ⟨2 * a.val + h.val, by omega⟩ l)
      = (x (ix2 a l)).extractLsb' (16 * h.val) 16 := by
  apply BitVec.eq_of_getLsbD_eq
  intro q hq
  rw [bitcast_getLsbD x bitcasts_S8x128_w32_S16x128_w16 _ q hq (by decide), BitVec.getLsbD_extractLsb']
  have hr : (ix2 (⟨2 * a.val + h.val, by omega⟩ : Fin 16) l : S16x128.Idx) 0 = (⟨2 * a.val + h.val, by omega⟩ : Fin 16) := rfl
  have hrow : S16x128.row (ix2 (⟨2 * a.val + h.val, by omega⟩ : Fin 16) l) = 2 * a.val + h.val := rfl
  simp only [hq, decide_true, Bool.true_and]
  congr 2
  · funext c
    match c with
    | ⟨0, _⟩ => exact Fin.ext ((Shape.Bitcasts.srcIdx_row _ _ _ _ ⟨0, Nat.zero_lt_two⟩ rfl).trans (by rw [hrow]; show _ = a.val; omega))
    | ⟨1, _⟩ => exact Fin.ext (Shape.Bitcasts.srcIdx_other _ _ _ _ ⟨1, Nat.one_lt_two⟩ (by show ¬ 1 + 2 = 2; omega))
  · rw [hrow]; omega

theorem byte_of_word (x : IVec S8x128 32) (a : Fin 8) (h : Fin 4) (l : Fin 128) :
    bitcast S32x128 8 x bitcasts_S8x128_w32_S32x128_w8 (ix2 ⟨4 * a.val + h.val, by omega⟩ l)
      = (x (ix2 a l)).extractLsb' (8 * h.val) 8 := by
  apply BitVec.eq_of_getLsbD_eq
  intro q hq
  rw [bitcast_getLsbD x bitcasts_S8x128_w32_S32x128_w8 _ q hq (by decide), BitVec.getLsbD_extractLsb']
  have hrow : S32x128.row (ix2 (⟨4 * a.val + h.val, by omega⟩ : Fin 32) l) = 4 * a.val + h.val := rfl
  simp only [hq, decide_true, Bool.true_and]
  congr 2
  · funext c
    match c with
    | ⟨0, _⟩ => exact Fin.ext ((Shape.Bitcasts.srcIdx_row _ _ _ _ ⟨0, Nat.zero_lt_two⟩ rfl).trans (by rw [hrow]; show _ = a.val; omega))
    | ⟨1, _⟩ => exact Fin.ext (Shape.Bitcasts.srcIdx_other _ _ _ _ ⟨1, Nat.one_lt_two⟩ (by show ¬ 1 + 2 = 2; omega))
  · rw [hrow]; omega

/-- A bit of four bytes joined. -/
theorem four_bit (b3 b2 b1 b0 : BitVec 8) (q : ℕ) :
    (b3 ++ b2 ++ b1 ++ b0 : BitVec 32).getLsbD q = if q < 8 then b0.getLsbD q else if q < 16 then b1.getLsbD (q - 8)
      else if q < 24 then b2.getLsbD (q - 16) else b3.getLsbD (q - 24) := by
  refine (BitVec.getLsbD_append (x := b3 ++ b2 ++ b1) (y := b0)).trans ?_
  by_cases h0 : q < 8
  · simp only [h0, if_true]
  · simp only [h0, if_false]
    refine (BitVec.getLsbD_append (x := b3 ++ b2) (y := b1)).trans ?_
    by_cases h1 : q < 16
    · simp only [h1, show q - 8 < 8 by omega, if_true]
    · simp only [h1, show ¬ q - 8 < 8 by omega, if_false]
      refine (BitVec.getLsbD_append (x := b3) (y := b2)).trans ?_
      by_cases h2 : q < 24
      · simp only [h2, show q - 8 - 8 < 8 by omega, if_true]; congr 1
      · simp only [h2, show ¬ q - 8 - 8 < 8 by omega, if_false]; congr 1
theorem two_bit (b1 b0 : BitVec 8) (q : ℕ) :
    (b1 ++ b0 : BitVec 16).getLsbD q = if q < 8 then b0.getLsbD q else b1.getLsbD (q - 8) :=
  (BitVec.getLsbD_append (x := b1) (y := b0)).trans (by by_cases h : q < 8 <;> simp only [h, if_true, if_false])

/-- The even bytes of the two planes, joined. -/
theorem join_even (h : Fin 2) (b3 b2 b1 b0 c3 c2 c1 c0 : BitVec 8) :
    (((b3 ++ b2 ++ b1 ++ b0 : BitVec 32) &&& 16711935#32) ||| (((c3 ++ c2 ++ c1 ++ c0 : BitVec 32) &&& 16711935#32) <<< 8)).extractLsb' (16 * h.val) 16
      = (if h = 0 then c0 ++ b0 else c2 ++ b2 : BitVec 16) := by
  apply BitVec.eq_of_getLsbD_eq
  intro q hq
  have hm : (16711935#32 : BitVec 32) = 0#8 ++ 255#8 ++ 0#8 ++ 255#8 := by decide
  rw [hm]
  match h with
  | 0 =>
    simp only [BitVec.getLsbD_extractLsb', BitVec.getLsbD_or, BitVec.getLsbD_and, BitVec.getLsbD_shiftLeft, four_bit, two_bit, if_true, if_false, Fin.isValue, one_ne_zero]
    interval_cases q <;> simp
  | 1 =>
    simp only [BitVec.getLsbD_extractLsb', BitVec.getLsbD_or, BitVec.getLsbD_and, BitVec.getLsbD_shiftLeft, four_bit, two_bit, if_true, if_false, Fin.isValue, one_ne_zero]
    interval_cases q <;> simp

theorem evenRows_apply (lo hi : IVec S32x128 8) (j : Fin 16) (l : Fin 128) :
    evenRows (F := F) lo hi (ix2 j l)
      = FloatOps.ofBits .bf16 (hi (ix2 ⟨2 * j.val, by omega⟩ l) ++ lo (ix2 ⟨2 * j.val, by omega⟩ l)) := by
  obtain ⟨a, h, rfl⟩ : ∃ (a : Fin 8) (h : Fin 2), j = ⟨2 * a.val + h.val, by omega⟩ :=
    ⟨⟨j.val / 2, by omega⟩, ⟨j.val % 2, by omega⟩, Fin.ext (by simp only; omega)⟩
  unfold evenRows bitcastToFloat
  rw [half_of_word]
  refine congrArg (FloatOps.ofBits FTy.bf16) ?_
  simp only [ori, andi, shli, broadcast, word_of_bytes]
  refine (join_even h _ _ _ _ _ _ _ _).trans ?_
  match h with
  | 0 => rw [if_pos rfl]; congr 3 <;> (apply Fin.ext; show _ = 2 * (2 * a.val + 0); show 4 * a.val = _; omega)
  | 1 => rw [if_neg (by decide)]; congr 3 <;> (apply Fin.ext; show _ = 2 * (2 * a.val + 1); show 4 * a.val + 2 = _; omega)

theorem shift_byte (h : Fin 2) (b3 b2 b1 b0 : BitVec 8) :
    ((b3 ++ b2 ++ b1 ++ b0 : BitVec 32) >>> 8).extractLsb' (16 * h.val) 8 = (if h = 0 then b1 else b3 : BitVec 8) := by
  apply BitVec.eq_of_getLsbD_eq
  intro q hq
  match h with
  | 0 =>
    simp only [BitVec.getLsbD_extractLsb', BitVec.getLsbD_ushiftRight, four_bit, two_bit, if_true, if_false, Fin.isValue, one_ne_zero]; interval_cases q <;> rfl
  | 1 =>
    simp only [BitVec.getLsbD_extractLsb', BitVec.getLsbD_ushiftRight, four_bit, two_bit, if_true, if_false, Fin.isValue, one_ne_zero]; interval_cases q <;> rfl

theorem join_odd (h : Fin 2) (b3 b2 b1 b0 : BitVec 8) :
    (b3 ++ b2 ++ b1 ++ b0 : BitVec 32).extractLsb' (16 * h.val) 16 = (if h = 0 then b1 ++ b0 else b3 ++ b2 : BitVec 16) := by
  apply BitVec.eq_of_getLsbD_eq
  intro q hq
  match h with
  | 0 =>
    simp only [BitVec.getLsbD_extractLsb', BitVec.getLsbD_ushiftRight, four_bit, two_bit, if_true, if_false, Fin.isValue, one_ne_zero]; interval_cases q <;> rfl
  | 1 =>
    simp only [BitVec.getLsbD_extractLsb', BitVec.getLsbD_ushiftRight, four_bit, two_bit, if_true, if_false, Fin.isValue, one_ne_zero]; interval_cases q <;> rfl

/-- The plane shifted down by a byte, at an even row: the byte of the next row. -/
theorem down_even (lo : IVec S32x128 8) (a : Fin 8) (h : Fin 2) (l : Fin 128) (r : Fin 32) (hr : r.val = 4 * a.val + 2 * h.val) :
    bitcast S32x128 8 (shrui (bitcast S8x128 32 lo bitcasts_S32x128_w8_S8x128_w32) (broadcast S8x128 8#32))
      bitcasts_S8x128_w32_S32x128_w8 (ix2 r l) = lo (ix2 ⟨r.val + 1, by omega⟩ l) := by
  obtain ⟨r, hr'⟩ := r
  simp only at hr
  subst hr
  refine (byte_of_word _ a ⟨2 * h.val, by omega⟩ l).trans ?_
  simp only [shrui, broadcast, word_of_bytes]
  rw [show 8 * (2 * h.val) = 16 * h.val by omega]
  refine (shift_byte h _ _ _ _).trans ?_
  match h with
  | 0 => rw [if_pos rfl]; congr 2
  | 1 => rw [if_neg (by decide)]; congr 2

theorem oddRows_apply (par : IVec S32x128 1) (hpar : ∀ (r : Fin 32) (l : Fin 128), par (ix2 r l) = BitVec.ofBool (r.val % 2 == 1))
    (lo hi : IVec S32x128 8) (j : Fin 16) (l : Fin 128) :
    oddRows (F := F) par lo hi (ix2 j l)
      = FloatOps.ofBits .bf16 (hi (ix2 ⟨2 * j.val + 1, by omega⟩ l) ++ lo (ix2 ⟨2 * j.val + 1, by omega⟩ l)) := by
  obtain ⟨a, h, rfl⟩ : ∃ (a : Fin 8) (h : Fin 2), j = ⟨2 * a.val + h.val, by omega⟩ :=
    ⟨⟨j.val / 2, by omega⟩, ⟨j.val % 2, by omega⟩, Fin.ext (by simp only; omega)⟩
  unfold oddRows bitcastToFloat
  rw [half_of_word]
  refine congrArg (FloatOps.ofBits FTy.bf16) ?_
  rw [word_of_bytes]
  simp only [select]
  rw [hpar, hpar, hpar, hpar]
  refine (join_odd h _ _ _ _).trans ?_
  match h with
  | 0 =>
    rw [if_pos rfl, down_even lo a 0 l ⟨4 * a.val, by omega⟩ (by show 4 * a.val = 4 * a.val + 2 * 0; omega)]
    rw [show (4 * a.val + 1) % 2 == 1 from by simp; omega, show ((4 * a.val) % 2 == 1) = false from by simp; omega]
    show (hi _ ++ lo _ : BitVec (8 + 8)) = _
    congr 3 <;> (apply Fin.ext; show _ = 2 * (2 * a.val + 0) + 1; show 4 * a.val + 1 = _; omega)
  | 1 =>
    rw [if_neg (by decide), down_even lo a 1 l ⟨4 * a.val + 2, by omega⟩ (by show 4 * a.val + 2 = 4 * a.val + 2 * 1; omega)]
    rw [show (4 * a.val + 3) % 2 == 1 from by simp; omega, show ((4 * a.val + 2) % 2 == 1) = false from by simp; omega]
    show (hi _ ++ lo _ : BitVec (8 + 8)) = _
    congr 3 <;> (apply Fin.ext; show _ = 2 * (2 * a.val + 1) + 1; show 4 * a.val + 3 = _; omega)

theorem sext_small : ∀ x : BitVec 8, x.toNat < 16 → (x.signExtend 32).toNat % 128 = x.toNat := by decide
theorem trunc_sext : ∀ x : BitVec 8, (x.signExtend 32).setWidth 8 = x := by decide

theorem lookup_apply (tab idx : IVec S32x128 8) (r : Fin 32) (l : Fin 128) (h : (idx (ix2 r l)).toNat < 16) :
    lookup tab idx (ix2 r l) = tab (ix2 r ⟨(idx (ix2 r l)).toNat, by omega⟩) := by
  unfold lookup
  pointwise
  simp only [sext_small _ h, trunc_sext]

theorem nibHigh_apply (v : IVec S32x128 8) (r : Fin 32) (l : Fin 128) :
    (nibHigh v (ix2 r l)).toNat = (v (ix2 r l)).toNat / 16 := by
  have h : ∀ x : BitVec 8, (((x.setWidth 32) >>> 4).setWidth 8 : BitVec 8).toNat = x.toNat / 16 := by decide
  exact h _
theorem nibLow_apply (v : IVec S32x128 8) (r : Fin 32) (l : Fin 128) :
    (nibLow v (ix2 r l)).toNat = (v (ix2 r l)).toNat % 16 := by
  have h : ∀ x : BitVec 8, (x &&& 15#8).toNat = x.toNat % 16 := by decide
  exact h _

theorem scaleRows_apply (raw : Vec F S1x2x128 .bf16) (j : Fin 16) (l : Fin 128) :
    scaleRows raw (ix2 j l) = raw (ix3 (0 : Fin 1) (0 : Fin 2) l) := by
  unfold scaleRows
  pointwise

/-! ## The tile at an element -/

/-- Sixteen blocks of sixteen rows, read at a row. -/
theorem blocks_apply {α : Type} (p : Fin 16 → S16x256.Idx → α)
    (h : Shape.Concatenates [S16x256, S16x256, S16x256, S16x256, S16x256, S16x256, S16x256, S16x256, S16x256, S16x256, S16x256, S16x256, S16x256, S16x256, S16x256, S16x256] S256x256 0)
    (a j : Fin 16) (C : Fin 256) :
    concatenate S256x256 0 [⟨S16x256, p 0⟩, ⟨S16x256, p 1⟩, ⟨S16x256, p 2⟩, ⟨S16x256, p 3⟩, ⟨S16x256, p 4⟩, ⟨S16x256, p 5⟩,
      ⟨S16x256, p 6⟩, ⟨S16x256, p 7⟩, ⟨S16x256, p 8⟩, ⟨S16x256, p 9⟩, ⟨S16x256, p 10⟩, ⟨S16x256, p 11⟩, ⟨S16x256, p 12⟩,
      ⟨S16x256, p 13⟩, ⟨S16x256, p 14⟩, ⟨S16x256, p 15⟩] h (ix2 ⟨16 * a.val + j.val, by omega⟩ C) = p a (ix2 j C) := by
  refine concatenate_ofFn_apply (0 : Fin S256x256.rank) p h rfl 16 rfl (ix2 (⟨16 * a.val + j.val, by omega⟩ : Fin 256) C) a ?_ (ix2 j C) ?_ ?_
  · show (16 * a.val + j.val) / 16 = a.val; omega
  · show j.val = (16 * a.val + j.val) % 16; omega
  · intro b hb
    match b with
    | 0 => exact absurd rfl hb
    | 1 => rfl

theorem sides_apply {α : Type} (p : Fin 2 → S16x128.Idx → α) (h : Shape.Concatenates [S16x128, S16x128] S16x256 1) (j : Fin 16) (n : Fin 2) (l : Fin 128) :
    concatenate S16x256 1 [⟨S16x128, p 0⟩, ⟨S16x128, p 1⟩] h (ix2 j ⟨128 * n.val + l.val, by omega⟩) = p n (ix2 j l) := by
  refine concatenate_ofFn_apply (1 : Fin S16x256.rank) p h rfl 128 rfl (ix2 j (⟨128 * n.val + l.val, by omega⟩ : Fin 256)) n ?_ (ix2 j l) ?_ ?_
  · show (128 * n.val + l.val) / 128 = n.val; omega
  · show l.val = (128 * n.val + l.val) % 128; omega
  · intro b hb
    match b with
    | 0 => rfl
    | 1 => exact absurd rfl hb

/-- The sixteen blocks of a tile, each as its two sides. -/
def sides (par : IVec S32x128 1) (lo hi : IVec S32x128 8) (w : IVec S256x128 8) (s : Fin 2 → Fin 4 → Vec F S1x2x128 .bf16) :
    Fin 16 → Fin 2 → FVec F S16x128 .bf16 := ![
  ![mulf (evenRows (lookup lo (nibHigh (rows0 (half0 w)))) (lookup hi (nibHigh (rows0 (half0 w))))) (scaleRows (s 0 0)),
    mulf (evenRows (lookup lo (nibHigh (rows0 (half1 w)))) (lookup hi (nibHigh (rows0 (half1 w))))) (scaleRows (s 1 0))],
  ![mulf (evenRows (lookup lo (nibHigh (rows1 (half0 w)))) (lookup hi (nibHigh (rows1 (half0 w))))) (scaleRows (s 0 1)),
    mulf (evenRows (lookup lo (nibHigh (rows1 (half1 w)))) (lookup hi (nibHigh (rows1 (half1 w))))) (scaleRows (s 1 1))],
  ![mulf (evenRows (lookup lo (nibHigh (rows2 (half0 w)))) (lookup hi (nibHigh (rows2 (half0 w))))) (scaleRows (s 0 2)),
    mulf (evenRows (lookup lo (nibHigh (rows2 (half1 w)))) (lookup hi (nibHigh (rows2 (half1 w))))) (scaleRows (s 1 2))],
  ![mulf (evenRows (lookup lo (nibHigh (rows3 (half0 w)))) (lookup hi (nibHigh (rows3 (half0 w))))) (scaleRows (s 0 3)),
    mulf (evenRows (lookup lo (nibHigh (rows3 (half1 w)))) (lookup hi (nibHigh (rows3 (half1 w))))) (scaleRows (s 1 3))],
  ![mulf (evenRows (lookup lo (nibLow (rows0 (half0 w)))) (lookup hi (nibLow (rows0 (half0 w))))) (scaleRows (s 0 0)),
    mulf (evenRows (lookup lo (nibLow (rows0 (half1 w)))) (lookup hi (nibLow (rows0 (half1 w))))) (scaleRows (s 1 0))],
  ![mulf (evenRows (lookup lo (nibLow (rows1 (half0 w)))) (lookup hi (nibLow (rows1 (half0 w))))) (scaleRows (s 0 1)),
    mulf (evenRows (lookup lo (nibLow (rows1 (half1 w)))) (lookup hi (nibLow (rows1 (half1 w))))) (scaleRows (s 1 1))],
  ![mulf (evenRows (lookup lo (nibLow (rows2 (half0 w)))) (lookup hi (nibLow (rows2 (half0 w))))) (scaleRows (s 0 2)),
    mulf (evenRows (lookup lo (nibLow (rows2 (half1 w)))) (lookup hi (nibLow (rows2 (half1 w))))) (scaleRows (s 1 2))],
  ![mulf (evenRows (lookup lo (nibLow (rows3 (half0 w)))) (lookup hi (nibLow (rows3 (half0 w))))) (scaleRows (s 0 3)),
    mulf (evenRows (lookup lo (nibLow (rows3 (half1 w)))) (lookup hi (nibLow (rows3 (half1 w))))) (scaleRows (s 1 3))],
  ![mulf (oddRows par (lookup lo (nibHigh (rows0 (half0 w)))) (lookup hi (nibHigh (rows0 (half0 w))))) (scaleRows (s 0 0)),
    mulf (oddRows par (lookup lo (nibHigh (rows0 (half1 w)))) (lookup hi (nibHigh (rows0 (half1 w))))) (scaleRows (s 1 0))],
  ![mulf (oddRows par (lookup lo (nibHigh (rows1 (half0 w)))) (lookup hi (nibHigh (rows1 (half0 w))))) (scaleRows (s 0 1)),
    mulf (oddRows par (lookup lo (nibHigh (rows1 (half1 w)))) (lookup hi (nibHigh (rows1 (half1 w))))) (scaleRows (s 1 1))],
  ![mulf (oddRows par (lookup lo (nibHigh (rows2 (half0 w)))) (lookup hi (nibHigh (rows2 (half0 w))))) (scaleRows (s 0 2)),
    mulf (oddRows par (lookup lo (nibHigh (rows2 (half1 w)))) (lookup hi (nibHigh (rows2 (half1 w))))) (scaleRows (s 1 2))],
  ![mulf (oddRows par (lookup lo (nibHigh (rows3 (half0 w)))) (lookup hi (nibHigh (rows3 (half0 w))))) (scaleRows (s 0 3)),
    mulf (oddRows par (lookup lo (nibHigh (rows3 (half1 w)))) (lookup hi (nibHigh (rows3 (half1 w))))) (scaleRows (s 1 3))],
  ![mulf (oddRows par (lookup lo (nibLow (rows0 (half0 w)))) (lookup hi (nibLow (rows0 (half0 w))))) (scaleRows (s 0 0)),
    mulf (oddRows par (lookup lo (nibLow (rows0 (half1 w)))) (lookup hi (nibLow (rows0 (half1 w))))) (scaleRows (s 1 0))],
  ![mulf (oddRows par (lookup lo (nibLow (rows1 (half0 w)))) (lookup hi (nibLow (rows1 (half0 w))))) (scaleRows (s 0 1)),
    mulf (oddRows par (lookup lo (nibLow (rows1 (half1 w)))) (lookup hi (nibLow (rows1 (half1 w))))) (scaleRows (s 1 1))],
  ![mulf (oddRows par (lookup lo (nibLow (rows2 (half0 w)))) (lookup hi (nibLow (rows2 (half0 w))))) (scaleRows (s 0 2)),
    mulf (oddRows par (lookup lo (nibLow (rows2 (half1 w)))) (lookup hi (nibLow (rows2 (half1 w))))) (scaleRows (s 1 2))],
  ![mulf (oddRows par (lookup lo (nibLow (rows3 (half0 w)))) (lookup hi (nibLow (rows3 (half0 w))))) (scaleRows (s 0 3)),
    mulf (oddRows par (lookup lo (nibLow (rows3 (half1 w)))) (lookup hi (nibLow (rows3 (half1 w))))) (scaleRows (s 1 3))]]

/-- The nibble that quarter `q` takes of a byte: the high one of an even quarter, the low one of an odd one. -/
def nibN (q : ℕ) (b : BitVec 8) : ℕ := if q % 2 = 0 then b.toNat / 16 else b.toNat % 16

theorem nibN_lt (q : ℕ) (b : BitVec 8) : nibN q b < 16 := by
  unfold nibN; have := b.isLt; split <;> omega

theorem rows0_half0 (w : IVec S256x128 8) (r : Fin 32) (l : Fin 128) :
    rows0 (half0 w) (ix2 r l) = w (ix2 ⟨0 + l.val, by omega⟩ ⟨0 + r.val, by omega⟩) := by
  pointwise [rows0, half0]
theorem rows0_half1 (w : IVec S256x128 8) (r : Fin 32) (l : Fin 128) :
    rows0 (half1 w) (ix2 r l) = w (ix2 ⟨128 + l.val, by omega⟩ ⟨0 + r.val, by omega⟩) := by
  pointwise [rows0, half1]
theorem rows1_half0 (w : IVec S256x128 8) (r : Fin 32) (l : Fin 128) :
    rows1 (half0 w) (ix2 r l) = w (ix2 ⟨0 + l.val, by omega⟩ ⟨32 + r.val, by omega⟩) := by
  pointwise [rows1, half0]
theorem rows1_half1 (w : IVec S256x128 8) (r : Fin 32) (l : Fin 128) :
    rows1 (half1 w) (ix2 r l) = w (ix2 ⟨128 + l.val, by omega⟩ ⟨32 + r.val, by omega⟩) := by
  pointwise [rows1, half1]
theorem rows2_half0 (w : IVec S256x128 8) (r : Fin 32) (l : Fin 128) :
    rows2 (half0 w) (ix2 r l) = w (ix2 ⟨0 + l.val, by omega⟩ ⟨64 + r.val, by omega⟩) := by
  pointwise [rows2, half0]
theorem rows2_half1 (w : IVec S256x128 8) (r : Fin 32) (l : Fin 128) :
    rows2 (half1 w) (ix2 r l) = w (ix2 ⟨128 + l.val, by omega⟩ ⟨64 + r.val, by omega⟩) := by
  pointwise [rows2, half1]
theorem rows3_half0 (w : IVec S256x128 8) (r : Fin 32) (l : Fin 128) :
    rows3 (half0 w) (ix2 r l) = w (ix2 ⟨0 + l.val, by omega⟩ ⟨96 + r.val, by omega⟩) := by
  pointwise [rows3, half0]
theorem rows3_half1 (w : IVec S256x128 8) (r : Fin 32) (l : Fin 128) :
    rows3 (half1 w) (ix2 r l) = w (ix2 ⟨128 + l.val, by omega⟩ ⟨96 + r.val, by omega⟩) := by
  pointwise [rows3, half1]

section Tile
variable (lo hi : IVec S32x128 8) (TAB : ℕ → BitVec 16)
  (hT : ∀ (r : Fin 32) (x : Fin 128), x.val < 16 → hi (ix2 r x) ++ lo (ix2 r x) = TAB x.val)
include hT

theorem piece_even (nb : IVec S32x128 8) (raw : Vec Ideal S1x2x128 .bf16) (j : Fin 16) (l : Fin 128) (N : ℕ) (hN : N < 16)
    (h : (nb (ix2 ⟨2 * j.val, by omega⟩ l)).toNat = N) :
    mulf (evenRows (F := Ideal) (lookup lo nb) (lookup hi nb)) (scaleRows raw) (ix2 j l)
      = ((FloatOps.ofBits FTy.bf16 (TAB N) : Ideal FTy.bf16) : EReal) * raw (ix3 (0 : Fin 1) (0 : Fin 2) l) := by
  show evenRows (F := Ideal) (lookup lo nb) (lookup hi nb) (ix2 j l) * scaleRows raw (ix2 j l) = _
  rw [evenRows_apply, scaleRows_apply, lookup_apply _ _ _ _ (by omega), lookup_apply _ _ _ _ (by omega), hT _ _ (by simp only; omega)]
  simp only [h]

theorem piece_odd (par : IVec S32x128 1) (hpar : ∀ (r : Fin 32) (l : Fin 128), par (ix2 r l) = BitVec.ofBool (r.val % 2 == 1))
    (nb : IVec S32x128 8) (raw : Vec Ideal S1x2x128 .bf16) (j : Fin 16) (l : Fin 128) (N : ℕ) (hN : N < 16)
    (h : (nb (ix2 ⟨2 * j.val + 1, by omega⟩ l)).toNat = N) :
    mulf (oddRows (F := Ideal) par (lookup lo nb) (lookup hi nb)) (scaleRows raw) (ix2 j l)
      = ((FloatOps.ofBits FTy.bf16 (TAB N) : Ideal FTy.bf16) : EReal) * raw (ix3 (0 : Fin 1) (0 : Fin 2) l) := by
  show oddRows (F := Ideal) par (lookup lo nb) (lookup hi nb) (ix2 j l) * scaleRows raw (ix2 j l) = _
  rw [oddRows_apply _ hpar, scaleRows_apply, lookup_apply _ _ _ _ (by omega), lookup_apply _ _ _ _ (by omega), hT _ _ (by simp only; omega)]
  simp only [h]

variable (par : IVec S32x128 1) (hpar : ∀ (r : Fin 32) (l : Fin 128), par (ix2 r l) = BitVec.ofBool (r.val % 2 == 1))
  (w : IVec S256x128 8) (s : Fin 2 → Fin 4 → Vec Ideal S1x2x128 .bf16)
include hpar

theorem piece_0_0_0 (j : Fin 16) (l : Fin 128) :
    sides (F := Ideal) par lo hi w s 0 0 (ix2 j l)
      = ((FloatOps.ofBits FTy.bf16 (TAB (nibN 0 (w (ix2 ⟨0 + l.val, by omega⟩ ⟨0 + (2 * j.val), by omega⟩)))) : Ideal FTy.bf16) : EReal) * s 0 0 (ix3 (0 : Fin 1) (0 : Fin 2) l) := by
  refine (piece_even lo hi TAB hT _ (s 0 0) j l _ (nibN_lt 0 (w (ix2 ⟨0 + l.val, by omega⟩ ⟨0 + (2 * j.val), by omega⟩))) ?_)
  rw [nibHigh_apply, rows0_half0]; rfl
theorem piece_0_0_1 (j : Fin 16) (l : Fin 128) :
    sides (F := Ideal) par lo hi w s 0 1 (ix2 j l)
      = ((FloatOps.ofBits FTy.bf16 (TAB (nibN 0 (w (ix2 ⟨128 + l.val, by omega⟩ ⟨0 + (2 * j.val), by omega⟩)))) : Ideal FTy.bf16) : EReal) * s 1 0 (ix3 (0 : Fin 1) (0 : Fin 2) l) := by
  refine (piece_even lo hi TAB hT _ (s 1 0) j l _ (nibN_lt 0 (w (ix2 ⟨128 + l.val, by omega⟩ ⟨0 + (2 * j.val), by omega⟩))) ?_)
  rw [nibHigh_apply, rows0_half1]; rfl
theorem piece_0_1_0 (j : Fin 16) (l : Fin 128) :
    sides (F := Ideal) par lo hi w s 1 0 (ix2 j l)
      = ((FloatOps.ofBits FTy.bf16 (TAB (nibN 0 (w (ix2 ⟨0 + l.val, by omega⟩ ⟨32 + (2 * j.val), by omega⟩)))) : Ideal FTy.bf16) : EReal) * s 0 1 (ix3 (0 : Fin 1) (0 : Fin 2) l) := by
  refine (piece_even lo hi TAB hT _ (s 0 1) j l _ (nibN_lt 0 (w (ix2 ⟨0 + l.val, by omega⟩ ⟨32 + (2 * j.val), by omega⟩))) ?_)
  rw [nibHigh_apply, rows1_half0]; rfl
theorem piece_0_1_1 (j : Fin 16) (l : Fin 128) :
    sides (F := Ideal) par lo hi w s 1 1 (ix2 j l)
      = ((FloatOps.ofBits FTy.bf16 (TAB (nibN 0 (w (ix2 ⟨128 + l.val, by omega⟩ ⟨32 + (2 * j.val), by omega⟩)))) : Ideal FTy.bf16) : EReal) * s 1 1 (ix3 (0 : Fin 1) (0 : Fin 2) l) := by
  refine (piece_even lo hi TAB hT _ (s 1 1) j l _ (nibN_lt 0 (w (ix2 ⟨128 + l.val, by omega⟩ ⟨32 + (2 * j.val), by omega⟩))) ?_)
  rw [nibHigh_apply, rows1_half1]; rfl
theorem piece_0_2_0 (j : Fin 16) (l : Fin 128) :
    sides (F := Ideal) par lo hi w s 2 0 (ix2 j l)
      = ((FloatOps.ofBits FTy.bf16 (TAB (nibN 0 (w (ix2 ⟨0 + l.val, by omega⟩ ⟨64 + (2 * j.val), by omega⟩)))) : Ideal FTy.bf16) : EReal) * s 0 2 (ix3 (0 : Fin 1) (0 : Fin 2) l) := by
  refine (piece_even lo hi TAB hT _ (s 0 2) j l _ (nibN_lt 0 (w (ix2 ⟨0 + l.val, by omega⟩ ⟨64 + (2 * j.val), by omega⟩))) ?_)
  rw [nibHigh_apply, rows2_half0]; rfl
theorem piece_0_2_1 (j : Fin 16) (l : Fin 128) :
    sides (F := Ideal) par lo hi w s 2 1 (ix2 j l)
      = ((FloatOps.ofBits FTy.bf16 (TAB (nibN 0 (w (ix2 ⟨128 + l.val, by omega⟩ ⟨64 + (2 * j.val), by omega⟩)))) : Ideal FTy.bf16) : EReal) * s 1 2 (ix3 (0 : Fin 1) (0 : Fin 2) l) := by
  refine (piece_even lo hi TAB hT _ (s 1 2) j l _ (nibN_lt 0 (w (ix2 ⟨128 + l.val, by omega⟩ ⟨64 + (2 * j.val), by omega⟩))) ?_)
  rw [nibHigh_apply, rows2_half1]; rfl
theorem piece_0_3_0 (j : Fin 16) (l : Fin 128) :
    sides (F := Ideal) par lo hi w s 3 0 (ix2 j l)
      = ((FloatOps.ofBits FTy.bf16 (TAB (nibN 0 (w (ix2 ⟨0 + l.val, by omega⟩ ⟨96 + (2 * j.val), by omega⟩)))) : Ideal FTy.bf16) : EReal) * s 0 3 (ix3 (0 : Fin 1) (0 : Fin 2) l) := by
  refine (piece_even lo hi TAB hT _ (s 0 3) j l _ (nibN_lt 0 (w (ix2 ⟨0 + l.val, by omega⟩ ⟨96 + (2 * j.val), by omega⟩))) ?_)
  rw [nibHigh_apply, rows3_half0]; rfl
theorem piece_0_3_1 (j : Fin 16) (l : Fin 128) :
    sides (F := Ideal) par lo hi w s 3 1 (ix2 j l)
      = ((FloatOps.ofBits FTy.bf16 (TAB (nibN 0 (w (ix2 ⟨128 + l.val, by omega⟩ ⟨96 + (2 * j.val), by omega⟩)))) : Ideal FTy.bf16) : EReal) * s 1 3 (ix3 (0 : Fin 1) (0 : Fin 2) l) := by
  refine (piece_even lo hi TAB hT _ (s 1 3) j l _ (nibN_lt 0 (w (ix2 ⟨128 + l.val, by omega⟩ ⟨96 + (2 * j.val), by omega⟩))) ?_)
  rw [nibHigh_apply, rows3_half1]; rfl
theorem piece_1_0_0 (j : Fin 16) (l : Fin 128) :
    sides (F := Ideal) par lo hi w s 4 0 (ix2 j l)
      = ((FloatOps.ofBits FTy.bf16 (TAB (nibN 1 (w (ix2 ⟨0 + l.val, by omega⟩ ⟨0 + (2 * j.val), by omega⟩)))) : Ideal FTy.bf16) : EReal) * s 0 0 (ix3 (0 : Fin 1) (0 : Fin 2) l) := by
  refine (piece_even lo hi TAB hT _ (s 0 0) j l _ (nibN_lt 1 (w (ix2 ⟨0 + l.val, by omega⟩ ⟨0 + (2 * j.val), by omega⟩))) ?_)
  rw [nibLow_apply, rows0_half0]; rfl
theorem piece_1_0_1 (j : Fin 16) (l : Fin 128) :
    sides (F := Ideal) par lo hi w s 4 1 (ix2 j l)
      = ((FloatOps.ofBits FTy.bf16 (TAB (nibN 1 (w (ix2 ⟨128 + l.val, by omega⟩ ⟨0 + (2 * j.val), by omega⟩)))) : Ideal FTy.bf16) : EReal) * s 1 0 (ix3 (0 : Fin 1) (0 : Fin 2) l) := by
  refine (piece_even lo hi TAB hT _ (s 1 0) j l _ (nibN_lt 1 (w (ix2 ⟨128 + l.val, by omega⟩ ⟨0 + (2 * j.val), by omega⟩))) ?_)
  rw [nibLow_apply, rows0_half1]; rfl
theorem piece_1_1_0 (j : Fin 16) (l : Fin 128) :
    sides (F := Ideal) par lo hi w s 5 0 (ix2 j l)
      = ((FloatOps.ofBits FTy.bf16 (TAB (nibN 1 (w (ix2 ⟨0 + l.val, by omega⟩ ⟨32 + (2 * j.val), by omega⟩)))) : Ideal FTy.bf16) : EReal) * s 0 1 (ix3 (0 : Fin 1) (0 : Fin 2) l) := by
  refine (piece_even lo hi TAB hT _ (s 0 1) j l _ (nibN_lt 1 (w (ix2 ⟨0 + l.val, by omega⟩ ⟨32 + (2 * j.val), by omega⟩))) ?_)
  rw [nibLow_apply, rows1_half0]; rfl
theorem piece_1_1_1 (j : Fin 16) (l : Fin 128) :
    sides (F := Ideal) par lo hi w s 5 1 (ix2 j l)
      = ((FloatOps.ofBits FTy.bf16 (TAB (nibN 1 (w (ix2 ⟨128 + l.val, by omega⟩ ⟨32 + (2 * j.val), by omega⟩)))) : Ideal FTy.bf16) : EReal) * s 1 1 (ix3 (0 : Fin 1) (0 : Fin 2) l) := by
  refine (piece_even lo hi TAB hT _ (s 1 1) j l _ (nibN_lt 1 (w (ix2 ⟨128 + l.val, by omega⟩ ⟨32 + (2 * j.val), by omega⟩))) ?_)
  rw [nibLow_apply, rows1_half1]; rfl
theorem piece_1_2_0 (j : Fin 16) (l : Fin 128) :
    sides (F := Ideal) par lo hi w s 6 0 (ix2 j l)
      = ((FloatOps.ofBits FTy.bf16 (TAB (nibN 1 (w (ix2 ⟨0 + l.val, by omega⟩ ⟨64 + (2 * j.val), by omega⟩)))) : Ideal FTy.bf16) : EReal) * s 0 2 (ix3 (0 : Fin 1) (0 : Fin 2) l) := by
  refine (piece_even lo hi TAB hT _ (s 0 2) j l _ (nibN_lt 1 (w (ix2 ⟨0 + l.val, by omega⟩ ⟨64 + (2 * j.val), by omega⟩))) ?_)
  rw [nibLow_apply, rows2_half0]; rfl
theorem piece_1_2_1 (j : Fin 16) (l : Fin 128) :
    sides (F := Ideal) par lo hi w s 6 1 (ix2 j l)
      = ((FloatOps.ofBits FTy.bf16 (TAB (nibN 1 (w (ix2 ⟨128 + l.val, by omega⟩ ⟨64 + (2 * j.val), by omega⟩)))) : Ideal FTy.bf16) : EReal) * s 1 2 (ix3 (0 : Fin 1) (0 : Fin 2) l) := by
  refine (piece_even lo hi TAB hT _ (s 1 2) j l _ (nibN_lt 1 (w (ix2 ⟨128 + l.val, by omega⟩ ⟨64 + (2 * j.val), by omega⟩))) ?_)
  rw [nibLow_apply, rows2_half1]; rfl
theorem piece_1_3_0 (j : Fin 16) (l : Fin 128) :
    sides (F := Ideal) par lo hi w s 7 0 (ix2 j l)
      = ((FloatOps.ofBits FTy.bf16 (TAB (nibN 1 (w (ix2 ⟨0 + l.val, by omega⟩ ⟨96 + (2 * j.val), by omega⟩)))) : Ideal FTy.bf16) : EReal) * s 0 3 (ix3 (0 : Fin 1) (0 : Fin 2) l) := by
  refine (piece_even lo hi TAB hT _ (s 0 3) j l _ (nibN_lt 1 (w (ix2 ⟨0 + l.val, by omega⟩ ⟨96 + (2 * j.val), by omega⟩))) ?_)
  rw [nibLow_apply, rows3_half0]; rfl
theorem piece_1_3_1 (j : Fin 16) (l : Fin 128) :
    sides (F := Ideal) par lo hi w s 7 1 (ix2 j l)
      = ((FloatOps.ofBits FTy.bf16 (TAB (nibN 1 (w (ix2 ⟨128 + l.val, by omega⟩ ⟨96 + (2 * j.val), by omega⟩)))) : Ideal FTy.bf16) : EReal) * s 1 3 (ix3 (0 : Fin 1) (0 : Fin 2) l) := by
  refine (piece_even lo hi TAB hT _ (s 1 3) j l _ (nibN_lt 1 (w (ix2 ⟨128 + l.val, by omega⟩ ⟨96 + (2 * j.val), by omega⟩))) ?_)
  rw [nibLow_apply, rows3_half1]; rfl
theorem piece_2_0_0 (j : Fin 16) (l : Fin 128) :
    sides (F := Ideal) par lo hi w s 8 0 (ix2 j l)
      = ((FloatOps.ofBits FTy.bf16 (TAB (nibN 2 (w (ix2 ⟨0 + l.val, by omega⟩ ⟨0 + (2 * j.val + 1), by omega⟩)))) : Ideal FTy.bf16) : EReal) * s 0 0 (ix3 (0 : Fin 1) (0 : Fin 2) l) := by
  refine (piece_odd lo hi TAB hT par hpar _ (s 0 0) j l _ (nibN_lt 2 (w (ix2 ⟨0 + l.val, by omega⟩ ⟨0 + (2 * j.val + 1), by omega⟩))) ?_)
  rw [nibHigh_apply, rows0_half0]; rfl
theorem piece_2_0_1 (j : Fin 16) (l : Fin 128) :
    sides (F := Ideal) par lo hi w s 8 1 (ix2 j l)
      = ((FloatOps.ofBits FTy.bf16 (TAB (nibN 2 (w (ix2 ⟨128 + l.val, by omega⟩ ⟨0 + (2 * j.val + 1), by omega⟩)))) : Ideal FTy.bf16) : EReal) * s 1 0 (ix3 (0 : Fin 1) (0 : Fin 2) l) := by
  refine (piece_odd lo hi TAB hT par hpar _ (s 1 0) j l _ (nibN_lt 2 (w (ix2 ⟨128 + l.val, by omega⟩ ⟨0 + (2 * j.val + 1), by omega⟩))) ?_)
  rw [nibHigh_apply, rows0_half1]; rfl
theorem piece_2_1_0 (j : Fin 16) (l : Fin 128) :
    sides (F := Ideal) par lo hi w s 9 0 (ix2 j l)
      = ((FloatOps.ofBits FTy.bf16 (TAB (nibN 2 (w (ix2 ⟨0 + l.val, by omega⟩ ⟨32 + (2 * j.val + 1), by omega⟩)))) : Ideal FTy.bf16) : EReal) * s 0 1 (ix3 (0 : Fin 1) (0 : Fin 2) l) := by
  refine (piece_odd lo hi TAB hT par hpar _ (s 0 1) j l _ (nibN_lt 2 (w (ix2 ⟨0 + l.val, by omega⟩ ⟨32 + (2 * j.val + 1), by omega⟩))) ?_)
  rw [nibHigh_apply, rows1_half0]; rfl
theorem piece_2_1_1 (j : Fin 16) (l : Fin 128) :
    sides (F := Ideal) par lo hi w s 9 1 (ix2 j l)
      = ((FloatOps.ofBits FTy.bf16 (TAB (nibN 2 (w (ix2 ⟨128 + l.val, by omega⟩ ⟨32 + (2 * j.val + 1), by omega⟩)))) : Ideal FTy.bf16) : EReal) * s 1 1 (ix3 (0 : Fin 1) (0 : Fin 2) l) := by
  refine (piece_odd lo hi TAB hT par hpar _ (s 1 1) j l _ (nibN_lt 2 (w (ix2 ⟨128 + l.val, by omega⟩ ⟨32 + (2 * j.val + 1), by omega⟩))) ?_)
  rw [nibHigh_apply, rows1_half1]; rfl
theorem piece_2_2_0 (j : Fin 16) (l : Fin 128) :
    sides (F := Ideal) par lo hi w s 10 0 (ix2 j l)
      = ((FloatOps.ofBits FTy.bf16 (TAB (nibN 2 (w (ix2 ⟨0 + l.val, by omega⟩ ⟨64 + (2 * j.val + 1), by omega⟩)))) : Ideal FTy.bf16) : EReal) * s 0 2 (ix3 (0 : Fin 1) (0 : Fin 2) l) := by
  refine (piece_odd lo hi TAB hT par hpar _ (s 0 2) j l _ (nibN_lt 2 (w (ix2 ⟨0 + l.val, by omega⟩ ⟨64 + (2 * j.val + 1), by omega⟩))) ?_)
  rw [nibHigh_apply, rows2_half0]; rfl
theorem piece_2_2_1 (j : Fin 16) (l : Fin 128) :
    sides (F := Ideal) par lo hi w s 10 1 (ix2 j l)
      = ((FloatOps.ofBits FTy.bf16 (TAB (nibN 2 (w (ix2 ⟨128 + l.val, by omega⟩ ⟨64 + (2 * j.val + 1), by omega⟩)))) : Ideal FTy.bf16) : EReal) * s 1 2 (ix3 (0 : Fin 1) (0 : Fin 2) l) := by
  refine (piece_odd lo hi TAB hT par hpar _ (s 1 2) j l _ (nibN_lt 2 (w (ix2 ⟨128 + l.val, by omega⟩ ⟨64 + (2 * j.val + 1), by omega⟩))) ?_)
  rw [nibHigh_apply, rows2_half1]; rfl
theorem piece_2_3_0 (j : Fin 16) (l : Fin 128) :
    sides (F := Ideal) par lo hi w s 11 0 (ix2 j l)
      = ((FloatOps.ofBits FTy.bf16 (TAB (nibN 2 (w (ix2 ⟨0 + l.val, by omega⟩ ⟨96 + (2 * j.val + 1), by omega⟩)))) : Ideal FTy.bf16) : EReal) * s 0 3 (ix3 (0 : Fin 1) (0 : Fin 2) l) := by
  refine (piece_odd lo hi TAB hT par hpar _ (s 0 3) j l _ (nibN_lt 2 (w (ix2 ⟨0 + l.val, by omega⟩ ⟨96 + (2 * j.val + 1), by omega⟩))) ?_)
  rw [nibHigh_apply, rows3_half0]; rfl
theorem piece_2_3_1 (j : Fin 16) (l : Fin 128) :
    sides (F := Ideal) par lo hi w s 11 1 (ix2 j l)
      = ((FloatOps.ofBits FTy.bf16 (TAB (nibN 2 (w (ix2 ⟨128 + l.val, by omega⟩ ⟨96 + (2 * j.val + 1), by omega⟩)))) : Ideal FTy.bf16) : EReal) * s 1 3 (ix3 (0 : Fin 1) (0 : Fin 2) l) := by
  refine (piece_odd lo hi TAB hT par hpar _ (s 1 3) j l _ (nibN_lt 2 (w (ix2 ⟨128 + l.val, by omega⟩ ⟨96 + (2 * j.val + 1), by omega⟩))) ?_)
  rw [nibHigh_apply, rows3_half1]; rfl
theorem piece_3_0_0 (j : Fin 16) (l : Fin 128) :
    sides (F := Ideal) par lo hi w s 12 0 (ix2 j l)
      = ((FloatOps.ofBits FTy.bf16 (TAB (nibN 3 (w (ix2 ⟨0 + l.val, by omega⟩ ⟨0 + (2 * j.val + 1), by omega⟩)))) : Ideal FTy.bf16) : EReal) * s 0 0 (ix3 (0 : Fin 1) (0 : Fin 2) l) := by
  refine (piece_odd lo hi TAB hT par hpar _ (s 0 0) j l _ (nibN_lt 3 (w (ix2 ⟨0 + l.val, by omega⟩ ⟨0 + (2 * j.val + 1), by omega⟩))) ?_)
  rw [nibLow_apply, rows0_half0]; rfl
theorem piece_3_0_1 (j : Fin 16) (l : Fin 128) :
    sides (F := Ideal) par lo hi w s 12 1 (ix2 j l)
      = ((FloatOps.ofBits FTy.bf16 (TAB (nibN 3 (w (ix2 ⟨128 + l.val, by omega⟩ ⟨0 + (2 * j.val + 1), by omega⟩)))) : Ideal FTy.bf16) : EReal) * s 1 0 (ix3 (0 : Fin 1) (0 : Fin 2) l) := by
  refine (piece_odd lo hi TAB hT par hpar _ (s 1 0) j l _ (nibN_lt 3 (w (ix2 ⟨128 + l.val, by omega⟩ ⟨0 + (2 * j.val + 1), by omega⟩))) ?_)
  rw [nibLow_apply, rows0_half1]; rfl
theorem piece_3_1_0 (j : Fin 16) (l : Fin 128) :
    sides (F := Ideal) par lo hi w s 13 0 (ix2 j l)
      = ((FloatOps.ofBits FTy.bf16 (TAB (nibN 3 (w (ix2 ⟨0 + l.val, by omega⟩ ⟨32 + (2 * j.val + 1), by omega⟩)))) : Ideal FTy.bf16) : EReal) * s 0 1 (ix3 (0 : Fin 1) (0 : Fin 2) l) := by
  refine (piece_odd lo hi TAB hT par hpar _ (s 0 1) j l _ (nibN_lt 3 (w (ix2 ⟨0 + l.val, by omega⟩ ⟨32 + (2 * j.val + 1), by omega⟩))) ?_)
  rw [nibLow_apply, rows1_half0]; rfl
theorem piece_3_1_1 (j : Fin 16) (l : Fin 128) :
    sides (F := Ideal) par lo hi w s 13 1 (ix2 j l)
      = ((FloatOps.ofBits FTy.bf16 (TAB (nibN 3 (w (ix2 ⟨128 + l.val, by omega⟩ ⟨32 + (2 * j.val + 1), by omega⟩)))) : Ideal FTy.bf16) : EReal) * s 1 1 (ix3 (0 : Fin 1) (0 : Fin 2) l) := by
  refine (piece_odd lo hi TAB hT par hpar _ (s 1 1) j l _ (nibN_lt 3 (w (ix2 ⟨128 + l.val, by omega⟩ ⟨32 + (2 * j.val + 1), by omega⟩))) ?_)
  rw [nibLow_apply, rows1_half1]; rfl
theorem piece_3_2_0 (j : Fin 16) (l : Fin 128) :
    sides (F := Ideal) par lo hi w s 14 0 (ix2 j l)
      = ((FloatOps.ofBits FTy.bf16 (TAB (nibN 3 (w (ix2 ⟨0 + l.val, by omega⟩ ⟨64 + (2 * j.val + 1), by omega⟩)))) : Ideal FTy.bf16) : EReal) * s 0 2 (ix3 (0 : Fin 1) (0 : Fin 2) l) := by
  refine (piece_odd lo hi TAB hT par hpar _ (s 0 2) j l _ (nibN_lt 3 (w (ix2 ⟨0 + l.val, by omega⟩ ⟨64 + (2 * j.val + 1), by omega⟩))) ?_)
  rw [nibLow_apply, rows2_half0]; rfl
theorem piece_3_2_1 (j : Fin 16) (l : Fin 128) :
    sides (F := Ideal) par lo hi w s 14 1 (ix2 j l)
      = ((FloatOps.ofBits FTy.bf16 (TAB (nibN 3 (w (ix2 ⟨128 + l.val, by omega⟩ ⟨64 + (2 * j.val + 1), by omega⟩)))) : Ideal FTy.bf16) : EReal) * s 1 2 (ix3 (0 : Fin 1) (0 : Fin 2) l) := by
  refine (piece_odd lo hi TAB hT par hpar _ (s 1 2) j l _ (nibN_lt 3 (w (ix2 ⟨128 + l.val, by omega⟩ ⟨64 + (2 * j.val + 1), by omega⟩))) ?_)
  rw [nibLow_apply, rows2_half1]; rfl
theorem piece_3_3_0 (j : Fin 16) (l : Fin 128) :
    sides (F := Ideal) par lo hi w s 15 0 (ix2 j l)
      = ((FloatOps.ofBits FTy.bf16 (TAB (nibN 3 (w (ix2 ⟨0 + l.val, by omega⟩ ⟨96 + (2 * j.val + 1), by omega⟩)))) : Ideal FTy.bf16) : EReal) * s 0 3 (ix3 (0 : Fin 1) (0 : Fin 2) l) := by
  refine (piece_odd lo hi TAB hT par hpar _ (s 0 3) j l _ (nibN_lt 3 (w (ix2 ⟨0 + l.val, by omega⟩ ⟨96 + (2 * j.val + 1), by omega⟩))) ?_)
  rw [nibLow_apply, rows3_half0]; rfl
theorem piece_3_3_1 (j : Fin 16) (l : Fin 128) :
    sides (F := Ideal) par lo hi w s 15 1 (ix2 j l)
      = ((FloatOps.ofBits FTy.bf16 (TAB (nibN 3 (w (ix2 ⟨128 + l.val, by omega⟩ ⟨96 + (2 * j.val + 1), by omega⟩)))) : Ideal FTy.bf16) : EReal) * s 1 3 (ix3 (0 : Fin 1) (0 : Fin 2) l) := by
  refine (piece_odd lo hi TAB hT par hpar _ (s 1 3) j l _ (nibN_lt 3 (w (ix2 ⟨128 + l.val, by omega⟩ ⟨96 + (2 * j.val + 1), by omega⟩))) ?_)
  rw [nibLow_apply, rows3_half1]; rfl

/-- A tile at an element: the table's entry at the nibble, times the scale of its block of sixty-four. -/
theorem decode_apply (q i : Fin 4) (j : Fin 16) (n : Fin 2) (l : Fin 128) :
    decodeTile (F := Ideal) par lo hi w s (ix2 ⟨16 * (4 * q.val + i.val) + j.val, by omega⟩ ⟨128 * n.val + l.val, by omega⟩)
      = ((FloatOps.ofBits FTy.bf16 (TAB (nibN q.val (w (ix2 ⟨128 * n.val + l.val, by omega⟩ ⟨32 * i.val + (2 * j.val + q.val / 2), by omega⟩)))) : Ideal FTy.bf16) : EReal)
        * s n i (ix3 (0 : Fin 1) (0 : Fin 2) l) := by
  refine (blocks_apply (fun a => concatenate S16x256 1 [⟨S16x128, sides par lo hi w s a 0⟩, ⟨S16x128, sides par lo hi w s a 1⟩]
    concatenates_S16x128_S16x128_S16x256_d1) concatenates_S16x256_S16x256_S16x256_S16x256_S16x256_S16x256_S16x256_S16x256_S16x256_S16x256_S16x256_S16x256_S16x256_S16x256_S16x256_S16x256_S256x256_d0 ⟨4 * q.val + i.val, by omega⟩ j _).trans ?_
  refine (sides_apply (sides par lo hi w s ⟨4 * q.val + i.val, by omega⟩) _ j n l).trans ?_
  match q, i, n with
  | 0, 0, 0 => exact piece_0_0_0 lo hi TAB hT par hpar w s j l
  | 0, 0, 1 => exact piece_0_0_1 lo hi TAB hT par hpar w s j l
  | 0, 1, 0 => exact piece_0_1_0 lo hi TAB hT par hpar w s j l
  | 0, 1, 1 => exact piece_0_1_1 lo hi TAB hT par hpar w s j l
  | 0, 2, 0 => exact piece_0_2_0 lo hi TAB hT par hpar w s j l
  | 0, 2, 1 => exact piece_0_2_1 lo hi TAB hT par hpar w s j l
  | 0, 3, 0 => exact piece_0_3_0 lo hi TAB hT par hpar w s j l
  | 0, 3, 1 => exact piece_0_3_1 lo hi TAB hT par hpar w s j l
  | 1, 0, 0 => exact piece_1_0_0 lo hi TAB hT par hpar w s j l
  | 1, 0, 1 => exact piece_1_0_1 lo hi TAB hT par hpar w s j l
  | 1, 1, 0 => exact piece_1_1_0 lo hi TAB hT par hpar w s j l
  | 1, 1, 1 => exact piece_1_1_1 lo hi TAB hT par hpar w s j l
  | 1, 2, 0 => exact piece_1_2_0 lo hi TAB hT par hpar w s j l
  | 1, 2, 1 => exact piece_1_2_1 lo hi TAB hT par hpar w s j l
  | 1, 3, 0 => exact piece_1_3_0 lo hi TAB hT par hpar w s j l
  | 1, 3, 1 => exact piece_1_3_1 lo hi TAB hT par hpar w s j l
  | 2, 0, 0 => exact piece_2_0_0 lo hi TAB hT par hpar w s j l
  | 2, 0, 1 => exact piece_2_0_1 lo hi TAB hT par hpar w s j l
  | 2, 1, 0 => exact piece_2_1_0 lo hi TAB hT par hpar w s j l
  | 2, 1, 1 => exact piece_2_1_1 lo hi TAB hT par hpar w s j l
  | 2, 2, 0 => exact piece_2_2_0 lo hi TAB hT par hpar w s j l
  | 2, 2, 1 => exact piece_2_2_1 lo hi TAB hT par hpar w s j l
  | 2, 3, 0 => exact piece_2_3_0 lo hi TAB hT par hpar w s j l
  | 2, 3, 1 => exact piece_2_3_1 lo hi TAB hT par hpar w s j l
  | 3, 0, 0 => exact piece_3_0_0 lo hi TAB hT par hpar w s j l
  | 3, 0, 1 => exact piece_3_0_1 lo hi TAB hT par hpar w s j l
  | 3, 1, 0 => exact piece_3_1_0 lo hi TAB hT par hpar w s j l
  | 3, 1, 1 => exact piece_3_1_1 lo hi TAB hT par hpar w s j l
  | 3, 2, 0 => exact piece_3_2_0 lo hi TAB hT par hpar w s j l
  | 3, 2, 1 => exact piece_3_2_1 lo hi TAB hT par hpar w s j l
  | 3, 3, 0 => exact piece_3_3_0 lo hi TAB hT par hpar w s j l
  | 3, 3, 1 => exact piece_3_3_1 lo hi TAB hT par hpar w s j l

end Tile

end Cert.KernelIdeal.Hand

end
-- ==== Proof.Tiles.lean ====
/-
  The decoded tiles of the kernel's five loops, each at an element: the entry of the code table that the weight's four bits
  choose, times the scale of the weight's block of sixty-four.
-/
module

public import proofs.«01_k».proof.Proof.Decode
public import proofs.«01_k».proof.Proof.Gen.KernelIdeal.Loops
public import Idealize.ShloMosaic.Lib.MatmulPlain
public import Idealize.ShloMosaic.PureOps.Ideal

@[expose] public section

set_option maxRecDepth 65536

noncomputable section

namespace Cert.KernelIdeal.Hand

open Cert.KernelIdeal Cert.KernelIdeal.Gen
open Idealize.ShloMosaic

variable {F : FTy → Type} [FloatOps F]

/-- A decoded tile at row `R` and column `C`, from the bytes and the scales of one chunk of 256 weights. -/
def tileAt (T : ℕ → BitVec 16) (w : Fin 256 → Fin 128 → BitVec 8) (s : Fin 4 → Fin 256 → EReal) (R C : Fin 256) : EReal :=
  ((FloatOps.ofBits FTy.bf16 (T (nibN (R.val / 64) (w C ⟨32 * (R.val / 16 % 4) + (2 * (R.val % 16) + R.val / 64 / 2), by omega⟩))) : Ideal FTy.bf16) : EReal)
    * s ⟨R.val / 16 % 4, by omega⟩ C

/-- A decoded tile whose scales are given by halves. -/
theorem decode_at (par : IVec S32x128 1) (lo hi : IVec S32x128 8) (T : ℕ → BitVec 16)
    (hT : ∀ (r : Fin 32) (x : Fin 128), x.val < 16 → hi (ix2 r x) ++ lo (ix2 r x) = T x.val)
    (hpar : ∀ (r : Fin 32) (l : Fin 128), par (ix2 r l) = BitVec.ofBool (r.val % 2 == 1))
    (w : IVec S256x128 8) (s : Fin 2 → Fin 4 → Vec Ideal S1x2x128 .bf16) (w' : Fin 256 → Fin 128 → BitVec 8) (s' : Fin 4 → Fin 256 → EReal)
    (hw : ∀ C b, w (ix2 C b) = w' C b)
    (hs : ∀ (n : Fin 2) (i : Fin 4) (l : Fin 128), s n i (ix3 (0 : Fin 1) (0 : Fin 2) l) = s' i ⟨128 * n.val + l.val, by omega⟩) (R C : Fin 256) :
    decodeTile (F := Ideal) par lo hi w s (ix2 R C) = tileAt T w' s' R C := by
  have e := decode_apply lo hi T hT par hpar w s ⟨R.val / 64, by omega⟩ ⟨R.val / 16 % 4, by omega⟩ ⟨R.val % 16, by omega⟩
    ⟨C.val / 128, by omega⟩ ⟨C.val % 128, by omega⟩
  have hR : (⟨16 * (4 * (R.val / 64) + R.val / 16 % 4) + R.val % 16, by omega⟩ : Fin 256) = R := Fin.ext (by simp only; omega)
  have hC : (⟨128 * (C.val / 128) + C.val % 128, by omega⟩ : Fin 256) = C := Fin.ext (by simp only; omega)
  simp only [hR, hC] at e
  rw [e, hs, hw]
  unfold tileAt
  simp only [hC]

/-- A load's place in a buffer of three axes. -/
theorem idx3 {N0 N1 N2 M0 M1 M2 : ℕ} (off : Fin 3 → ℕ) (inb : ∀ a, off a + (![M0, M1, M2] : Fin 3 → ℕ) a ≤ (⟨3, ![N0, N1, N2]⟩ : Shape).size a)
    (x0 : Fin M0) (x1 : Fin M1) (x2 : Fin M2) (y0 : Fin N0) (y1 : Fin N1) (y2 : Fin N2)
    (h0 : off 0 + x0.val = y0.val) (h1 : off 1 + x1.val = y1.val) (h2 : off 2 + x2.val = y2.val) :
    (Rect.unit (s := ⟨3, ![N0, N1, N2]⟩) off ![M0, M1, M2] inb).toLoadRect.idx (ix3 x0 x1 x2) = ix3 y0 y1 y2 := by
  funext a
  apply Fin.ext
  match a with
  | 0 => show off 0 + 1 * x0.val = y0.val; omega
  | 1 => show off 1 + 1 * x1.val = y1.val; omega
  | 2 => show off 2 + 1 * x2.val = y2.val; omega

/-- A load's place in a buffer of two axes. -/
theorem idx2 {N0 N1 M0 M1 : ℕ} (off : Fin 2 → ℕ) (inb : ∀ a, off a + (![M0, M1] : Fin 2 → ℕ) a ≤ (⟨2, ![N0, N1]⟩ : Shape).size a)
    (x0 : Fin M0) (x1 : Fin M1) (y0 : Fin N0) (y1 : Fin N1)
    (h0 : off 0 + x0.val = y0.val) (h1 : off 1 + x1.val = y1.val) :
    (Rect.unit (s := ⟨2, ![N0, N1]⟩) off ![M0, M1] inb).toLoadRect.idx (ix2 x0 x1) = ix2 y0 y1 := by
  funext a
  apply Fin.ext
  match a with
  | 0 => show off 0 + 1 * x0.val = y0.val; omega
  | 1 => show off 1 + 1 * x1.val = y1.val; omega

theorem cast_bytes {e : Type} (v : S1x256x128.Idx → e) (C : Fin 256) (b : Fin 128) :
    shapeCast S256x128 v shapeCasts_S1x256x128_S256x128 (ix2 C b) = v (ix3 (0 : Fin 1) C b) := by
  pointwise

/-- The bytes of a gate/up chunk. -/
def gateW (d : S1x256x2560.Idx → BitVec 8) (k : Fin 20) (C : Fin 256) (b : Fin 128) : BitVec 8 :=
  d (ix3 (0 : Fin 1) C ⟨128 * k.val + b.val, by omega⟩)
/-- The scales of a gate/up chunk. -/
def gateS (d : S80x2x256.Idx → EReal) (k : Fin 20) (i : Fin 4) (C : Fin 256) : EReal :=
  d (ix3 ⟨4 * k.val + i.val, by omega⟩ (0 : Fin 2) C)
/-- The bytes of a down chunk, in the block's `r`-th tile. -/
def downW (d : S1x1024x512.Idx → BitVec 8) (r k : Fin 4) (C : Fin 256) (b : Fin 128) : BitVec 8 :=
  d (ix3 (0 : Fin 1) ⟨256 * r.val + C.val, by omega⟩ ⟨128 * k.val + b.val, by omega⟩)
/-- The scales of a down chunk, in the block's `r`-th tile. -/
def downS (d : S16x2x1024.Idx → EReal) (r k i : Fin 4) (C : Fin 256) : EReal :=
  d (ix3 ⟨4 * k.val + i.val, by omega⟩ (0 : Fin 2) ⟨256 * r.val + C.val, by omega⟩)

section Tiles
variable (par : IVec S32x128 1) (T : ℕ → BitVec 16)

set_option maxHeartbeats 4000000 in
theorem tile_t1_eq (arg8 : Memref sig .tc .vmem S1x256x2560 .i8) (arg17 : Memref sig .tc .vmem S80x2x256 .bf16)
    (v27 v29 : IVec S32x128 8) (Xw : BufTy.Contents (Elt F) arg8.view.ty) (Xs : BufTy.Contents (Elt F) arg17.view.ty) (k : Fin k0_t1_loop.trips) :
    trip_k0_t1.sl.r_75 arg8 arg17 par v27 v29 Xw Xs k
      = decodeTile par v27 v29
          (shapeCast S256x128 (View.readAt (Elt F) arg8.view (Rect.unit (s := S1x256x2560) (k0_off3 k) S1x256x128.size (k0_off3_inb k)).toLoadRect Xw) shapeCasts_S1x256x128_S256x128)
          (![fun i => View.readAt (Elt F) arg17.view (Rect.unit (s := S80x2x256) (k0_off4 k (BitVec.ofNat 32 i.val)) S1x2x128.size (k0_off4_inb k i)).toLoadRect Xs,
            fun i => View.readAt (Elt F) arg17.view (Rect.unit (s := S80x2x256) (k0_off5 k (BitVec.ofNat 32 i.val)) S1x2x128.size (k0_off5_inb k i)).toLoadRect Xs]) := by
  rfl

theorem k0_off3_t1 : ∀ k : Fin k0_t1_loop.trips, k0_off3 k 0 = 0 ∧ k0_off3 k 1 = 0 ∧ k0_off3 k 2 = 128 * k.val := by decide
theorem k0_off4_t1 : ∀ (k : Fin k0_t1_loop.trips) (i : Fin 4), k0_off4 k (BitVec.ofNat 32 i.val) 0 = 4 * k.val + i.val ∧ k0_off4 k (BitVec.ofNat 32 i.val) 1 = 0 ∧ k0_off4 k (BitVec.ofNat 32 i.val) 2 = 0 := by decide
theorem k0_off5_t1 : ∀ (k : Fin k0_t1_loop.trips) (i : Fin 4), k0_off5 k (BitVec.ofNat 32 i.val) 0 = 4 * k.val + i.val ∧ k0_off5 k (BitVec.ofNat 32 i.val) 1 = 0 ∧ k0_off5 k (BitVec.ofNat 32 i.val) 2 = 128 := by decide

theorem tile_t1 (arg8 : Memref sig .tc .vmem S1x256x2560 .i8) (arg17 : Memref sig .tc .vmem S80x2x256 .bf16)
    (hpar : ∀ (r : Fin 32) (l : Fin 128), par (ix2 r l) = BitVec.ofBool (r.val % 2 == 1))
    (v27 v29 : IVec S32x128 8) (hT : ∀ (r : Fin 32) (x : Fin 128), x.val < 16 → v29 (ix2 r x) ++ v27 (ix2 r x) = T x.val)
    (Xw : BufTy.Contents (Elt Ideal) arg8.view.ty) (Xs : BufTy.Contents (Elt Ideal) arg17.view.ty) (k : Fin k0_t1_loop.trips) (R C : Fin 256) :
    trip_k0_t1.sl.r_75 (F := Ideal) arg8 arg17 par v27 v29 Xw Xs k (ix2 R C) = tileAt T (gateW (View.read (Elt Ideal) arg8.view Xw) ⟨k.val, k.isLt⟩) (gateS (View.read (Elt Ideal) arg17.view Xs) ⟨k.val, k.isLt⟩) R C := by
  rw [tile_t1_eq]
  refine decode_at par _ _ T hT hpar _ _ _ _ (fun C b => ?_) (fun n i l => ?_) R C
  · rw [cast_bytes, View.readAt_apply]
    have h := k0_off3_t1 k
    exact congrArg _ (idx3 _ _ _ _ _ _ _ _ (by rw [h.1]; rfl) (by rw [h.2.1]; first | rfl | (simp only; omega) | omega) (by rw [h.2.2]))
  · match n with
    | 0 =>
      have h := k0_off4_t1 k i
      refine (View.readAt_apply ..).trans (congrArg _ (idx3 _ _ _ _ _ _ _ _ (by rw [h.1]; rfl) (by rw [h.2.1]; rfl) (by rw [h.2.2]; simp only; omega)))
    | 1 =>
      have h := k0_off5_t1 k i
      refine (View.readAt_apply ..).trans (congrArg _ (idx3 _ _ _ _ _ _ _ _ (by rw [h.1]; rfl) (by rw [h.2.1]; rfl) (by rw [h.2.2]; simp only; omega)))

set_option maxHeartbeats 4000000 in
theorem tile_t1u_eq (arg10 : Memref sig .tc .vmem S1x256x2560 .i8) (arg18 : Memref sig .tc .vmem S80x2x256 .bf16)
    (v27 v29 : IVec S32x128 8) (Xw : BufTy.Contents (Elt F) arg10.view.ty) (Xs : BufTy.Contents (Elt F) arg18.view.ty) (k : Fin k0_t1_loop.trips) :
    trip_k0_t1.sl.v1330 arg10 arg18 par v27 v29 Xw Xs k
      = decodeTile par v27 v29
          (shapeCast S256x128 (View.readAt (Elt F) arg10.view (Rect.unit (s := S1x256x2560) (k0_off3 k) S1x256x128.size (k0_off3_inb k)).toLoadRect Xw) shapeCasts_S1x256x128_S256x128)
          (![fun i => View.readAt (Elt F) arg18.view (Rect.unit (s := S80x2x256) (k0_off4 k (BitVec.ofNat 32 i.val)) S1x2x128.size (k0_off4_inb k i)).toLoadRect Xs,
            fun i => View.readAt (Elt F) arg18.view (Rect.unit (s := S80x2x256) (k0_off5 k (BitVec.ofNat 32 i.val)) S1x2x128.size (k0_off5_inb k i)).toLoadRect Xs]) := by
  rfl

theorem k0_off3_t1u : ∀ k : Fin k0_t1_loop.trips, k0_off3 k 0 = 0 ∧ k0_off3 k 1 = 0 ∧ k0_off3 k 2 = 128 * k.val := by decide
theorem k0_off4_t1u : ∀ (k : Fin k0_t1_loop.trips) (i : Fin 4), k0_off4 k (BitVec.ofNat 32 i.val) 0 = 4 * k.val + i.val ∧ k0_off4 k (BitVec.ofNat 32 i.val) 1 = 0 ∧ k0_off4 k (BitVec.ofNat 32 i.val) 2 = 0 := by decide
theorem k0_off5_t1u : ∀ (k : Fin k0_t1_loop.trips) (i : Fin 4), k0_off5 k (BitVec.ofNat 32 i.val) 0 = 4 * k.val + i.val ∧ k0_off5 k (BitVec.ofNat 32 i.val) 1 = 0 ∧ k0_off5 k (BitVec.ofNat 32 i.val) 2 = 128 := by decide

theorem tile_t1u (arg10 : Memref sig .tc .vmem S1x256x2560 .i8) (arg18 : Memref sig .tc .vmem S80x2x256 .bf16)
    (hpar : ∀ (r : Fin 32) (l : Fin 128), par (ix2 r l) = BitVec.ofBool (r.val % 2 == 1))
    (v27 v29 : IVec S32x128 8) (hT : ∀ (r : Fin 32) (x : Fin 128), x.val < 16 → v29 (ix2 r x) ++ v27 (ix2 r x) = T x.val)
    (Xw : BufTy.Contents (Elt Ideal) arg10.view.ty) (Xs : BufTy.Contents (Elt Ideal) arg18.view.ty) (k : Fin k0_t1_loop.trips) (R C : Fin 256) :
    trip_k0_t1.sl.v1330 (F := Ideal) arg10 arg18 par v27 v29 Xw Xs k (ix2 R C) = tileAt T (gateW (View.read (Elt Ideal) arg10.view Xw) ⟨k.val, k.isLt⟩) (gateS (View.read (Elt Ideal) arg18.view Xs) ⟨k.val, k.isLt⟩) R C := by
  rw [tile_t1u_eq]
  refine decode_at par _ _ T hT hpar _ _ _ _ (fun C b => ?_) (fun n i l => ?_) R C
  · rw [cast_bytes, View.readAt_apply]
    have h := k0_off3_t1u k
    exact congrArg _ (idx3 _ _ _ _ _ _ _ _ (by rw [h.1]; rfl) (by rw [h.2.1]; first | rfl | (simp only; omega) | omega) (by rw [h.2.2]))
  · match n with
    | 0 =>
      have h := k0_off4_t1u k i
      refine (View.readAt_apply ..).trans (congrArg _ (idx3 _ _ _ _ _ _ _ _ (by rw [h.1]; rfl) (by rw [h.2.1]; rfl) (by rw [h.2.2]; simp only; omega)))
    | 1 =>
      have h := k0_off5_t1u k i
      refine (View.readAt_apply ..).trans (congrArg _ (idx3 _ _ _ _ _ _ _ _ (by rw [h.1]; rfl) (by rw [h.2.1]; rfl) (by rw [h.2.2]; simp only; omega)))

set_option maxHeartbeats 4000000 in
theorem tile_t2_eq (arg12 : Memref sig .tc .vmem S1x1024x512 .i8) (arg19 : Memref sig .tc .vmem S16x2x1024 .bf16)
    (v26 v28 : Vec F S1x32x128 .i8) (Xw : BufTy.Contents (Elt F) arg12.view.ty) (Xs : BufTy.Contents (Elt F) arg19.view.ty) (k : Fin k0_t2_loop.trips) :
    trip_k0_t2.sl.v755 arg12 arg19 par v26 v28 Xw Xs k
      = decodeTile par (shapeCast S32x128 v26 shapeCasts_S1x32x128_S32x128) (shapeCast S32x128 v28 shapeCasts_S1x32x128_S32x128)
          (shapeCast S256x128 (View.readAt (Elt F) arg12.view (Rect.unit (s := S1x1024x512) (k0_off7 k) S1x256x128.size (k0_off7_inb k)).toLoadRect Xw) shapeCasts_S1x256x128_S256x128)
          (![fun i => View.readAt (Elt F) arg19.view (Rect.unit (s := S16x2x1024) (k0_off8 k (BitVec.ofNat 32 i.val)) S1x2x128.size (k0_off8_inb k i)).toLoadRect Xs,
            fun i => View.readAt (Elt F) arg19.view (Rect.unit (s := S16x2x1024) (k0_off9 k (BitVec.ofNat 32 i.val)) S1x2x128.size (k0_off9_inb k i)).toLoadRect Xs]) := by
  rfl

theorem k0_off7_t2 : ∀ k : Fin k0_t2_loop.trips, k0_off7 k 0 = 0 ∧ k0_off7 k 1 = 0 ∧ k0_off7 k 2 = 128 * k.val := by decide
theorem k0_off8_t2 : ∀ (k : Fin k0_t2_loop.trips) (i : Fin 4), k0_off8 k (BitVec.ofNat 32 i.val) 0 = 4 * k.val + i.val ∧ k0_off8 k (BitVec.ofNat 32 i.val) 1 = 0 ∧ k0_off8 k (BitVec.ofNat 32 i.val) 2 = 0 := by decide
theorem k0_off9_t2 : ∀ (k : Fin k0_t2_loop.trips) (i : Fin 4), k0_off9 k (BitVec.ofNat 32 i.val) 0 = 4 * k.val + i.val ∧ k0_off9 k (BitVec.ofNat 32 i.val) 1 = 0 ∧ k0_off9 k (BitVec.ofNat 32 i.val) 2 = 128 := by decide

theorem tile_t2 (arg12 : Memref sig .tc .vmem S1x1024x512 .i8) (arg19 : Memref sig .tc .vmem S16x2x1024 .bf16)
    (hpar : ∀ (r : Fin 32) (l : Fin 128), par (ix2 r l) = BitVec.ofBool (r.val % 2 == 1))
    (v26 v28 : Vec Ideal S1x32x128 .i8) (hT : ∀ (r : Fin 32) (x : Fin 128), x.val < 16 → (shapeCast S32x128 v28 shapeCasts_S1x32x128_S32x128) (ix2 r x) ++ (shapeCast S32x128 v26 shapeCasts_S1x32x128_S32x128) (ix2 r x) = T x.val)
    (Xw : BufTy.Contents (Elt Ideal) arg12.view.ty) (Xs : BufTy.Contents (Elt Ideal) arg19.view.ty) (k : Fin k0_t2_loop.trips) (R C : Fin 256) :
    trip_k0_t2.sl.v755 (F := Ideal) arg12 arg19 par v26 v28 Xw Xs k (ix2 R C) = tileAt T (downW (View.read (Elt Ideal) arg12.view Xw) 0 ⟨k.val, k.isLt⟩) (downS (View.read (Elt Ideal) arg19.view Xs) 0 ⟨k.val, k.isLt⟩) R C := by
  rw [tile_t2_eq]
  refine decode_at par _ _ T hT hpar _ _ _ _ (fun C b => ?_) (fun n i l => ?_) R C
  · rw [cast_bytes, View.readAt_apply]
    have h := k0_off7_t2 k
    exact congrArg _ (idx3 _ _ _ _ _ _ _ _ (by rw [h.1]; rfl) (by rw [h.2.1]; first | rfl | (simp only; omega) | omega) (by rw [h.2.2]))
  · match n with
    | 0 =>
      have h := k0_off8_t2 k i
      refine (View.readAt_apply ..).trans (congrArg _ (idx3 _ _ _ _ _ _ _ _ (by rw [h.1]; rfl) (by rw [h.2.1]; rfl) (by rw [h.2.2]; simp only; omega)))
    | 1 =>
      have h := k0_off9_t2 k i
      refine (View.readAt_apply ..).trans (congrArg _ (idx3 _ _ _ _ _ _ _ _ (by rw [h.1]; rfl) (by rw [h.2.1]; rfl) (by rw [h.2.2]; simp only; omega)))

set_option maxHeartbeats 4000000 in
theorem tile_t3_eq (arg12 : Memref sig .tc .vmem S1x1024x512 .i8) (arg19 : Memref sig .tc .vmem S16x2x1024 .bf16)
    (v27 v29 : IVec S32x128 8) (Xw : BufTy.Contents (Elt F) arg12.view.ty) (Xs : BufTy.Contents (Elt F) arg19.view.ty) (k : Fin k0_t3_loop.trips) :
    trip_k0_t3.sl.v755 arg12 arg19 par v27 v29 Xw Xs k
      = decodeTile par v27 v29
          (shapeCast S256x128 (View.readAt (Elt F) arg12.view (Rect.unit (s := S1x1024x512) (k0_off12 k) S1x256x128.size (k0_off12_inb k)).toLoadRect Xw) shapeCasts_S1x256x128_S256x128)
          (![fun i => View.readAt (Elt F) arg19.view (Rect.unit (s := S16x2x1024) (k0_off13 k (BitVec.ofNat 32 i.val)) S1x2x128.size (k0_off13_inb k i)).toLoadRect Xs,
            fun i => View.readAt (Elt F) arg19.view (Rect.unit (s := S16x2x1024) (k0_off14 k (BitVec.ofNat 32 i.val)) S1x2x128.size (k0_off14_inb k i)).toLoadRect Xs]) := by
  rfl

theorem k0_off12_t3 : ∀ k : Fin k0_t3_loop.trips, k0_off12 k 0 = 0 ∧ k0_off12 k 1 = 256 ∧ k0_off12 k 2 = 128 * k.val := by decide
theorem k0_off13_t3 : ∀ (k : Fin k0_t3_loop.trips) (i : Fin 4), k0_off13 k (BitVec.ofNat 32 i.val) 0 = 4 * k.val + i.val ∧ k0_off13 k (BitVec.ofNat 32 i.val) 1 = 0 ∧ k0_off13 k (BitVec.ofNat 32 i.val) 2 = 256 := by decide
theorem k0_off14_t3 : ∀ (k : Fin k0_t3_loop.trips) (i : Fin 4), k0_off14 k (BitVec.ofNat 32 i.val) 0 = 4 * k.val + i.val ∧ k0_off14 k (BitVec.ofNat 32 i.val) 1 = 0 ∧ k0_off14 k (BitVec.ofNat 32 i.val) 2 = 384 := by decide

theorem tile_t3 (arg12 : Memref sig .tc .vmem S1x1024x512 .i8) (arg19 : Memref sig .tc .vmem S16x2x1024 .bf16)
    (hpar : ∀ (r : Fin 32) (l : Fin 128), par (ix2 r l) = BitVec.ofBool (r.val % 2 == 1))
    (v27 v29 : IVec S32x128 8) (hT : ∀ (r : Fin 32) (x : Fin 128), x.val < 16 → v29 (ix2 r x) ++ v27 (ix2 r x) = T x.val)
    (Xw : BufTy.Contents (Elt Ideal) arg12.view.ty) (Xs : BufTy.Contents (Elt Ideal) arg19.view.ty) (k : Fin k0_t3_loop.trips) (R C : Fin 256) :
    trip_k0_t3.sl.v755 (F := Ideal) arg12 arg19 par v27 v29 Xw Xs k (ix2 R C) = tileAt T (downW (View.read (Elt Ideal) arg12.view Xw) 1 ⟨k.val, k.isLt⟩) (downS (View.read (Elt Ideal) arg19.view Xs) 1 ⟨k.val, k.isLt⟩) R C := by
  rw [tile_t3_eq]
  refine decode_at par _ _ T hT hpar _ _ _ _ (fun C b => ?_) (fun n i l => ?_) R C
  · rw [cast_bytes, View.readAt_apply]
    have h := k0_off12_t3 k
    exact congrArg _ (idx3 _ _ _ _ _ _ _ _ (by rw [h.1]; rfl) (by rw [h.2.1]; first | rfl | (simp only; omega) | omega) (by rw [h.2.2]))
  · match n with
    | 0 =>
      have h := k0_off13_t3 k i
      refine (View.readAt_apply ..).trans (congrArg _ (idx3 _ _ _ _ _ _ _ _ (by rw [h.1]; rfl) (by rw [h.2.1]; rfl) (by rw [h.2.2]; simp only; omega)))
    | 1 =>
      have h := k0_off14_t3 k i
      refine (View.readAt_apply ..).trans (congrArg _ (idx3 _ _ _ _ _ _ _ _ (by rw [h.1]; rfl) (by rw [h.2.1]; rfl) (by rw [h.2.2]; simp only; omega)))

set_option maxHeartbeats 4000000 in
theorem tile_t4_eq (arg12 : Memref sig .tc .vmem S1x1024x512 .i8) (arg19 : Memref sig .tc .vmem S16x2x1024 .bf16)
    (v27 v29 : IVec S32x128 8) (Xw : BufTy.Contents (Elt F) arg12.view.ty) (Xs : BufTy.Contents (Elt F) arg19.view.ty) (k : Fin k0_t4_loop.trips) :
    trip_k0_t4.sl.v755 arg12 arg19 par v27 v29 Xw Xs k
      = decodeTile par v27 v29
          (shapeCast S256x128 (View.readAt (Elt F) arg12.view (Rect.unit (s := S1x1024x512) (k0_off16 k) S1x256x128.size (k0_off16_inb k)).toLoadRect Xw) shapeCasts_S1x256x128_S256x128)
          (![fun i => View.readAt (Elt F) arg19.view (Rect.unit (s := S16x2x1024) (k0_off17 k (BitVec.ofNat 32 i.val)) S1x2x128.size (k0_off17_inb k i)).toLoadRect Xs,
            fun i => View.readAt (Elt F) arg19.view (Rect.unit (s := S16x2x1024) (k0_off18 k (BitVec.ofNat 32 i.val)) S1x2x128.size (k0_off18_inb k i)).toLoadRect Xs]) := by
  rfl

theorem k0_off16_t4 : ∀ k : Fin k0_t4_loop.trips, k0_off16 k 0 = 0 ∧ k0_off16 k 1 = 512 ∧ k0_off16 k 2 = 128 * k.val := by decide
theorem k0_off17_t4 : ∀ (k : Fin k0_t4_loop.trips) (i : Fin 4), k0_off17 k (BitVec.ofNat 32 i.val) 0 = 4 * k.val + i.val ∧ k0_off17 k (BitVec.ofNat 32 i.val) 1 = 0 ∧ k0_off17 k (BitVec.ofNat 32 i.val) 2 = 512 := by decide
theorem k0_off18_t4 : ∀ (k : Fin k0_t4_loop.trips) (i : Fin 4), k0_off18 k (BitVec.ofNat 32 i.val) 0 = 4 * k.val + i.val ∧ k0_off18 k (BitVec.ofNat 32 i.val) 1 = 0 ∧ k0_off18 k (BitVec.ofNat 32 i.val) 2 = 640 := by decide

theorem tile_t4 (arg12 : Memref sig .tc .vmem S1x1024x512 .i8) (arg19 : Memref sig .tc .vmem S16x2x1024 .bf16)
    (hpar : ∀ (r : Fin 32) (l : Fin 128), par (ix2 r l) = BitVec.ofBool (r.val % 2 == 1))
    (v27 v29 : IVec S32x128 8) (hT : ∀ (r : Fin 32) (x : Fin 128), x.val < 16 → v29 (ix2 r x) ++ v27 (ix2 r x) = T x.val)
    (Xw : BufTy.Contents (Elt Ideal) arg12.view.ty) (Xs : BufTy.Contents (Elt Ideal) arg19.view.ty) (k : Fin k0_t4_loop.trips) (R C : Fin 256) :
    trip_k0_t4.sl.v755 (F := Ideal) arg12 arg19 par v27 v29 Xw Xs k (ix2 R C) = tileAt T (downW (View.read (Elt Ideal) arg12.view Xw) 2 ⟨k.val, k.isLt⟩) (downS (View.read (Elt Ideal) arg19.view Xs) 2 ⟨k.val, k.isLt⟩) R C := by
  rw [tile_t4_eq]
  refine decode_at par _ _ T hT hpar _ _ _ _ (fun C b => ?_) (fun n i l => ?_) R C
  · rw [cast_bytes, View.readAt_apply]
    have h := k0_off16_t4 k
    exact congrArg _ (idx3 _ _ _ _ _ _ _ _ (by rw [h.1]; rfl) (by rw [h.2.1]; first | rfl | (simp only; omega) | omega) (by rw [h.2.2]))
  · match n with
    | 0 =>
      have h := k0_off17_t4 k i
      refine (View.readAt_apply ..).trans (congrArg _ (idx3 _ _ _ _ _ _ _ _ (by rw [h.1]; rfl) (by rw [h.2.1]; rfl) (by rw [h.2.2]; simp only; omega)))
    | 1 =>
      have h := k0_off18_t4 k i
      refine (View.readAt_apply ..).trans (congrArg _ (idx3 _ _ _ _ _ _ _ _ (by rw [h.1]; rfl) (by rw [h.2.1]; rfl) (by rw [h.2.2]; simp only; omega)))

set_option maxHeartbeats 4000000 in
theorem tile_t5_eq (arg12 : Memref sig .tc .vmem S1x1024x512 .i8) (arg19 : Memref sig .tc .vmem S16x2x1024 .bf16)
    (v27 v29 : IVec S32x128 8) (Xw : BufTy.Contents (Elt F) arg12.view.ty) (Xs : BufTy.Contents (Elt F) arg19.view.ty) (k : Fin k0_t5_loop.trips) :
    trip_k0_t5.sl.v755 arg12 arg19 par v27 v29 Xw Xs k
      = decodeTile par v27 v29
          (shapeCast S256x128 (View.readAt (Elt F) arg12.view (Rect.unit (s := S1x1024x512) (k0_off20 k) S1x256x128.size (k0_off20_inb k)).toLoadRect Xw) shapeCasts_S1x256x128_S256x128)
          (![fun i => View.readAt (Elt F) arg19.view (Rect.unit (s := S16x2x1024) (k0_off21 k (BitVec.ofNat 32 i.val)) S1x2x128.size (k0_off21_inb k i)).toLoadRect Xs,
            fun i => View.readAt (Elt F) arg19.view (Rect.unit (s := S16x2x1024) (k0_off22 k (BitVec.ofNat 32 i.val)) S1x2x128.size (k0_off22_inb k i)).toLoadRect Xs]) := by
  rfl

theorem k0_off20_t5 : ∀ k : Fin k0_t5_loop.trips, k0_off20 k 0 = 0 ∧ k0_off20 k 1 = 768 ∧ k0_off20 k 2 = 128 * k.val := by decide
theorem k0_off21_t5 : ∀ (k : Fin k0_t5_loop.trips) (i : Fin 4), k0_off21 k (BitVec.ofNat 32 i.val) 0 = 4 * k.val + i.val ∧ k0_off21 k (BitVec.ofNat 32 i.val) 1 = 0 ∧ k0_off21 k (BitVec.ofNat 32 i.val) 2 = 768 := by decide
theorem k0_off22_t5 : ∀ (k : Fin k0_t5_loop.trips) (i : Fin 4), k0_off22 k (BitVec.ofNat 32 i.val) 0 = 4 * k.val + i.val ∧ k0_off22 k (BitVec.ofNat 32 i.val) 1 = 0 ∧ k0_off22 k (BitVec.ofNat 32 i.val) 2 = 896 := by decide

theorem tile_t5 (arg12 : Memref sig .tc .vmem S1x1024x512 .i8) (arg19 : Memref sig .tc .vmem S16x2x1024 .bf16)
    (hpar : ∀ (r : Fin 32) (l : Fin 128), par (ix2 r l) = BitVec.ofBool (r.val % 2 == 1))
    (v27 v29 : IVec S32x128 8) (hT : ∀ (r : Fin 32) (x : Fin 128), x.val < 16 → v29 (ix2 r x) ++ v27 (ix2 r x) = T x.val)
    (Xw : BufTy.Contents (Elt Ideal) arg12.view.ty) (Xs : BufTy.Contents (Elt Ideal) arg19.view.ty) (k : Fin k0_t5_loop.trips) (R C : Fin 256) :
    trip_k0_t5.sl.v755 (F := Ideal) arg12 arg19 par v27 v29 Xw Xs k (ix2 R C) = tileAt T (downW (View.read (Elt Ideal) arg12.view Xw) 3 ⟨k.val, k.isLt⟩) (downS (View.read (Elt Ideal) arg19.view Xs) 3 ⟨k.val, k.isLt⟩) R C := by
  rw [tile_t5_eq]
  refine decode_at par _ _ T hT hpar _ _ _ _ (fun C b => ?_) (fun n i l => ?_) R C
  · rw [cast_bytes, View.readAt_apply]
    have h := k0_off20_t5 k
    exact congrArg _ (idx3 _ _ _ _ _ _ _ _ (by rw [h.1]; rfl) (by rw [h.2.1]; first | rfl | (simp only; omega) | omega) (by rw [h.2.2]))
  · match n with
    | 0 =>
      have h := k0_off21_t5 k i
      refine (View.readAt_apply ..).trans (congrArg _ (idx3 _ _ _ _ _ _ _ _ (by rw [h.1]; rfl) (by rw [h.2.1]; rfl) (by rw [h.2.2]; simp only; omega)))
    | 1 =>
      have h := k0_off22_t5 k i
      refine (View.readAt_apply ..).trans (congrArg _ (idx3 _ _ _ _ _ _ _ _ (by rw [h.1]; rfl) (by rw [h.2.1]; rfl) (by rw [h.2.2]; simp only; omega)))

end Tiles

end Cert.KernelIdeal.Hand

end
-- ==== Proof.Sums.lean ====
/-
  The kernel's five loops as sums over their trips.
-/
module

public import proofs.«01_k».proof.Proof.Tiles

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F]

/-- The matrix unit's product from a zero accumulator, at an element. -/
theorem mm_apply (x : FVec Ideal S192x256 .bf16) (w : FVec Ideal S256x256 .bf16) (t : Fin 192) (C : Fin 256) :
    matmul dot_S192x256_S256x256_S192x256_1_0_0_1_n_n none x w (constant (F := Ideal) S192x256 .f32 0x00000000#32) (ix2 t C)
      = ∑ R : Fin 256, (x (ix2 t R) : EReal) * w (ix2 R C) := by
  refine (Ideal.matmul_plain_apply (M := 192) (K := 256) (N := 256) none x w _ t C).trans ?_
  have h0 : (constant (F := Ideal) S192x256 .f32 0x00000000#32 (ix2 t C) : EReal) = 0 := by
    pointwise
  exact (congrArg (· + _) h0).trans (zero_add _)

theorem cast_row {e : Type} (v : S1x192x256.Idx → e) (t : Fin 192) (R : Fin 256) :
    shapeCast S192x256 v shapeCasts_S1x192x256_S192x256 (ix2 t R) = v (ix3 (0 : Fin 1) t R) := by
  pointwise

theorem cast_same {e : Type} (v : S192x256.Idx → e) (t : Fin 192) (R : Fin 256) :
    shapeCast S192x256 v shapeCasts_S192x256_S192x256 (ix2 t R) = v (ix2 t R) := by
  pointwise

/-- One chunk of a gate/up product. -/
def gateTerm (x : S192x5120.Idx → EReal) (T : ℕ → BitVec 16) (w : S1x256x2560.Idx → BitVec 8) (s : S80x2x256.Idx → EReal) (t : Fin 192) (C : Fin 256) (k : Fin 20) : EReal :=
  ∑ R : Fin 256, x (ix2 t ⟨256 * k.val + R.val, by omega⟩) * tileAt T (gateW w k) (gateS s k) R C
/-- One chunk of a down product, for the block's `r`-th tile. -/
def downTerm (h : S4x192x256.Idx → EReal) (T : ℕ → BitVec 16) (w : S1x1024x512.Idx → BitVec 8) (s : S16x2x1024.Idx → EReal) (r : Fin 4) (t : Fin 192) (C : Fin 256) (k : Fin 4) : EReal :=
  ∑ R : Fin 256, h (ix3 k t R) * tileAt T (downW w r k) (downS s r k) R C

/-- A recursion that adds one term a trip is the sum of its terms. -/
theorem fold_sum {N : ℕ} (f : ℕ → EReal) (g : Fin N → EReal) (hf : ∀ k : Fin N, f (k.val + 1) = f k.val + g k) :
    f N = f 0 + ∑ k : Fin N, g k := by
  induction N with
  | zero => simp
  | succ n ih =>
    rw [Fin.sum_univ_castSucc, ← add_assoc, ← ih (fun k => g k.castSucc) fun k => hf k.castSucc]
    exact hf (Fin.last n)

theorem off2_t1 : ∀ k : Fin k0_t1_loop.trips, k0_off2 k 0 = 0 ∧ k0_off2 k 1 = 256 * k.val := by decide
theorem xrow (arg4 : Memref sig .tc .vmem S192x5120 .bf16) (X_arg4 : BufTy.Contents (Elt Ideal) arg4.view.ty) (k : Fin k0_t1_loop.trips) (t : Fin 192) (R : Fin 256) :
    trip_k0_t1.sl.v64 (F := Ideal) arg4 X_arg4 k (ix2 t R) = View.read (Elt Ideal) arg4.view X_arg4 (ix2 t ⟨256 * k.val + R.val, by have := k.isLt; simp only [show k0_t1_loop.trips = 20 from rfl] at this; omega⟩) := by
  have h := off2_t1 k
  unfold trip_k0_t1.sl.v64
  exact (cast_same _ _ _).trans ((View.readAt_apply ..).trans (congrArg _ (idx2 _ _ _ _ _ _ (by rw [h.1]; omega) (by rw [h.2]))))

theorem trip_gate (c : Dev nD) (bd : Option Variants.none.V) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (v25 : IVec S32x128 1) (v27 : IVec S32x128 8) (v29 : IVec S32x128 8) (c0_i32_23 : BitVec 32) (X_arg4 : BufTy.Contents (Elt Ideal) arg4.view.ty) (X_arg8 : BufTy.Contents (Elt Ideal) arg8.view.ty) (X_arg10 : BufTy.Contents (Elt Ideal) arg10.view.ty) (X_arg17 : BufTy.Contents (Elt Ideal) arg17.view.ty) (X_arg18 : BufTy.Contents (Elt Ideal) arg18.view.ty)
    (T : ℕ → BitVec 16) (hpar : ∀ (r : Fin 32) (l : Fin 128), v25 (ix2 r l) = BitVec.ofBool (r.val % 2 == 1))
    (hT : ∀ (r : Fin 32) (x : Fin 128), x.val < 16 → v29 (ix2 r x) ++ v27 (ix2 r x) = T x.val)
    (k : Fin k0_t1_loop.trips) (acc : FVec Ideal S192x256 .f32 × FVec Ideal S192x256 .f32) (t : Fin 192) (C : Fin 256) :
    ((tripR_k0_t1 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29 c0_i32_23 X_arg4 X_arg8 X_arg10 X_arg17 X_arg18 k acc).1 (ix2 t C) : EReal) = acc.1 (ix2 t C) + gateTerm (View.read (Elt Ideal) arg4.view X_arg4) T (View.read (Elt Ideal) arg8.view X_arg8) (View.read (Elt Ideal) arg17.view X_arg17) t C ⟨k.val, k.isLt⟩ := by
  unfold tripR_k0_t1 trip_k0_t1
  show (acc.1 (ix2 t C) : EReal) + matmul dot_S192x256_S256x256_S192x256_1_0_0_1_n_n none _ _ (constant (F := Ideal) S192x256 .f32 0x00000000#32) (ix2 t C) = _
  rw [mm_apply]
  refine congrArg _ (Finset.sum_congr rfl fun R _ => congrArg₂ (· * ·) ?_ ?_)
  · exact xrow arg4 X_arg4 k t R
  · exact tile_t1 v25 T arg8 arg17 hpar v27 v29 hT X_arg8 X_arg17 k R C

/-- The gate product. -/
theorem st_gate (c : Dev nD) (bd : Option Variants.none.V) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (v25 : IVec S32x128 1) (v27 : IVec S32x128 8) (v29 : IVec S32x128 8) (c0_i32_23 : BitVec 32) (X_arg4 : BufTy.Contents (Elt Ideal) arg4.view.ty) (X_arg8 : BufTy.Contents (Elt Ideal) arg8.view.ty) (X_arg10 : BufTy.Contents (Elt Ideal) arg10.view.ty) (X_arg17 : BufTy.Contents (Elt Ideal) arg17.view.ty) (X_arg18 : BufTy.Contents (Elt Ideal) arg18.view.ty)
    (T : ℕ → BitVec 16) (hpar : ∀ (r : Fin 32) (l : Fin 128), v25 (ix2 r l) = BitVec.ofBool (r.val % 2 == 1))
    (hT : ∀ (r : Fin 32) (x : Fin 128), x.val < 16 → v29 (ix2 r x) ++ v27 (ix2 r x) = T x.val)
    (init : FVec Ideal S192x256 .f32 × FVec Ideal S192x256 .f32) (t : Fin 192) (C : Fin 256) :
    ((st_k0_t1 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29 c0_i32_23 X_arg4 X_arg8 X_arg10 X_arg17 X_arg18 init (Scf.trips k0_t1_loop.lb k0_t1_loop.ub k0_t1_loop.st)).1 (ix2 t C) : EReal)
      = init.1 (ix2 t C) + ∑ k : Fin 20, gateTerm (View.read (Elt Ideal) arg4.view X_arg4) T (View.read (Elt Ideal) arg8.view X_arg8) (View.read (Elt Ideal) arg17.view X_arg17) t C k :=
  fold_sum (N := 20) (fun n => ((st_k0_t1 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29 c0_i32_23 X_arg4 X_arg8 X_arg10 X_arg17 X_arg18 init n).1 (ix2 t C) : EReal)) _ fun k => by
    show ((st_k0_t1 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29 c0_i32_23 X_arg4 X_arg8 X_arg10 X_arg17 X_arg18 init (k.val + 1)).1 (ix2 t C) : EReal) = _
    rw [st_k0_t1_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29 c0_i32_23 X_arg4 X_arg8 X_arg10 X_arg17 X_arg18 init ⟨k.val, k.isLt⟩]
    exact trip_gate c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29 c0_i32_23 X_arg4 X_arg8 X_arg10 X_arg17 X_arg18 T hpar hT ⟨k.val, k.isLt⟩ _ t C

theorem trip_up (c : Dev nD) (bd : Option Variants.none.V) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (v25 : IVec S32x128 1) (v27 : IVec S32x128 8) (v29 : IVec S32x128 8) (c0_i32_23 : BitVec 32) (X_arg4 : BufTy.Contents (Elt Ideal) arg4.view.ty) (X_arg8 : BufTy.Contents (Elt Ideal) arg8.view.ty) (X_arg10 : BufTy.Contents (Elt Ideal) arg10.view.ty) (X_arg17 : BufTy.Contents (Elt Ideal) arg17.view.ty) (X_arg18 : BufTy.Contents (Elt Ideal) arg18.view.ty)
    (T : ℕ → BitVec 16) (hpar : ∀ (r : Fin 32) (l : Fin 128), v25 (ix2 r l) = BitVec.ofBool (r.val % 2 == 1))
    (hT : ∀ (r : Fin 32) (x : Fin 128), x.val < 16 → v29 (ix2 r x) ++ v27 (ix2 r x) = T x.val)
    (k : Fin k0_t1_loop.trips) (acc : FVec Ideal S192x256 .f32 × FVec Ideal S192x256 .f32) (t : Fin 192) (C : Fin 256) :
    ((tripR_k0_t1 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29 c0_i32_23 X_arg4 X_arg8 X_arg10 X_arg17 X_arg18 k acc).2 (ix2 t C) : EReal) = acc.2 (ix2 t C) + gateTerm (View.read (Elt Ideal) arg4.view X_arg4) T (View.read (Elt Ideal) arg10.view X_arg10) (View.read (Elt Ideal) arg18.view X_arg18) t C ⟨k.val, k.isLt⟩ := by
  unfold tripR_k0_t1 trip_k0_t1
  show (acc.2 (ix2 t C) : EReal) + matmul dot_S192x256_S256x256_S192x256_1_0_0_1_n_n none _ _ (constant (F := Ideal) S192x256 .f32 0x00000000#32) (ix2 t C) = _
  rw [mm_apply]
  refine congrArg _ (Finset.sum_congr rfl fun R _ => congrArg₂ (· * ·) ?_ ?_)
  · exact xrow arg4 X_arg4 k t R
  · exact tile_t1u v25 T arg10 arg18 hpar v27 v29 hT X_arg10 X_arg18 k R C

/-- The up product. -/
theorem st_up (c : Dev nD) (bd : Option Variants.none.V) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (v25 : IVec S32x128 1) (v27 : IVec S32x128 8) (v29 : IVec S32x128 8) (c0_i32_23 : BitVec 32) (X_arg4 : BufTy.Contents (Elt Ideal) arg4.view.ty) (X_arg8 : BufTy.Contents (Elt Ideal) arg8.view.ty) (X_arg10 : BufTy.Contents (Elt Ideal) arg10.view.ty) (X_arg17 : BufTy.Contents (Elt Ideal) arg17.view.ty) (X_arg18 : BufTy.Contents (Elt Ideal) arg18.view.ty)
    (T : ℕ → BitVec 16) (hpar : ∀ (r : Fin 32) (l : Fin 128), v25 (ix2 r l) = BitVec.ofBool (r.val % 2 == 1))
    (hT : ∀ (r : Fin 32) (x : Fin 128), x.val < 16 → v29 (ix2 r x) ++ v27 (ix2 r x) = T x.val)
    (init : FVec Ideal S192x256 .f32 × FVec Ideal S192x256 .f32) (t : Fin 192) (C : Fin 256) :
    ((st_k0_t1 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29 c0_i32_23 X_arg4 X_arg8 X_arg10 X_arg17 X_arg18 init (Scf.trips k0_t1_loop.lb k0_t1_loop.ub k0_t1_loop.st)).2 (ix2 t C) : EReal)
      = init.2 (ix2 t C) + ∑ k : Fin 20, gateTerm (View.read (Elt Ideal) arg4.view X_arg4) T (View.read (Elt Ideal) arg10.view X_arg10) (View.read (Elt Ideal) arg18.view X_arg18) t C k :=
  fold_sum (N := 20) (fun n => ((st_k0_t1 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29 c0_i32_23 X_arg4 X_arg8 X_arg10 X_arg17 X_arg18 init n).2 (ix2 t C) : EReal)) _ fun k => by
    show ((st_k0_t1 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29 c0_i32_23 X_arg4 X_arg8 X_arg10 X_arg17 X_arg18 init (k.val + 1)).2 (ix2 t C) : EReal) = _
    rw [st_k0_t1_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29 c0_i32_23 X_arg4 X_arg8 X_arg10 X_arg17 X_arg18 init ⟨k.val, k.isLt⟩]
    exact trip_up c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v25 v27 v29 c0_i32_23 X_arg4 X_arg8 X_arg10 X_arg17 X_arg18 T hpar hT ⟨k.val, k.isLt⟩ _ t C

theorem hoff_t2 : ∀ k : Fin k0_t2_loop.trips, k0_off10 k 0 = k.val ∧ k0_off10 k 1 = 0 ∧ k0_off10 k 2 = 0 := by decide
theorem trip_down2 (c : Dev nD) (bd : Option Variants.none.V) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (arg1 : BitVec 32) (v25 : IVec S32x128 1) (v26 : Vec Ideal S1x32x128 .i8) (v28 : Vec Ideal S1x32x128 .i8) (X_arg12 : BufTy.Contents (Elt Ideal) arg12.view.ty) (X_arg16 : BufTy.Contents (Elt Ideal) arg16.view.ty) (X_arg19 : BufTy.Contents (Elt Ideal) arg19.view.ty)
    (T : ℕ → BitVec 16) (hpar : ∀ (r : Fin 32) (l : Fin 128), v25 (ix2 r l) = BitVec.ofBool (r.val % 2 == 1))
    (hT : ∀ (r : Fin 32) (x : Fin 128), x.val < 16 → (shapeCast S32x128 v28 shapeCasts_S1x32x128_S32x128) (ix2 r x) ++ (shapeCast S32x128 v26 shapeCasts_S1x32x128_S32x128) (ix2 r x) = T x.val)
    (k : Fin k0_t2_loop.trips) (acc : FVec Ideal S192x256 .f32) (t : Fin 192) (C : Fin 256) :
    ((tripR_k0_t2 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v25 v26 v28 X_arg12 X_arg16 X_arg19 k acc) (ix2 t C) : EReal) = acc (ix2 t C) + downTerm (View.read (Elt Ideal) arg16.view X_arg16) T (View.read (Elt Ideal) arg12.view X_arg12) (View.read (Elt Ideal) arg19.view X_arg19) 0 t C ⟨k.val, k.isLt⟩ := by
  unfold tripR_k0_t2 trip_k0_t2
  show (acc (ix2 t C) : EReal) + matmul dot_S192x256_S256x256_S192x256_1_0_0_1_n_n none _ _ (constant (F := Ideal) S192x256 .f32 0x00000000#32) (ix2 t C) = _
  rw [mm_apply]
  refine congrArg _ (Finset.sum_congr rfl fun R _ => congrArg₂ (· * ·) ?_ ?_)
  · have h := hoff_t2 k
    exact (cast_row _ _ _).trans ((View.readAt_apply ..).trans (congrArg _ (idx3 _ _ _ _ _ _ _ _ (by rw [h.1]; rfl) (by rw [h.2.1]; omega) (by rw [h.2.2]; omega))))
  · exact tile_t2 v25 T arg12 arg19 hpar v26 v28 hT X_arg12 X_arg19 k R C

/-- The down product of the block's tile 0. -/
theorem st_down2 (c : Dev nD) (bd : Option Variants.none.V) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (arg1 : BitVec 32) (v25 : IVec S32x128 1) (v26 : Vec Ideal S1x32x128 .i8) (v28 : Vec Ideal S1x32x128 .i8) (X_arg12 : BufTy.Contents (Elt Ideal) arg12.view.ty) (X_arg16 : BufTy.Contents (Elt Ideal) arg16.view.ty) (X_arg19 : BufTy.Contents (Elt Ideal) arg19.view.ty)
    (T : ℕ → BitVec 16) (hpar : ∀ (r : Fin 32) (l : Fin 128), v25 (ix2 r l) = BitVec.ofBool (r.val % 2 == 1))
    (hT : ∀ (r : Fin 32) (x : Fin 128), x.val < 16 → (shapeCast S32x128 v28 shapeCasts_S1x32x128_S32x128) (ix2 r x) ++ (shapeCast S32x128 v26 shapeCasts_S1x32x128_S32x128) (ix2 r x) = T x.val)
    (init : FVec Ideal S192x256 .f32) (t : Fin 192) (C : Fin 256) :
    ((st_k0_t2 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v25 v26 v28 X_arg12 X_arg16 X_arg19 init (Scf.trips k0_t2_loop.lb k0_t2_loop.ub k0_t2_loop.st)) (ix2 t C) : EReal)
      = init (ix2 t C) + ∑ k : Fin 4, downTerm (View.read (Elt Ideal) arg16.view X_arg16) T (View.read (Elt Ideal) arg12.view X_arg12) (View.read (Elt Ideal) arg19.view X_arg19) 0 t C k :=
  fold_sum (N := 4) (fun n => ((st_k0_t2 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v25 v26 v28 X_arg12 X_arg16 X_arg19 init n) (ix2 t C) : EReal)) _ fun k => by
    show ((st_k0_t2 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v25 v26 v28 X_arg12 X_arg16 X_arg19 init (k.val + 1)) (ix2 t C) : EReal) = _
    rw [st_k0_t2_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v25 v26 v28 X_arg12 X_arg16 X_arg19 init ⟨k.val, k.isLt⟩]
    exact trip_down2 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v25 v26 v28 X_arg12 X_arg16 X_arg19 T hpar hT ⟨k.val, k.isLt⟩ _ t C

theorem hoff_t3 : ∀ k : Fin k0_t3_loop.trips, k0_off15 k 0 = k.val ∧ k0_off15 k 1 = 0 ∧ k0_off15 k 2 = 0 := by decide
theorem trip_down3 (c : Dev nD) (bd : Option Variants.none.V) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (v0 : Elt Ideal .i32) (k0_hw1 : k0_chk1 i v0) (k0_h3 : k0_cond3 i v0 = 1#1) (v25 : IVec S32x128 1) (v27 : IVec S32x128 8) (v29 : IVec S32x128 8) (v38 : FVec Ideal S192x1 .f32) (v43 : IVec S192x1 1) (v44 : BitVec 32) (v47 : FVec Ideal S192x256 .f32) (X_arg12 : BufTy.Contents (Elt Ideal) arg12.view.ty) (X_arg16 : BufTy.Contents (Elt Ideal) arg16.view.ty) (X_arg19 : BufTy.Contents (Elt Ideal) arg19.view.ty)
    (T : ℕ → BitVec 16) (hpar : ∀ (r : Fin 32) (l : Fin 128), v25 (ix2 r l) = BitVec.ofBool (r.val % 2 == 1))
    (hT : ∀ (r : Fin 32) (x : Fin 128), x.val < 16 → v29 (ix2 r x) ++ v27 (ix2 r x) = T x.val)
    (k : Fin k0_t3_loop.trips) (acc : FVec Ideal S192x256 .f32) (t : Fin 192) (C : Fin 256) :
    ((tripR_k0_t3 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v47 X_arg12 X_arg16 X_arg19 k acc) (ix2 t C) : EReal) = acc (ix2 t C) + downTerm (View.read (Elt Ideal) arg16.view X_arg16) T (View.read (Elt Ideal) arg12.view X_arg12) (View.read (Elt Ideal) arg19.view X_arg19) 1 t C ⟨k.val, k.isLt⟩ := by
  unfold tripR_k0_t3 trip_k0_t3
  show (acc (ix2 t C) : EReal) + matmul dot_S192x256_S256x256_S192x256_1_0_0_1_n_n none _ _ (constant (F := Ideal) S192x256 .f32 0x00000000#32) (ix2 t C) = _
  rw [mm_apply]
  refine congrArg _ (Finset.sum_congr rfl fun R _ => congrArg₂ (· * ·) ?_ ?_)
  · have h := hoff_t3 k
    exact (cast_row _ _ _).trans ((View.readAt_apply ..).trans (congrArg _ (idx3 _ _ _ _ _ _ _ _ (by rw [h.1]; rfl) (by rw [h.2.1]; omega) (by rw [h.2.2]; omega))))
  · exact tile_t3 v25 T arg12 arg19 hpar v27 v29 hT X_arg12 X_arg19 k R C

/-- The down product of the block's tile 1. -/
theorem st_down3 (c : Dev nD) (bd : Option Variants.none.V) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (v0 : Elt Ideal .i32) (k0_hw1 : k0_chk1 i v0) (k0_h3 : k0_cond3 i v0 = 1#1) (v25 : IVec S32x128 1) (v27 : IVec S32x128 8) (v29 : IVec S32x128 8) (v38 : FVec Ideal S192x1 .f32) (v43 : IVec S192x1 1) (v44 : BitVec 32) (v47 : FVec Ideal S192x256 .f32) (X_arg12 : BufTy.Contents (Elt Ideal) arg12.view.ty) (X_arg16 : BufTy.Contents (Elt Ideal) arg16.view.ty) (X_arg19 : BufTy.Contents (Elt Ideal) arg19.view.ty)
    (T : ℕ → BitVec 16) (hpar : ∀ (r : Fin 32) (l : Fin 128), v25 (ix2 r l) = BitVec.ofBool (r.val % 2 == 1))
    (hT : ∀ (r : Fin 32) (x : Fin 128), x.val < 16 → v29 (ix2 r x) ++ v27 (ix2 r x) = T x.val)
    (init : FVec Ideal S192x256 .f32) (t : Fin 192) (C : Fin 256) :
    ((st_k0_t3 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v47 X_arg12 X_arg16 X_arg19 init (Scf.trips k0_t3_loop.lb k0_t3_loop.ub k0_t3_loop.st)) (ix2 t C) : EReal)
      = init (ix2 t C) + ∑ k : Fin 4, downTerm (View.read (Elt Ideal) arg16.view X_arg16) T (View.read (Elt Ideal) arg12.view X_arg12) (View.read (Elt Ideal) arg19.view X_arg19) 1 t C k :=
  fold_sum (N := 4) (fun n => ((st_k0_t3 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v47 X_arg12 X_arg16 X_arg19 init n) (ix2 t C) : EReal)) _ fun k => by
    show ((st_k0_t3 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v47 X_arg12 X_arg16 X_arg19 init (k.val + 1)) (ix2 t C) : EReal) = _
    rw [st_k0_t3_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v47 X_arg12 X_arg16 X_arg19 init ⟨k.val, k.isLt⟩]
    exact trip_down3 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v47 X_arg12 X_arg16 X_arg19 T hpar hT ⟨k.val, k.isLt⟩ _ t C

theorem hoff_t4 : ∀ k : Fin k0_t4_loop.trips, k0_off19 k 0 = k.val ∧ k0_off19 k 1 = 0 ∧ k0_off19 k 2 = 0 := by decide
theorem trip_down4 (c : Dev nD) (bd : Option Variants.none.V) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (v0 : Elt Ideal .i32) (k0_hw1 : k0_chk1 i v0) (k0_h3 : k0_cond3 i v0 = 1#1) (v25 : IVec S32x128 1) (v27 : IVec S32x128 8) (v29 : IVec S32x128 8) (v38 : FVec Ideal S192x1 .f32) (v43 : IVec S192x1 1) (v44 : BitVec 32) (v83 : FVec Ideal S192x256 .f32) (c0_i32_48 : BitVec 32) (X_arg12 : BufTy.Contents (Elt Ideal) arg12.view.ty) (X_arg16 : BufTy.Contents (Elt Ideal) arg16.view.ty) (X_arg19 : BufTy.Contents (Elt Ideal) arg19.view.ty)
    (T : ℕ → BitVec 16) (hpar : ∀ (r : Fin 32) (l : Fin 128), v25 (ix2 r l) = BitVec.ofBool (r.val % 2 == 1))
    (hT : ∀ (r : Fin 32) (x : Fin 128), x.val < 16 → v29 (ix2 r x) ++ v27 (ix2 r x) = T x.val)
    (k : Fin k0_t4_loop.trips) (acc : FVec Ideal S192x256 .f32) (t : Fin 192) (C : Fin 256) :
    ((tripR_k0_t4 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v83 c0_i32_48 X_arg12 X_arg16 X_arg19 k acc) (ix2 t C) : EReal) = acc (ix2 t C) + downTerm (View.read (Elt Ideal) arg16.view X_arg16) T (View.read (Elt Ideal) arg12.view X_arg12) (View.read (Elt Ideal) arg19.view X_arg19) 2 t C ⟨k.val, k.isLt⟩ := by
  unfold tripR_k0_t4 trip_k0_t4
  show (acc (ix2 t C) : EReal) + matmul dot_S192x256_S256x256_S192x256_1_0_0_1_n_n none _ _ (constant (F := Ideal) S192x256 .f32 0x00000000#32) (ix2 t C) = _
  rw [mm_apply]
  refine congrArg _ (Finset.sum_congr rfl fun R _ => congrArg₂ (· * ·) ?_ ?_)
  · have h := hoff_t4 k
    exact (cast_row _ _ _).trans ((View.readAt_apply ..).trans (congrArg _ (idx3 _ _ _ _ _ _ _ _ (by rw [h.1]; rfl) (by rw [h.2.1]; omega) (by rw [h.2.2]; omega))))
  · exact tile_t4 v25 T arg12 arg19 hpar v27 v29 hT X_arg12 X_arg19 k R C

/-- The down product of the block's tile 2. -/
theorem st_down4 (c : Dev nD) (bd : Option Variants.none.V) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (v0 : Elt Ideal .i32) (k0_hw1 : k0_chk1 i v0) (k0_h3 : k0_cond3 i v0 = 1#1) (v25 : IVec S32x128 1) (v27 : IVec S32x128 8) (v29 : IVec S32x128 8) (v38 : FVec Ideal S192x1 .f32) (v43 : IVec S192x1 1) (v44 : BitVec 32) (v83 : FVec Ideal S192x256 .f32) (c0_i32_48 : BitVec 32) (X_arg12 : BufTy.Contents (Elt Ideal) arg12.view.ty) (X_arg16 : BufTy.Contents (Elt Ideal) arg16.view.ty) (X_arg19 : BufTy.Contents (Elt Ideal) arg19.view.ty)
    (T : ℕ → BitVec 16) (hpar : ∀ (r : Fin 32) (l : Fin 128), v25 (ix2 r l) = BitVec.ofBool (r.val % 2 == 1))
    (hT : ∀ (r : Fin 32) (x : Fin 128), x.val < 16 → v29 (ix2 r x) ++ v27 (ix2 r x) = T x.val)
    (init : FVec Ideal S192x256 .f32) (t : Fin 192) (C : Fin 256) :
    ((st_k0_t4 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v83 c0_i32_48 X_arg12 X_arg16 X_arg19 init (Scf.trips k0_t4_loop.lb k0_t4_loop.ub k0_t4_loop.st)) (ix2 t C) : EReal)
      = init (ix2 t C) + ∑ k : Fin 4, downTerm (View.read (Elt Ideal) arg16.view X_arg16) T (View.read (Elt Ideal) arg12.view X_arg12) (View.read (Elt Ideal) arg19.view X_arg19) 2 t C k :=
  fold_sum (N := 4) (fun n => ((st_k0_t4 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v83 c0_i32_48 X_arg12 X_arg16 X_arg19 init n) (ix2 t C) : EReal)) _ fun k => by
    show ((st_k0_t4 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v83 c0_i32_48 X_arg12 X_arg16 X_arg19 init (k.val + 1)) (ix2 t C) : EReal) = _
    rw [st_k0_t4_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v83 c0_i32_48 X_arg12 X_arg16 X_arg19 init ⟨k.val, k.isLt⟩]
    exact trip_down4 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v83 c0_i32_48 X_arg12 X_arg16 X_arg19 T hpar hT ⟨k.val, k.isLt⟩ _ t C

theorem hoff_t5 : ∀ k : Fin k0_t5_loop.trips, k0_off23 k 0 = k.val ∧ k0_off23 k 1 = 0 ∧ k0_off23 k 2 = 0 := by decide
theorem trip_down5 (c : Dev nD) (bd : Option Variants.none.V) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (v0 : Elt Ideal .i32) (k0_hw1 : k0_chk1 i v0) (k0_h3 : k0_cond3 i v0 = 1#1) (v25 : IVec S32x128 1) (v27 : IVec S32x128 8) (v29 : IVec S32x128 8) (v38 : FVec Ideal S192x1 .f32) (v43 : IVec S192x1 1) (v44 : BitVec 32) (v83 : FVec Ideal S192x256 .f32) (c0_i32_48 : BitVec 32) (X_arg12 : BufTy.Contents (Elt Ideal) arg12.view.ty) (X_arg16 : BufTy.Contents (Elt Ideal) arg16.view.ty) (X_arg19 : BufTy.Contents (Elt Ideal) arg19.view.ty)
    (T : ℕ → BitVec 16) (hpar : ∀ (r : Fin 32) (l : Fin 128), v25 (ix2 r l) = BitVec.ofBool (r.val % 2 == 1))
    (hT : ∀ (r : Fin 32) (x : Fin 128), x.val < 16 → v29 (ix2 r x) ++ v27 (ix2 r x) = T x.val)
    (k : Fin k0_t5_loop.trips) (acc : FVec Ideal S192x256 .f32) (t : Fin 192) (C : Fin 256) :
    ((tripR_k0_t5 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v83 c0_i32_48 X_arg12 X_arg16 X_arg19 k acc) (ix2 t C) : EReal) = acc (ix2 t C) + downTerm (View.read (Elt Ideal) arg16.view X_arg16) T (View.read (Elt Ideal) arg12.view X_arg12) (View.read (Elt Ideal) arg19.view X_arg19) 3 t C ⟨k.val, k.isLt⟩ := by
  unfold tripR_k0_t5 trip_k0_t5
  show (acc (ix2 t C) : EReal) + matmul dot_S192x256_S256x256_S192x256_1_0_0_1_n_n none _ _ (constant (F := Ideal) S192x256 .f32 0x00000000#32) (ix2 t C) = _
  rw [mm_apply]
  refine congrArg _ (Finset.sum_congr rfl fun R _ => congrArg₂ (· * ·) ?_ ?_)
  · have h := hoff_t5 k
    exact (cast_row _ _ _).trans ((View.readAt_apply ..).trans (congrArg _ (idx3 _ _ _ _ _ _ _ _ (by rw [h.1]; rfl) (by rw [h.2.1]; omega) (by rw [h.2.2]; omega))))
  · exact tile_t5 v25 T arg12 arg19 hpar v27 v29 hT X_arg12 X_arg19 k R C

/-- The down product of the block's tile 3. -/
theorem st_down5 (c : Dev nD) (bd : Option Variants.none.V) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (v0 : Elt Ideal .i32) (k0_hw1 : k0_chk1 i v0) (k0_h3 : k0_cond3 i v0 = 1#1) (v25 : IVec S32x128 1) (v27 : IVec S32x128 8) (v29 : IVec S32x128 8) (v38 : FVec Ideal S192x1 .f32) (v43 : IVec S192x1 1) (v44 : BitVec 32) (v83 : FVec Ideal S192x256 .f32) (c0_i32_48 : BitVec 32) (X_arg12 : BufTy.Contents (Elt Ideal) arg12.view.ty) (X_arg16 : BufTy.Contents (Elt Ideal) arg16.view.ty) (X_arg19 : BufTy.Contents (Elt Ideal) arg19.view.ty)
    (T : ℕ → BitVec 16) (hpar : ∀ (r : Fin 32) (l : Fin 128), v25 (ix2 r l) = BitVec.ofBool (r.val % 2 == 1))
    (hT : ∀ (r : Fin 32) (x : Fin 128), x.val < 16 → v29 (ix2 r x) ++ v27 (ix2 r x) = T x.val)
    (init : FVec Ideal S192x256 .f32) (t : Fin 192) (C : Fin 256) :
    ((st_k0_t5 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v83 c0_i32_48 X_arg12 X_arg16 X_arg19 init (Scf.trips k0_t5_loop.lb k0_t5_loop.ub k0_t5_loop.st)) (ix2 t C) : EReal)
      = init (ix2 t C) + ∑ k : Fin 4, downTerm (View.read (Elt Ideal) arg16.view X_arg16) T (View.read (Elt Ideal) arg12.view X_arg12) (View.read (Elt Ideal) arg19.view X_arg19) 3 t C k :=
  fold_sum (N := 4) (fun n => ((st_k0_t5 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v83 c0_i32_48 X_arg12 X_arg16 X_arg19 init n) (ix2 t C) : EReal)) _ fun k => by
    show ((st_k0_t5 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v83 c0_i32_48 X_arg12 X_arg16 X_arg19 init (k.val + 1)) (ix2 t C) : EReal) = _
    rw [st_k0_t5_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v83 c0_i32_48 X_arg12 X_arg16 X_arg19 init ⟨k.val, k.isLt⟩]
    exact trip_down5 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1 k0_h3 v25 v27 v29 v38 v43 v44 v83 c0_i32_48 X_arg12 X_arg16 X_arg19 T hpar hT ⟨k.val, k.isLt⟩ _ t C

end Cert.KernelIdeal.Hand

end
-- ==== Proof.Vals.lean ====
/-
  The values the kernel's body stores, each at an element.
-/
module

public import proofs.«01_k».proof.Proof.Sums
public import Idealize.ShloMosaic.Lib.VecWindow

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F]

theorem par_253 (r : Fin 32) (l : Fin 128) : k0_pay253 (ix2 r l) = BitVec.ofBool (r.val % 2 == 1) := by
  pointwise [k0_pay253]
  revert r; decide
theorem par_736 (r : Fin 32) (l : Fin 128) : k0_pay736 (ix2 r l) = BitVec.ofBool (r.val % 2 == 1) := par_253 r l

theorem cast_tab {e : Type} (v : S1x32x128.Idx → e) (r : Fin 32) (x : Fin 128) :
    shapeCast S32x128 v shapeCasts_S1x32x128_S32x128 (ix2 r x) = v (ix3 (0 : Fin 1) r x) := by
  pointwise

/-- The scales of a gate/up chunk, from the block of scales. -/
def gateSc (d : S1x80x256.Idx → EReal) (k : Fin 20) (i : Fin 4) (C : Fin 256) : EReal := d (ix3 (0 : Fin 1) ⟨4 * k.val + i.val, by omega⟩ C)
/-- The scales of a down chunk, from the block of scales. -/
def downSc (d : S1x16x1024.Idx → EReal) (r k i : Fin 4) (C : Fin 256) : EReal :=
  d (ix3 (0 : Fin 1) ⟨4 * k.val + i.val, by omega⟩ ⟨256 * r.val + C.val, by omega⟩)

theorem pay256_apply (v : Vec Ideal S1x80x256 .f32) (r : Fin 80) (C : Fin 256) :
    (k0_pay256 (F := Ideal) v (ix3 r (0 : Fin 2) C) : EReal) = v (ix3 (0 : Fin 1) r C) := by
  pointwise [k0_pay256]
theorem pay257_apply (v : Vec Ideal S1x80x256 .f32) (r : Fin 80) (C : Fin 256) :
    (k0_pay257 (F := Ideal) v (ix3 r (0 : Fin 2) C) : EReal) = v (ix3 (0 : Fin 1) r C) := by
  pointwise [k0_pay257]
theorem pay739_apply (v : Vec Ideal S1x16x1024 .f32) (r : Fin 16) (C : Fin 1024) :
    (k0_pay739 (F := Ideal) v (ix3 r (0 : Fin 2) C) : EReal) = v (ix3 (0 : Fin 1) r C) := by
  pointwise [k0_pay739]

theorem z258 (j : S192x256.Idx) : (k0_pay258 (F := Ideal) j : EReal) = 0 := by pointwise [k0_pay258]
theorem z259 (j : S192x256.Idx) : (k0_pay259 (F := Ideal) j : EReal) = 0 := by pointwise [k0_pay259]
theorem z742 (j : S192x256.Idx) : (k0_pay742 (F := Ideal) j : EReal) = 0 := by pointwise [k0_pay742]
theorem z747 (j : S192x256.Idx) : (k0_pay747 (F := Ideal) j : EReal) = 0 := by pointwise [k0_pay747]
theorem z752 (j : S192x256.Idx) : (k0_pay752 (F := Ideal) j : EReal) = 0 := by pointwise [k0_pay752]
theorem z757 (j : S192x256.Idx) : (k0_pay757 (F := Ideal) j : EReal) = 0 := by pointwise [k0_pay757]
theorem z1 (j : S20x192x256.Idx) : (k0_pay1 (F := Ideal) j : EReal) = 0 := by pointwise [k0_pay1]

/-- The activation: the gate times its logistic times the up product. -/
def act (g u : EReal) : EReal := g * Ideal.logistic g * u

theorem cast_same256 {e : Type} (v : S256x256.Idx → e) (R C : Fin 256) :
    shapeCast S256x256 v shapeCasts_S256x256_S256x256 (ix2 R C) = v (ix2 R C) := by
  pointwise
theorem cast_out {e : Type} (v : S192x256.Idx → e) (t : Fin 192) (C : Fin 256) :
    shapeCast S1x192x256 v shapeCasts_S192x256_S1x192x256 (ix3 (0 : Fin 1) t C) = v (ix2 t C) := by
  pointwise

theorem pay4_apply (g u : FVec Ideal S192x256 .f32) (p : Vec Ideal S256x256 .bf16) (t : Fin 192) (C : Fin 256) :
    (k0_pay4 (F := Ideal) g u p (ix3 (0 : Fin 1) t C) : EReal)
      = ∑ D : Fin 256, act (g (ix2 t D)) (u (ix2 t D)) * p (ix2 D C) := by
  unfold k0_pay4
  refine (cast_out _ t C).trans ?_
  refine Eq.trans (mm_apply _ _ t C) ?_
  refine Finset.sum_congr rfl fun D _ => congrArg₂ (· * ·) rfl ?_
  exact cast_same256 _ _ _

/-- The used products are added, the others leave the accumulator as it is. -/
def addUsed (a y w : EReal) (b : BitVec 1) : EReal := a + if b = 1#1 then y * w else 0

theorem pay746_apply (w : FVec Ideal S192x1 .f32) (b : IVec S192x1 1) (y : FVec Ideal S192x256 .f32) (a : Vec Ideal S1x192x256 .f32) (t : Fin 192) (C : Fin 256) :
    (k0_pay746 (F := Ideal) w b y a (ix3 (0 : Fin 1) t C) : EReal) = addUsed (a (ix3 (0 : Fin 1) t C)) (y (ix2 t C)) (w (ix2 t (0 : Fin 1))) (b (ix2 t (0 : Fin 1))) := by
  pointwise [k0_pay746, addUsed]
  rfl
theorem pay751_apply (w : FVec Ideal S192x1 .f32) (b : IVec S192x1 1) (y : FVec Ideal S192x256 .f32) (a : Vec Ideal S1x192x256 .f32) (t : Fin 192) (C : Fin 256) :
    (k0_pay751 (F := Ideal) w b y a (ix3 (0 : Fin 1) t C) : EReal) = addUsed (a (ix3 (0 : Fin 1) t C)) (y (ix2 t C)) (w (ix2 t (0 : Fin 1))) (b (ix2 t (0 : Fin 1))) := by
  pointwise [k0_pay751, addUsed]
  rfl
theorem pay756_apply (w : FVec Ideal S192x1 .f32) (b : IVec S192x1 1) (y : FVec Ideal S192x256 .f32) (a : Vec Ideal S1x192x256 .f32) (t : Fin 192) (C : Fin 256) :
    (k0_pay756 (F := Ideal) w b y a (ix3 (0 : Fin 1) t C) : EReal) = addUsed (a (ix3 (0 : Fin 1) t C)) (y (ix2 t C)) (w (ix2 t (0 : Fin 1))) (b (ix2 t (0 : Fin 1))) := by
  pointwise [k0_pay756, addUsed]
  rfl
theorem pay761_apply (w : FVec Ideal S192x1 .f32) (b : IVec S192x1 1) (y : FVec Ideal S192x256 .f32) (a : Vec Ideal S1x192x256 .f32) (t : Fin 192) (C : Fin 256) :
    (k0_pay761 (F := Ideal) w b y a (ix3 (0 : Fin 1) t C) : EReal) = addUsed (a (ix3 (0 : Fin 1) t C)) (y (ix2 t C)) (w (ix2 t (0 : Fin 1))) (b (ix2 t (0 : Fin 1))) := by
  pointwise [k0_pay761, addUsed]
  rfl

theorem pay740_apply (d : Vec Ideal S1x192x2 .f32) (t : Fin 192) :
    (k0_pay740 (F := Ideal) d (ix2 t (0 : Fin 1)) : EReal) = d (ix3 (0 : Fin 1) t (0 : Fin 2)) := by
  pointwise [k0_pay740]
theorem pay741_apply (d : Vec Ideal S1x192x2 .f32) (t : Fin 192) :
    k0_pay741 (F := Ideal) d (ix2 t (0 : Fin 1)) = BitVec.ofBool (decide ((0 : EReal) < d (ix3 (0 : Fin 1) t (1 : Fin 2)))) := by
  pointwise [k0_pay741]

/-! ## What a step leaves in its buffers -/

/-- The table as two halves: the sixteen-bit word of each nibble. -/
def TabOK (d : S2x32x128.Idx → BitVec 8) (T : ℕ → BitVec 16) : Prop :=
  ∀ (r : Fin 32) (x : Fin 128), x.val < 16 → d (ix3 (1 : Fin 2) r x) ++ d (ix3 (0 : Fin 2) r x) = T x.val

/-- A gate/up product: the twenty chunks' sums. -/
def gateDot (x : S192x5120.Idx → EReal) (T : ℕ → BitVec 16) (w : S1x256x2560.Idx → BitVec 8) (s : S1x80x256.Idx → EReal) (t : Fin 192) (C : Fin 256) : EReal :=
  ∑ k : Fin 20, ∑ R : Fin 256, x (ix2 t ⟨256 * k.val + R.val, by omega⟩) * tileAt T (gateW w k) (gateSc s k) R C
/-- The hidden tile: the activations, their lanes permuted by a product with the permutation. -/
def hTile (x : S192x5120.Idx → EReal) (p : S256x256.Idx → EReal) (T : ℕ → BitVec 16) (wg : S1x256x2560.Idx → BitVec 8) (sg : S1x80x256.Idx → EReal)
    (wu : S1x256x2560.Idx → BitVec 8) (su : S1x80x256.Idx → EReal) (t : Fin 192) (C : Fin 256) : EReal :=
  ∑ D : Fin 256, act (gateDot x T wg sg t D) (gateDot x T wu su t D) * p (ix2 D C)
/-- A down product: the four chunks' sums. -/
def downDot (h : S4x192x256.Idx → EReal) (T : ℕ → BitVec 16) (w : S1x1024x512.Idx → BitVec 8) (s : S1x16x1024.Idx → EReal) (r : Fin 4) (t : Fin 192) (C : Fin 256) : EReal :=
  ∑ k : Fin 4, ∑ R : Fin 256, h (ix3 k t R) * tileAt T (downW w r k) (downSc s r k) R C
/-- What a down step adds at an element. -/
def downAdd (h : S4x192x256.Idx → EReal) (T : ℕ → BitVec 16) (w : S1x1024x512.Idx → BitVec 8) (s : S1x16x1024.Idx → EReal) (d5 : S1x192x2.Idx → EReal)
    (r : Fin 4) (t : Fin 192) (C : Fin 256) (a : EReal) : EReal :=
  addUsed a (downDot h T w s r t C) (d5 (ix3 (0 : Fin 1) t (0 : Fin 2))) (BitVec.ofBool (decide ((0 : EReal) < d5 (ix3 (0 : Fin 1) t (1 : Fin 2)))))

/-- A gate/up step writes its own hidden tile and leaves the others. -/
def relB (i : grid0.Coords) (v0 : BitVec 32) (d4 : S192x5120.Idx → EReal) (d6 : S256x256.Idx → EReal) (d7 : S2x32x128.Idx → BitVec 8)
    (d8 : S1x256x2560.Idx → BitVec 8) (d9 : S1x80x256.Idx → EReal) (d10 : S1x256x2560.Idx → BitVec 8) (d11 : S1x80x256.Idx → EReal)
    (d16 d16' : S4x192x256.Idx → EReal) : Prop :=
  (k0_cond2 i v0 = 1#1 → ∀ T, TabOK d7 T → ∀ (kc : Fin 4) (t : Fin 192) (C : Fin 256),
    d16' (ix3 kc t C) = if kc.val = (i 1).val then hTile d4 d6 T d8 d9 d10 d11 t C else d16 (ix3 kc t C)) ∧
  (¬ k0_cond2 i v0 = 1#1 → d16' = d16)

/-- A down step adds to its own four tiles of the accumulator and leaves the others. -/
def relC (i : grid0.Coords) (v0 : BitVec 32) (d5 : S1x192x2.Idx → EReal) (d7 : S2x32x128.Idx → BitVec 8)
    (d12 : S1x1024x512.Idx → BitVec 8) (d13 : S1x16x1024.Idx → EReal) (d16 : S4x192x256.Idx → EReal) (d15 d15' : S20x192x256.Idx → EReal) : Prop :=
  (k0_cond3 i v0 = 1#1 → ∀ T, TabOK d7 T → ∀ (m : Fin 20) (t : Fin 192) (C : Fin 256),
    (∀ r : Fin 4, m.val = 4 * ((i 1).val - 4) + r.val → d15' (ix3 m t C) = downAdd d16 T d12 d13 d5 r t C (d15 (ix3 m t C))) ∧
    ((∀ r : Fin 4, m.val ≠ 4 * ((i 1).val - 4) + r.val) → d15' (ix3 m t C) = d15 (ix3 m t C))) ∧
  (¬ k0_cond3 i v0 = 1#1 → d15' = d15)

theorem scales_256 (v : View sig .tc .vmem S80x2x256 .bf16) (f : v.ty.Contents (Elt Ideal)) (hb) (d : Vec Ideal S1x80x256 .f32) (k : Fin 20) :
    gateS (v.read (Elt Ideal) (v.writes (Elt Ideal) f [⟨Rect.unit ![0, 0, 0] S80x2x256.size hb, k0_pay256 (F := Ideal) d⟩])) k = gateSc d k := by
  rw [View.read_writes_full]
  funext i C
  exact pay256_apply d _ C
theorem scales_257 (v : View sig .tc .vmem S80x2x256 .bf16) (f : v.ty.Contents (Elt Ideal)) (hb) (d : Vec Ideal S1x80x256 .f32) (k : Fin 20) :
    gateS (v.read (Elt Ideal) (v.writes (Elt Ideal) f [⟨Rect.unit ![0, 0, 0] S80x2x256.size hb, k0_pay257 (F := Ideal) d⟩])) k = gateSc d k := by
  rw [View.read_writes_full]
  funext i C
  exact pay257_apply d _ C
theorem scales_739 (v : View sig .tc .vmem S16x2x1024 .bf16) (f : v.ty.Contents (Elt Ideal)) (hb) (d : Vec Ideal S1x16x1024 .f32) (r k : Fin 4) :
    downS (v.read (Elt Ideal) (v.writes (Elt Ideal) f [⟨Rect.unit ![0, 0, 0] S16x2x1024.size hb, k0_pay739 (F := Ideal) d⟩])) r k = downSc d r k := by
  rw [View.read_writes_full]
  funext i C
  exact pay739_apply d _ _

theorem readAt_tab (v : View sig .tc .vmem S2x32x128 .i8) (f : v.ty.Contents (Elt Ideal)) (q : Fin 2) (hb) (r : Fin 32) (x : Fin 128) :
    v.readAt (Elt Ideal) (Rect.unit (s := S2x32x128) ![q.val, 0, 0] S1x32x128.size hb).toLoadRect f (ix3 (0 : Fin 1) r x) = v.read (Elt Ideal) f (ix3 q r x) := by
  rw [View.readAt_apply]
  refine congrArg _ (funext fun a => Fin.ext ?_)
  match a with
  | 0 => show q.val + 1 * 0 = _; exact Nat.add_zero _
  | 1 => show 0 + 1 * r.val = r.val; omega
  | 2 => show 0 + 1 * x.val = x.val; omega

theorem readAt_acc (v : View sig .tc .vmem S20x192x256 .f32) (f : v.ty.Contents (Elt Ideal)) (off : Fin 3 → ℕ) (m : Fin 20) (hb)
    (hoff : off = ![m.val, 0, 0]) (t : Fin 192) (C : Fin 256) :
    v.readAt (Elt Ideal) (Rect.unit (s := S20x192x256) off S1x192x256.size hb).toLoadRect f (ix3 (0 : Fin 1) t C) = v.read (Elt Ideal) f (ix3 m t C) := by
  subst hoff
  rw [View.readAt_apply]
  refine congrArg _ (funext fun a => Fin.ext ?_)
  match a with
  | 0 => show m.val + 1 * 0 = _; exact Nat.add_zero _
  | 1 => show 0 + 1 * t.val = t.val; omega
  | 2 => show 0 + 1 * C.val = C.val; omega

/-- The last step writes the accumulator out, its twenty tiles side by side. -/
def outOf (d15 : S20x192x256.Idx → EReal) (y : S192x5120.Idx) : EReal :=
  d15 (ix3 ⟨(y 1).val / 256, by have : (y 1).val < 5120 := (y 1).isLt; omega⟩ (y 0) ⟨(y 1).val % 256, Nat.mod_lt _ (by norm_num)⟩)

theorem pay762_apply (v : Vec Ideal S1x192x256 .f32) (t : Fin 192) (C : Fin 256) :
    (k0_pay762 (F := Ideal) v (ix2 t C) : EReal) = v (ix3 (0 : Fin 1) t C) := by
  pointwise [k0_pay762]

theorem piece_out (v : View sig .tc .vmem S20x192x256 .f32) (f : v.ty.Contents (Elt Ideal)) (m : Fin 20) (hb) (hb')
    (x : S192x256.Idx) :
    (k0_pay762 (F := Ideal) (v.readAt (Elt Ideal) (Rect.unit (s := S20x192x256) ![m.val, 0, 0] S1x192x256.size hb).toLoadRect f) x : EReal)
      = outOf (v.read (Elt Ideal) f) ((Rect.unit (s := S192x5120) ![0, 256 * m.val] S192x256.size hb').emb x) := by
  obtain ⟨t, C, rfl⟩ : ∃ (t : Fin 192) (C : Fin 256), x = ix2 t C := ⟨x 0, x 1, funext fun a => match a with | 0 => rfl | 1 => rfl⟩
  rw [pay762_apply, readAt_acc v f _ m hb rfl t C]
  refine congrArg _ (funext fun a => Fin.ext ?_)
  match a with
  | 0 => show m.val = (256 * m.val + 1 * C.val) / 256; omega
  | 1 => show t.val = 0 + 1 * t.val; omega
  | 2 => show C.val = (256 * m.val + 1 * C.val) % 256; omega

/-- The last step's store, and no store before it. -/
def relD (i : grid0.Coords) (d15 : S20x192x256.Idx → EReal) (d14' : S192x5120.Idx → EReal) : Prop :=
  k0_cond4 i = 1#1 → ∀ y, d14' y = outOf d15 y

end Cert.KernelIdeal.Hand

end
-- ==== Proof.ValA.lean ====
/-
  The body of `KernelIdeal`'s kernel, region A: what the region that clears the accumulator leaves: zeros.
-/
module

public import proofs.«01_k».proof.Proof.KernelIdealRegions
public import proofs.«01_k».proof.Proof.Gen.KernelIdeal.Launch
public import Idealize.ShloMosaic.Lib.Pipeline.Frame
public import Idealize.ShloMosaic.Lib.Tactic
public import Idealize.ShloMosaic.PureOps.Ideal
public import proofs.«01_k».proof.Proof.Vals

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 40000000 in
/-- Region A runs, with the values that it leaves. -/
theorem regA_val (c : Dev nD) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole)(d15 : Vec Ideal S20x192x256 .f32) (K : PUnit → sProp 𝕄) :
    iprop(owns (c : Thread nD τ) arg15 fullShare d15 ∗ (iprop(∃ d15', owns (c : Thread nD τ) arg15 fullShare d15' ∗ ⌜(Scalar.cmpi .ne (Scalar.extui (Scalar.andi (Scalar.cmpi .eq (BitVec.ofNat 32 (i 0).val) 0#32) (Scalar.cmpi .eq (BitVec.ofNat 32 (i 1).val) 0#32)) : BitVec 32) 0#32 = 1#1 → ∀ y, (d15' y : EReal) = 0) ∧ (¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1 → d15' = d15)⌝) -∗ K ⟨⟩))
      ⊢ wp frame (wpE (defs₀ (F := Ideal)) Variants.none c none) Set.univ (regA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold regA owns
  iintro ⟨⟨%f15, %e15, H15⟩, Hk⟩
  by_cases h : Scalar.cmpi .ne (Scalar.extui (Scalar.andi (Scalar.cmpi .eq (BitVec.ofNat 32 (i 0).val) 0#32) (Scalar.cmpi .eq (BitVec.ofNat 32 (i 1).val) 0#32)) : BitVec 32) 0#32 = 1#1
  · sl_exec (disch := exact h)
    sl_step
    iapply Hk
    iexists _; isplitl [H15]
    · iexists _; isplitr; swap; · iexact H15
      ipureintro; rfl
    · ipureintro
      refine ⟨fun _ y => ?_, fun hn => absurd h hn⟩
      refine (congrFun (View.read_writes_full (Val := Elt Ideal) _ _ _ _ _) y).trans ?_
      exact z1 y
  · sl_exec (disch := exact h)
    sl_step
    iapply Hk
    iexists _; isplitl [H15]
    · iexists _; isplitr; swap; · iexact H15
      ipureintro; rfl
    · ipureintro
      exact ⟨fun hn => absurd hn h, fun _ => e15⟩

end Cert.KernelIdeal.Hand

end
-- ==== Proof.ValB.lean ====
/-
  The body of `KernelIdeal`'s kernel, region B: what the region of one gate/up tile leaves: the hidden tile it stores, as a sum over the chunks.
-/
module

public import proofs.«01_k».proof.Proof.KernelIdealRegions
public import proofs.«01_k».proof.Proof.Gen.KernelIdeal.Launch
public import Idealize.ShloMosaic.Lib.Pipeline.Frame
public import Idealize.ShloMosaic.Lib.Tactic
public import Idealize.ShloMosaic.PureOps.Ideal
public import proofs.«01_k».proof.Proof.Vals

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 40000000 in
/-- Region B runs, with the values that it leaves. -/
theorem regB_val (c : Dev nD) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole)(v0 : Elt Ideal .i32) (k0_hw1 : k0_chk1 i v0) (d4 : Vec Ideal S192x5120 .bf16) (d6 : Vec Ideal S256x256 .bf16) (d7 : Vec Ideal S2x32x128 .i8) (d8 : Vec Ideal S1x256x2560 .i8) (d9 : Vec Ideal S1x80x256 .f32) (d10 : Vec Ideal S1x256x2560 .i8) (d11 : Vec Ideal S1x80x256 .f32) (d16 : Vec Ideal S4x192x256 .bf16) (d17 : Vec Ideal S80x2x256 .bf16) (d18 : Vec Ideal S80x2x256 .bf16) (K : PUnit → sProp 𝕄) :
    iprop(owns (c : Thread nD τ) arg4 fullShare d4 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg16 fullShare d16 ∗ owns (c : Thread nD τ) arg17 fullShare d17 ∗ owns (c : Thread nD τ) arg18 fullShare d18 ∗ (iprop(owns (c : Thread nD τ) arg4 fullShare d4 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ own c arg17 ∗ own c arg18 ∗ (∃ d16', owns (c : Thread nD τ) arg16 fullShare d16' ∗ ⌜relB i v0 d4 d6 d7 d8 d9 d10 d11 d16 d16'⌝)) -∗ K ⟨⟩))
      ⊢ wp frame (wpE (defs₀ (F := Ideal)) Variants.none c none) Set.univ (regB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1) K := by
  unfold regB own owns
  iintro ⟨⟨%f4, %e4, H4⟩, ⟨%f6, %e6, H6⟩, ⟨%f7, %e7, H7⟩, ⟨%f8, %e8, H8⟩, ⟨%f9, %e9, H9⟩, ⟨%f10, %e10, H10⟩, ⟨%f11, %e11, H11⟩, ⟨%f16, %e16, H16⟩, ⟨%f17, %e17, H17⟩, ⟨%f18, %e18, H18⟩, Hk⟩
  by_cases h : k0_cond2 i v0 = 1#1
  · sl_exec (disch := exact h)
    sl_step
    iapply Hk
    isplitl [H4]
    · iexists f4; isplitr; swap; · iexact H4
      ipureintro; exact e4
    isplitl [H6]
    · iexists f6; isplitr; swap; · iexact H6
      ipureintro; exact e6
    isplitl [H7]
    · iexists f7; isplitr; swap; · iexact H7
      ipureintro; exact e7
    isplitl [H8]
    · iexists f8; isplitr; swap; · iexact H8
      ipureintro; exact e8
    isplitl [H9]
    · iexists f9; isplitr; swap; · iexact H9
      ipureintro; exact e9
    isplitl [H10]
    · iexists f10; isplitr; swap; · iexact H10
      ipureintro; exact e10
    isplitl [H11]
    · iexists f11; isplitr; swap; · iexact H11
      ipureintro; exact e11
    isplitl [H17]
    · iexists _, _; isplitr; swap; · iexact H17
      ipureintro; rfl
    isplitl [H18]
    · iexists _, _; isplitr; swap; · iexact H18
      ipureintro; rfl
    iexists _; isplitl [H16]
    · iexists _; isplitr; swap; · iexact H16
      ipureintro; rfl
    · ipureintro
      subst e4 e6 e7 e8 e9 e10 e11 e16
      refine ⟨fun _ T hT kc t C => ?_, fun hn => absurd h hn⟩
      have hT' : ∀ (r : Fin 32) (x : Fin 128), x.val < 16 →
          k0_pay255 (arg7.view.readAt (Elt Ideal) (Rect.unit (s := S2x32x128) ![1, 0, 0] S1x32x128.size (by decide)).toLoadRect f7) (ix2 r x)
            ++ k0_pay254 (arg7.view.readAt (Elt Ideal) (Rect.unit (s := S2x32x128) ![0, 0, 0] S1x32x128.size (by decide)).toLoadRect f7) (ix2 r x) = T x.val := by
        intro r x hx
        refine Eq.trans (congrArg₂ (· ++ ·) ?_ ?_) (hT r x hx)
        · exact (cast_tab _ r x).trans (readAt_tab arg7.view f7 1 _ r x)
        · exact (cast_tab _ r x).trans (readAt_tab arg7.view f7 0 _ r x)
      by_cases hk : kc.val = (i 1).val
      · rw [if_pos hk]
        refine (View.read_writes_cons_unit_of_mem (Val := Elt Ideal) _ _ _ _ _ _ (ix3 (0 : Fin 1) t C) (off6_form i) ?_).trans ?_
        · intro a
          match a with
          | 0 => show kc.val = (i 1).val + 0; omega
          | 1 => show t.val = 0 + t.val; omega
          | 2 => show C.val = 0 + C.val; omega
        refine (pay4_apply _ _ _ t C).trans ?_
        refine Finset.sum_congr rfl fun D _ => congrArg₂ (· * ·) (congrArg₂ act ?_ ?_) ?_
        · refine (st_gate _ none i _ _ _ _ _ _ _ _ _ _ _ _ _ _ _ _ _ _ _ _ _ _ _ _ _ _ _ _ _ _ _ _ _ _ _ _ _ _ _ _ _ _ _ _ _ T par_253 hT' _ t D).trans ?_
          refine (congrArg₂ (· + ·) (z258 (ix2 t D)) rfl).trans ((zero_add _).trans ?_)
          refine Finset.sum_congr rfl fun k _ => Finset.sum_congr rfl fun R _ => congrArg₂ (· * ·) rfl ?_
          refine congrArg (fun s => tileAt T _ s R D) ((scales_256 arg17.view _ _ _ k).trans ?_)
          rw [View.readAt_full]
        · refine (st_up _ none i _ _ _ _ _ _ _ _ _ _ _ _ _ _ _ _ _ _ _ _ _ _ _ _ _ _ _ _ _ _ _ _ _ _ _ _ _ _ _ _ _ _ _ _ _ T par_253 hT' _ t D).trans ?_
          refine (congrArg₂ (· + ·) (z259 (ix2 t D)) rfl).trans ((zero_add _).trans ?_)
          refine Finset.sum_congr rfl fun k _ => Finset.sum_congr rfl fun R _ => congrArg₂ (· * ·) rfl ?_
          refine congrArg (fun s => tileAt T _ s R D) ((scales_257 arg18.view _ _ _ k).trans ?_)
          rw [View.readAt_full]
        · exact congrFun (View.readAt_full _ _ _) _
      · rw [if_neg hk]
        refine (View.read_writes_cons_unit_of_not_mem (Val := Elt Ideal) _ _ _ _ _ _ (off6_form i) 0 ?_).trans rfl
        show kc.val < (i 1).val ∨ (i 1).val + 1 ≤ kc.val
        omega
  · sl_exec (disch := exact h)
    sl_step
    iapply Hk
    isplitl [H4]
    · iexists f4; isplitr; swap; · iexact H4
      ipureintro; exact e4
    isplitl [H6]
    · iexists f6; isplitr; swap; · iexact H6
      ipureintro; exact e6
    isplitl [H7]
    · iexists f7; isplitr; swap; · iexact H7
      ipureintro; exact e7
    isplitl [H8]
    · iexists f8; isplitr; swap; · iexact H8
      ipureintro; exact e8
    isplitl [H9]
    · iexists f9; isplitr; swap; · iexact H9
      ipureintro; exact e9
    isplitl [H10]
    · iexists f10; isplitr; swap; · iexact H10
      ipureintro; exact e10
    isplitl [H11]
    · iexists f11; isplitr; swap; · iexact H11
      ipureintro; exact e11
    isplitl [H17]
    · iexists _, _; isplitr; swap; · iexact H17
      ipureintro; rfl
    isplitl [H18]
    · iexists _, _; isplitr; swap; · iexact H18
      ipureintro; rfl
    iexists _; isplitl [H16]
    · iexists _; isplitr; swap; · iexact H16
      ipureintro; rfl
    · ipureintro
      exact ⟨fun hn => absurd hn h, fun _ => e16⟩

end Cert.KernelIdeal.Hand

end
-- ==== Proof.ValC.lean ====
/-
  The body of `KernelIdeal`'s kernel, region C: what the region of one down tile leaves: the accumulator with the expert's weighted output added.
-/
module

public import proofs.«01_k».proof.Proof.KernelIdealRegions
public import proofs.«01_k».proof.Proof.Gen.KernelIdeal.Launch
public import Idealize.ShloMosaic.Lib.Pipeline.Frame
public import Idealize.ShloMosaic.Lib.Tactic
public import Idealize.ShloMosaic.PureOps.Ideal
public import proofs.«01_k».proof.Proof.Vals

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 40000000 in
/-- Region C runs, with the values that it leaves. -/
theorem regC_val (c : Dev nD) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole)(v0 : Elt Ideal .i32) (k0_hw1 : k0_chk1 i v0) (d5 : Vec Ideal S1x192x2 .f32) (d7 : Vec Ideal S2x32x128 .i8) (d12 : Vec Ideal S1x1024x512 .i8) (d13 : Vec Ideal S1x16x1024 .f32) (d15 : Vec Ideal S20x192x256 .f32) (d16 : Vec Ideal S4x192x256 .bf16) (d19 : Vec Ideal S16x2x1024 .bf16) (K : PUnit → sProp 𝕄) :
    iprop(owns (c : Thread nD τ) arg5 fullShare d5 ∗ owns (c : Thread nD τ) arg7 fullShare d7 ∗ owns (c : Thread nD τ) arg12 fullShare d12 ∗ owns (c : Thread nD τ) arg13 fullShare d13 ∗ owns (c : Thread nD τ) arg15 fullShare d15 ∗ owns (c : Thread nD τ) arg16 fullShare d16 ∗ owns (c : Thread nD τ) arg19 fullShare d19 ∗ (iprop(owns (c : Thread nD τ) arg5 fullShare d5 ∗ owns (c : Thread nD τ) arg7 fullShare d7 ∗ owns (c : Thread nD τ) arg12 fullShare d12 ∗ owns (c : Thread nD τ) arg13 fullShare d13 ∗ owns (c : Thread nD τ) arg16 fullShare d16 ∗ own c arg19 ∗ (∃ d15', owns (c : Thread nD τ) arg15 fullShare d15' ∗ ⌜relC i v0 d5 d7 d12 d13 d16 d15 d15'⌝)) -∗ K ⟨⟩))
      ⊢ wp frame (wpE (defs₀ (F := Ideal)) Variants.none c none) Set.univ (regC i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_hw1) K := by
  unfold regC own owns
  iintro ⟨⟨%f5, %e5, H5⟩, ⟨%f7, %e7, H7⟩, ⟨%f12, %e12, H12⟩, ⟨%f13, %e13, H13⟩, ⟨%f15, %e15, H15⟩, ⟨%f16, %e16, H16⟩, ⟨%f19, %e19, H19⟩, Hk⟩
  by_cases h : k0_cond3 i v0 = 1#1
  · have h4 := step_ge i v0 h
    letI c0 : ClosedOff (k0_off11 i 0#32) := ⟨![4 * ((i 1).val - 4) + 0, 0, 0], off11_form i 0 h4⟩
    letI c1 : ClosedOff (k0_off11 i 1#32) := ⟨![4 * ((i 1).val - 4) + 1, 0, 0], off11_form i 1 h4⟩
    letI c2 : ClosedOff (k0_off11 i 2#32) := ⟨![4 * ((i 1).val - 4) + 2, 0, 0], off11_form i 2 h4⟩
    letI c3 : ClosedOff (k0_off11 i 3#32) := ⟨![4 * ((i 1).val - 4) + 3, 0, 0], off11_form i 3 h4⟩
    sl_exec (disch := exact h)
    sl_step
    iapply Hk
    isplitl [H5]
    · iexists f5; isplitr; swap; · iexact H5
      ipureintro; exact e5
    isplitl [H7]
    · iexists f7; isplitr; swap; · iexact H7
      ipureintro; exact e7
    isplitl [H12]
    · iexists f12; isplitr; swap; · iexact H12
      ipureintro; exact e12
    isplitl [H13]
    · iexists f13; isplitr; swap; · iexact H13
      ipureintro; exact e13
    isplitl [H16]
    · iexists f16; isplitr; swap; · iexact H16
      ipureintro; exact e16
    isplitl [H19]
    · iexists _, _; isplitr; swap; · iexact H19
      ipureintro; rfl
    iexists _; isplitl [H15]
    · iexists _; isplitr; swap; · iexact H15
      ipureintro; rfl
    · ipureintro
      subst e5 e7 e12 e13 e15 e16
      refine ⟨fun _ T hT m t C => ?_, fun hn => absurd h hn⟩
      have hT' : ∀ (r : Fin 32) (x : Fin 128), x.val < 16 →
          shapeCast S32x128 (arg7.view.readAt (Elt Ideal) (Rect.unit (s := S2x32x128) ![1, 0, 0] S1x32x128.size (by decide)).toLoadRect f7) shapeCasts_S1x32x128_S32x128 (ix2 r x)
            ++ shapeCast S32x128 (arg7.view.readAt (Elt Ideal) (Rect.unit (s := S2x32x128) ![0, 0, 0] S1x32x128.size (by decide)).toLoadRect f7) shapeCasts_S1x32x128_S32x128 (ix2 r x) = T x.val := by
        intro r x hx
        refine Eq.trans (congrArg₂ (· ++ ·) ?_ ?_) (hT r x hx)
        · exact (cast_tab _ r x).trans (readAt_tab arg7.view f7 1 _ r x)
        · exact (cast_tab _ r x).trans (readAt_tab arg7.view f7 0 _ r x)
      constructor
      · intro r hr
        have hx : ∀ a, ((ix3 m t C : S20x192x256.Idx) a).val = (![4 * ((i 1).val - 4) + r.val, 0, 0] : Fin 3 → ℕ) a + ((ix3 (0 : Fin 1) t C : S1x192x256.Idx) a).val := by
          intro a
          match a with
          | 0 => show m.val = 4 * ((i 1).val - 4) + r.val + 0; omega
          | 1 => show t.val = 0 + t.val; omega
          | 2 => show C.val = 0 + C.val; omega
        have hoff : k0_off11 i (BitVec.ofNat 32 r.val) = ![m.val, 0, 0] := by rw [off11_form i r h4, hr]
        have hw := pay740_apply (arg5.view.readAt (Elt Ideal) (Rect.unit (s := S1x192x2) ![0, 0, 0] S1x192x2.size (by decide)).toLoadRect f5) t
        have hu := pay741_apply (arg5.view.readAt (Elt Ideal) (Rect.unit (s := S1x192x2) ![0, 0, 0] S1x192x2.size (by decide)).toLoadRect f5) t

        match r, hr, hx, hoff with
        | 0, hr, hx, hoff =>
          refine (View.read_writes_cons_unit_of_not_mem (Val := Elt Ideal) _ _ _ _ _ _ (off11_form i 3 h4) 0 ?_).trans ?_
          · show m.val < 4 * ((i 1).val - 4) + 3 ∨ 4 * ((i 1).val - 4) + 3 + 1 ≤ m.val
            have : m.val = 4 * ((i 1).val - 4) + 0 := hr
            omega
          refine (View.read_writes_cons_unit_of_not_mem (Val := Elt Ideal) _ _ _ _ _ _ (off11_form i 2 h4) 0 ?_).trans ?_
          · show m.val < 4 * ((i 1).val - 4) + 2 ∨ 4 * ((i 1).val - 4) + 2 + 1 ≤ m.val
            have : m.val = 4 * ((i 1).val - 4) + 0 := hr
            omega
          refine (View.read_writes_cons_unit_of_not_mem (Val := Elt Ideal) _ _ _ _ _ _ (off11_form i 1 h4) 0 ?_).trans ?_
          · show m.val < 4 * ((i 1).val - 4) + 1 ∨ 4 * ((i 1).val - 4) + 1 + 1 ≤ m.val
            have : m.val = 4 * ((i 1).val - 4) + 0 := hr
            omega
          refine (View.read_writes_cons_unit_of_mem (Val := Elt Ideal) _ _ _ _ _ _ (ix3 (0 : Fin 1) t C) (off11_form i 0 h4) hx).trans ?_
          refine (pay746_apply _ _ _ _ t C).trans ?_
          refine congr (congr (congr (congrArg addUsed ?_) ?_) (hw.trans (congrFun (View.readAt_full _ _ _) _))) (hu.trans (congrArg (fun d : S1x192x2.Idx → EReal => BitVec.ofBool (decide ((0 : EReal) < d (ix3 (0 : Fin 1) t (1 : Fin 2))))) (View.readAt_full _ _ _)))
          · exact readAt_acc arg15.view f15 _ m _ hoff t C
          · refine (st_down2 _ none i _ _ _ _ _ _ _ _ _ _ _ _ _ _ _ _ _ _ _ _ _ _ _ _ _ _ _ _ _ _ _ _ _ _ _ _ _ _ _ _ _ _ _ T par_736 hT' _ t C).trans ?_
            refine (congrArg₂ (· + ·) (z742 (ix2 t C)) rfl).trans ((zero_add _).trans ?_)
            refine Finset.sum_congr rfl fun k _ => Finset.sum_congr rfl fun R _ => congrArg₂ (· * ·) rfl ?_
            refine congrArg (fun s => tileAt T _ s R C) ((scales_739 arg19.view _ _ _ _ k).trans ?_)
            rw [View.readAt_full]
        | 1, hr, hx, hoff =>
          refine (View.read_writes_cons_unit_of_not_mem (Val := Elt Ideal) _ _ _ _ _ _ (off11_form i 3 h4) 0 ?_).trans ?_
          · show m.val < 4 * ((i 1).val - 4) + 3 ∨ 4 * ((i 1).val - 4) + 3 + 1 ≤ m.val
            have : m.val = 4 * ((i 1).val - 4) + 1 := hr
            omega
          refine (View.read_writes_cons_unit_of_not_mem (Val := Elt Ideal) _ _ _ _ _ _ (off11_form i 2 h4) 0 ?_).trans ?_
          · show m.val < 4 * ((i 1).val - 4) + 2 ∨ 4 * ((i 1).val - 4) + 2 + 1 ≤ m.val
            have : m.val = 4 * ((i 1).val - 4) + 1 := hr
            omega
          refine (View.read_writes_cons_unit_of_mem (Val := Elt Ideal) _ _ _ _ _ _ (ix3 (0 : Fin 1) t C) (off11_form i 1 h4) hx).trans ?_
          refine (pay751_apply _ _ _ _ t C).trans ?_
          refine congr (congr (congr (congrArg addUsed ?_) ?_) (hw.trans (congrFun (View.readAt_full _ _ _) _))) (hu.trans (congrArg (fun d : S1x192x2.Idx → EReal => BitVec.ofBool (decide ((0 : EReal) < d (ix3 (0 : Fin 1) t (1 : Fin 2))))) (View.readAt_full _ _ _)))
          · exact readAt_acc arg15.view f15 _ m _ hoff t C
          · refine (st_down3 _ none i _ _ _ _ _ _ _ _ _ _ _ _ _ _ _ _ _ _ _ _ _ _ _ _ _ _ _ _ _ _ _ _ _ _ _ _ v0 k0_hw1 _ _ _ _ _ _ _ _ _ _ _ T par_736 hT' _ t C).trans ?_
            refine (congrArg₂ (· + ·) (z747 (ix2 t C)) rfl).trans ((zero_add _).trans ?_)
            refine Finset.sum_congr rfl fun k _ => Finset.sum_congr rfl fun R _ => congrArg₂ (· * ·) rfl ?_
            refine congrArg (fun s => tileAt T _ s R C) ((scales_739 arg19.view _ _ _ _ k).trans ?_)
            rw [View.readAt_full]
        | 2, hr, hx, hoff =>
          refine (View.read_writes_cons_unit_of_not_mem (Val := Elt Ideal) _ _ _ _ _ _ (off11_form i 3 h4) 0 ?_).trans ?_
          · show m.val < 4 * ((i 1).val - 4) + 3 ∨ 4 * ((i 1).val - 4) + 3 + 1 ≤ m.val
            have : m.val = 4 * ((i 1).val - 4) + 2 := hr
            omega
          refine (View.read_writes_cons_unit_of_mem (Val := Elt Ideal) _ _ _ _ _ _ (ix3 (0 : Fin 1) t C) (off11_form i 2 h4) hx).trans ?_
          refine (pay756_apply _ _ _ _ t C).trans ?_
          refine congr (congr (congr (congrArg addUsed ?_) ?_) (hw.trans (congrFun (View.readAt_full _ _ _) _))) (hu.trans (congrArg (fun d : S1x192x2.Idx → EReal => BitVec.ofBool (decide ((0 : EReal) < d (ix3 (0 : Fin 1) t (1 : Fin 2))))) (View.readAt_full _ _ _)))
          · exact readAt_acc arg15.view f15 _ m _ hoff t C
          · refine (st_down4 _ none i _ _ _ _ _ _ _ _ _ _ _ _ _ _ _ _ _ _ _ _ _ _ _ _ _ _ _ _ _ _ _ _ _ _ _ _ v0 k0_hw1 _ _ _ _ _ _ _ _ _ _ _ _ T par_736 hT' _ t C).trans ?_
            refine (congrArg₂ (· + ·) (z752 (ix2 t C)) rfl).trans ((zero_add _).trans ?_)
            refine Finset.sum_congr rfl fun k _ => Finset.sum_congr rfl fun R _ => congrArg₂ (· * ·) rfl ?_
            refine congrArg (fun s => tileAt T _ s R C) ((scales_739 arg19.view _ _ _ _ k).trans ?_)
            rw [View.readAt_full]
        | 3, hr, hx, hoff =>
          refine (View.read_writes_cons_unit_of_mem (Val := Elt Ideal) _ _ _ _ _ _ (ix3 (0 : Fin 1) t C) (off11_form i 3 h4) hx).trans ?_
          refine (pay761_apply _ _ _ _ t C).trans ?_
          refine congr (congr (congr (congrArg addUsed ?_) ?_) (hw.trans (congrFun (View.readAt_full _ _ _) _))) (hu.trans (congrArg (fun d : S1x192x2.Idx → EReal => BitVec.ofBool (decide ((0 : EReal) < d (ix3 (0 : Fin 1) t (1 : Fin 2))))) (View.readAt_full _ _ _)))
          · exact readAt_acc arg15.view f15 _ m _ hoff t C
          · refine (st_down5 _ none i _ _ _ _ _ _ _ _ _ _ _ _ _ _ _ _ _ _ _ _ _ _ _ _ _ _ _ _ _ _ _ _ _ _ _ _ v0 k0_hw1 _ _ _ _ _ _ _ _ _ _ _ _ T par_736 hT' _ t C).trans ?_
            refine (congrArg₂ (· + ·) (z757 (ix2 t C)) rfl).trans ((zero_add _).trans ?_)
            refine Finset.sum_congr rfl fun k _ => Finset.sum_congr rfl fun R _ => congrArg₂ (· * ·) rfl ?_
            refine congrArg (fun s => tileAt T _ s R C) ((scales_739 arg19.view _ _ _ _ k).trans ?_)
            rw [View.readAt_full]
      · intro hne
        refine (View.read_writes_cons_unit_of_not_mem (Val := Elt Ideal) _ _ _ _ _ _ (off11_form i 3 h4) 0 ?_).trans ?_
        · show m.val < 4 * ((i 1).val - 4) + 3 ∨ 4 * ((i 1).val - 4) + 3 + 1 ≤ m.val
          have : m.val ≠ 4 * ((i 1).val - 4) + 3 := hne 3
          omega
        refine (View.read_writes_cons_unit_of_not_mem (Val := Elt Ideal) _ _ _ _ _ _ (off11_form i 2 h4) 0 ?_).trans ?_
        · show m.val < 4 * ((i 1).val - 4) + 2 ∨ 4 * ((i 1).val - 4) + 2 + 1 ≤ m.val
          have : m.val ≠ 4 * ((i 1).val - 4) + 2 := hne 2
          omega
        refine (View.read_writes_cons_unit_of_not_mem (Val := Elt Ideal) _ _ _ _ _ _ (off11_form i 1 h4) 0 ?_).trans ?_
        · show m.val < 4 * ((i 1).val - 4) + 1 ∨ 4 * ((i 1).val - 4) + 1 + 1 ≤ m.val
          have : m.val ≠ 4 * ((i 1).val - 4) + 1 := hne 1
          omega
        refine (View.read_writes_cons_unit_of_not_mem (Val := Elt Ideal) _ _ _ _ _ _ (off11_form i 0 h4) 0 ?_).trans ?_
        · show m.val < 4 * ((i 1).val - 4) + 0 ∨ 4 * ((i 1).val - 4) + 0 + 1 ≤ m.val
          have : m.val ≠ 4 * ((i 1).val - 4) + 0 := hne 0
          omega
        rfl
  · sl_exec (disch := exact h)
    sl_step
    iapply Hk
    isplitl [H5]
    · iexists f5; isplitr; swap; · iexact H5
      ipureintro; exact e5
    isplitl [H7]
    · iexists f7; isplitr; swap; · iexact H7
      ipureintro; exact e7
    isplitl [H12]
    · iexists f12; isplitr; swap; · iexact H12
      ipureintro; exact e12
    isplitl [H13]
    · iexists f13; isplitr; swap; · iexact H13
      ipureintro; exact e13
    isplitl [H16]
    · iexists f16; isplitr; swap; · iexact H16
      ipureintro; exact e16
    isplitl [H19]
    · iexists _, _; isplitr; swap; · iexact H19
      ipureintro; rfl
    iexists _; isplitl [H15]
    · iexists _; isplitr; swap; · iexact H15
      ipureintro; rfl
    · ipureintro
      exact ⟨fun hn => absurd hn h, fun _ => e15⟩

end Cert.KernelIdeal.Hand

end
-- ==== Proof.ValD.lean ====
/-
  The body of `KernelIdeal`'s kernel, region D: what the region that writes the result leaves: the accumulator's twenty tiles laid side by side.
-/
module

public import proofs.«01_k».proof.Proof.KernelIdealRegions
public import proofs.«01_k».proof.Proof.Gen.KernelIdeal.Launch
public import Idealize.ShloMosaic.Lib.Pipeline.Frame
public import Idealize.ShloMosaic.Lib.Tactic
public import Idealize.ShloMosaic.PureOps.Ideal
public import proofs.«01_k».proof.Proof.Vals

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 40000000 in
/-- Region D runs, with the values that it leaves. -/
theorem regD_val (c : Dev nD) (i : grid0.Coords) (arg2 : Memref sig .tc .smem S8 .i32) (harg2 : arg2.IsWhole) (arg3 : Memref sig .tc .smem S1 .i32) (harg3 : arg3.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole)(d14 : Vec Ideal S192x5120 .bf16) (d15 : Vec Ideal S20x192x256 .f32) (K : PUnit → sProp 𝕄) :
    iprop(owns (c : Thread nD τ) arg14 fullShare d14 ∗ owns (c : Thread nD τ) arg15 fullShare d15 ∗ (iprop(owns (c : Thread nD τ) arg15 fullShare d15 ∗ (∃ d14', owns (c : Thread nD τ) arg14 fullShare d14' ∗ ⌜relD i d15 d14'⌝)) -∗ K ⟨⟩))
      ⊢ wp frame (wpE (defs₀ (F := Ideal)) Variants.none c none) Set.univ (regD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold regD owns
  iintro ⟨⟨%f14, %e14, H14⟩, ⟨%f15, %e15, H15⟩, Hk⟩
  by_cases h : k0_cond4 i = 1#1
  · sl_exec (disch := exact h)
    sl_step
    iapply Hk
    isplitl [H15]
    · iexists f15; isplitr; swap; · iexact H15
      ipureintro; exact e15
    iexists _; isplitl [H14]
    · iexists _; isplitr; swap; · iexact H14
      ipureintro; rfl
    · ipureintro
      subst e15
      intro _ y
      refine View.read_writes_apply_of_pieces (Val := Elt Ideal) arg14.view f14 (outOf (arg15.view.read (Elt Ideal) f15)) _ ?_ y ?_
      · intro p hp x
        simp only [List.mem_cons, List.not_mem_nil, or_false] at hp
        rcases hp with rfl | rfl | rfl | rfl | rfl | rfl | rfl | rfl | rfl | rfl | rfl | rfl | rfl | rfl | rfl | rfl | rfl | rfl | rfl | rfl
        · exact piece_out arg15.view f15 19 (by decide) (by decide) x
        · exact piece_out arg15.view f15 18 (by decide) (by decide) x
        · exact piece_out arg15.view f15 17 (by decide) (by decide) x
        · exact piece_out arg15.view f15 16 (by decide) (by decide) x
        · exact piece_out arg15.view f15 15 (by decide) (by decide) x
        · exact piece_out arg15.view f15 14 (by decide) (by decide) x
        · exact piece_out arg15.view f15 13 (by decide) (by decide) x
        · exact piece_out arg15.view f15 12 (by decide) (by decide) x
        · exact piece_out arg15.view f15 11 (by decide) (by decide) x
        · exact piece_out arg15.view f15 10 (by decide) (by decide) x
        · exact piece_out arg15.view f15 9 (by decide) (by decide) x
        · exact piece_out arg15.view f15 8 (by decide) (by decide) x
        · exact piece_out arg15.view f15 7 (by decide) (by decide) x
        · exact piece_out arg15.view f15 6 (by decide) (by decide) x
        · exact piece_out arg15.view f15 5 (by decide) (by decide) x
        · exact piece_out arg15.view f15 4 (by decide) (by decide) x
        · exact piece_out arg15.view f15 3 (by decide) (by decide) x
        · exact piece_out arg15.view f15 2 (by decide) (by decide) x
        · exact piece_out arg15.view f15 1 (by decide) (by decide) x
        · exact piece_out arg15.view f15 0 (by decide) (by decide) x
      · have hy : (y 1).val < 5120 := (y 1).isLt
        have h0 : (y 0).val < 192 := (y 0).isLt
        have mem : ∀ (m : Fin 20) (hb), (y 1).val / 256 = m.val → y ∈ (Rect.unit (s := S192x5120) ![0, 256 * m.val] S192x256.size hb).set := by
          intro m hb hm
          rw [Rect.mem_set_unit]
          intro a
          match a with
          | 0 => exact ⟨Nat.zero_le _, by show (y 0).val < 0 + 192; omega⟩
          | 1 => exact ⟨by show 256 * m.val ≤ (y 1).val; omega, by show (y 1).val < 256 * m.val + 256; omega⟩
        obtain ⟨m, hm⟩ : ∃ m : Fin 20, (y 1).val / 256 = m.val := ⟨⟨(y 1).val / 256, by omega⟩, rfl⟩
        obtain ⟨m, hm20⟩ := m
        interval_cases m
        · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), mem 0 (by decide) hm⟩
        · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), mem 1 (by decide) hm⟩
        · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), mem 2 (by decide) hm⟩
        · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), mem 3 (by decide) hm⟩
        · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem 4 (by decide) hm⟩
        · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem 5 (by decide) hm⟩
        · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem 6 (by decide) hm⟩
        · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem 7 (by decide) hm⟩
        · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem 8 (by decide) hm⟩
        · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem 9 (by decide) hm⟩
        · exact ⟨_, List.Mem.tail _ (List.Mem.tail _ (List.Mem.tail _ (List.Mem.tail _ (List.Mem.tail _ (List.Mem.tail _ (List.Mem.tail _ (List.Mem.tail _ (List.Mem.tail _ (List.Mem.head _))))))))), mem 10 (by decide) hm⟩
        · exact ⟨_, List.Mem.tail _ (List.Mem.tail _ (List.Mem.tail _ (List.Mem.tail _ (List.Mem.tail _ (List.Mem.tail _ (List.Mem.tail _ (List.Mem.tail _ (List.Mem.head _)))))))), mem 11 (by decide) hm⟩
        · exact ⟨_, List.Mem.tail _ (List.Mem.tail _ (List.Mem.tail _ (List.Mem.tail _ (List.Mem.tail _ (List.Mem.tail _ (List.Mem.tail _ (List.Mem.head _))))))), mem 12 (by decide) hm⟩
        · exact ⟨_, List.Mem.tail _ (List.Mem.tail _ (List.Mem.tail _ (List.Mem.tail _ (List.Mem.tail _ (List.Mem.tail _ (List.Mem.head _)))))), mem 13 (by decide) hm⟩
        · exact ⟨_, List.Mem.tail _ (List.Mem.tail _ (List.Mem.tail _ (List.Mem.tail _ (List.Mem.tail _ (List.Mem.head _))))), mem 14 (by decide) hm⟩
        · exact ⟨_, List.Mem.tail _ (List.Mem.tail _ (List.Mem.tail _ (List.Mem.tail _ (List.Mem.head _)))), mem 15 (by decide) hm⟩
        · exact ⟨_, List.Mem.tail _ (List.Mem.tail _ (List.Mem.tail _ (List.Mem.head _))), mem 16 (by decide) hm⟩
        · exact ⟨_, List.Mem.tail _ (List.Mem.tail _ (List.Mem.head _)), mem 17 (by decide) hm⟩
        · exact ⟨_, List.Mem.tail _ (List.Mem.head _), mem 18 (by decide) hm⟩
        · exact ⟨_, List.Mem.head _, mem 19 (by decide) hm⟩
  · sl_exec (disch := exact h)
    sl_step
    iapply Hk
    isplitl [H15]
    · iexists f15; isplitr; swap; · iexact H15
      ipureintro; exact e15
    iexists _; isplitl [H14]
    · iexists _; isplitr; swap; · iexact H14
      ipureintro; rfl
    · ipureintro
      exact fun hn => absurd hn h

end Cert.KernelIdeal.Hand

end
-- ==== Proof.BodyVal.lean ====
/-
  The kernel's body at a point: what it leaves in its buffers.
-/
module

public import proofs.«01_k».proof.Proof.ValA
public import proofs.«01_k».proof.Proof.ValB
public import proofs.«01_k».proof.Proof.ValC
public import proofs.«01_k».proof.Proof.ValD
public import proofs.«01_k».proof.Proof.KernelIdealBody
public import Idealize.ShloMosaic.Lib.Tactic
public import Idealize.ShloMosaic.Lib.Pipeline.Frame

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The first step clears the accumulator. -/
def relA (i : grid0.Coords) (d15 d15' : S20x192x256.Idx → EReal) : Prop :=
  (Scalar.cmpi .ne (Scalar.extui (Scalar.andi (Scalar.cmpi .eq (BitVec.ofNat 32 (i 0).val) 0#32) (Scalar.cmpi .eq (BitVec.ofNat 32 (i 1).val) 0#32)) : BitVec 32) 0#32 = 1#1 → ∀ y, (d15' y : EReal) = 0) ∧ (¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1 → d15' = d15)

/-- What a point of the grid does to the accumulator, the hidden tiles and the output. -/
def relAll (i : grid0.Coords) (v0 : BitVec 32) (d4 : S192x5120.Idx → EReal) (d5 : S1x192x2.Idx → EReal) (d6 : S256x256.Idx → EReal) (d7 : S2x32x128.Idx → BitVec 8)
    (d8 : S1x256x2560.Idx → BitVec 8) (d9 : S1x80x256.Idx → EReal) (d10 : S1x256x2560.Idx → BitVec 8) (d11 : S1x80x256.Idx → EReal)
    (d12 : S1x1024x512.Idx → BitVec 8) (d13 : S1x16x1024.Idx → EReal) (d14' : S192x5120.Idx → EReal) (d15 d15' : S20x192x256.Idx → EReal)
    (d16 d16' : S4x192x256.Idx → EReal) : Prop :=
  ∃ a : S20x192x256.Idx → EReal, relA i d15 a ∧ relB i v0 d4 d6 d7 d8 d9 d10 d11 d16 d16' ∧ relC i v0 d5 d7 d12 d13 d16' a d15' ∧ relD i d15' d14'

set_option maxHeartbeats 4000000 in
/-- The body at a point, with the values it leaves. -/
theorem body_val (c : Dev nD) (i : grid0.Coords) (arg2 : Memref sig .tc .smem S8 .i32) (harg2 : arg2.IsWhole) (arg4 : Memref sig .tc .vmem S192x5120 .bf16) (harg4 : arg4.IsWhole) (arg5 : Memref sig .tc .vmem S1x192x2 .f32) (harg5 : arg5.IsWhole) (arg6 : Memref sig .tc .vmem S256x256 .bf16) (harg6 : arg6.IsWhole) (arg7 : Memref sig .tc .vmem S2x32x128 .i8) (harg7 : arg7.IsWhole) (arg8 : Memref sig .tc .vmem S1x256x2560 .i8) (harg8 : arg8.IsWhole) (arg9 : Memref sig .tc .vmem S1x80x256 .f32) (harg9 : arg9.IsWhole) (arg10 : Memref sig .tc .vmem S1x256x2560 .i8) (harg10 : arg10.IsWhole) (arg11 : Memref sig .tc .vmem S1x80x256 .f32) (harg11 : arg11.IsWhole) (arg12 : Memref sig .tc .vmem S1x1024x512 .i8) (harg12 : arg12.IsWhole) (arg13 : Memref sig .tc .vmem S1x16x1024 .f32) (harg13 : arg13.IsWhole) (arg14 : Memref sig .tc .vmem S192x5120 .bf16) (harg14 : arg14.IsWhole) (arg15 : Memref sig .tc .vmem S20x192x256 .f32) (harg15 : arg15.IsWhole) (arg16 : Memref sig .tc .vmem S4x192x256 .bf16) (harg16 : arg16.IsWhole) (arg17 : Memref sig .tc .vmem S80x2x256 .bf16) (harg17 : arg17.IsWhole) (arg18 : Memref sig .tc .vmem S80x2x256 .bf16) (harg18 : arg18.IsWhole) (arg19 : Memref sig .tc .vmem S16x2x1024 .bf16) (harg19 : arg19.IsWhole) (ft : Buf (Elt Ideal) ((T3).view.loc (c : Thread nD τ))) (d4 : Vec Ideal S192x5120 .bf16) (d5 : Vec Ideal S1x192x2 .f32) (d6 : Vec Ideal S256x256 .bf16) (d7 : Vec Ideal S2x32x128 .i8) (d8 : Vec Ideal S1x256x2560 .i8) (d9 : Vec Ideal S1x80x256 .f32) (d10 : Vec Ideal S1x256x2560 .i8) (d11 : Vec Ideal S1x80x256 .f32) (d12 : Vec Ideal S1x1024x512 .i8) (d13 : Vec Ideal S1x16x1024 .f32) (d14 : Vec Ideal S192x5120 .bf16) (d15 : Vec Ideal S20x192x256 .f32) (d16 : Vec Ideal S4x192x256 .bf16) (d17 : Vec Ideal S80x2x256 .bf16) (d18 : Vec Ideal S80x2x256 .bf16) (d19 : Vec Ideal S16x2x1024 .bf16) (K : PUnit → sProp 𝕄) :
    iprop(tbPt c T3 ft ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ (iprop(tbPt c T3 ft ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ ∃ d14' d15' d16', owns (c : Thread nD τ) arg14 fullShare d14' ∗ owns (c : Thread nD τ) arg15 fullShare d15' ∗ owns (c : Thread nD τ) arg16 fullShare d16' ∗ own c arg17 ∗ own c arg18 ∗ own c arg19 ∗ ⌜relAll i (nactOf c ft) d4 d5 d6 d7 d8 d9 d10 d11 d12 d13 d14' d15 d15' d16 d16'⌝) -∗ K ⟨⟩))
      ⊢ wp frame (wpE (defs₀ (F := Ideal)) Variants.none c none) Set.univ (cc0_nf4_moe i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [skel_eq]
  iintro ⟨HT, H4, H5, H6, H7, H8, H9, H10, H11, H12, H13, H14, H15, H16, H17, H18, H19, Hk⟩
  rw [wp_bind]
  iapply (head_run c ft _)
  isplitl [HT]; · iexact HT
  iintro HT
  rw [wp_bind]
  iapply (assume_run c (k0_chk1 i _) (chk1 i _) _)
  rw [wp_bind]
  iapply (regA_val c i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 d15 _)
  isplitl [H15]; · iexact H15
  iintro ⟨%a15, H15, %rA⟩
  rw [wp_bind]
  iapply (regB_val c i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ (chk1 i _) d4 d6 d7 d8 d9 d10 d11 d16 d17 d18 _)
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H16]; · iexact H16
  isplitl [H17]; · iexact H17
  isplitl [H18]; · iexact H18
  iintro ⟨H4, H6, H7, H8, H9, H10, H11, H17, H18, ⟨%d16', H16, %rB⟩⟩
  rw [wp_bind]
  iapply (regC_val c i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ (chk1 i _) d5 d7 d12 d13 a15 d16' d19 _)
  isplitl [H5]; · iexact H5
  isplitl [H7]; · iexact H7
  isplitl [H12]; · iexact H12
  isplitl [H13]; · iexact H13
  isplitl [H15]; · iexact H15
  isplitl [H16]; · iexact H16
  isplitl [H19]; · iexact H19
  iintro ⟨H5, H7, H12, H13, H16, H19, ⟨%d15', H15, %rC⟩⟩
  iapply (regD_val c i arg2 harg2 T3 hT3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 d14 d15' _)
  isplitl [H14]; · iexact H14
  isplitl [H15]; · iexact H15
  iintro ⟨H15, ⟨%d14', H14, %rD⟩⟩
  iapply Hk
  isplitl [HT]; · iexact HT
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists d14', d15', d16'
  isplitl [H14]; · iexact H14
  isplitl [H15]; · iexact H15
  isplitl [H16]; · iexact H16
  isplitl [H17]; · iexact H17
  isplitl [H18]; · iexact H18
  isplitl [H19]; · iexact H19
  ipureintro
  exact ⟨a15, rA, rB, rC, rD⟩

end Cert.KernelIdeal.Hand

end
-- ==== Proof.Steps.lean ====
/-
  The values over the whole grid: what the accumulator and the hidden tiles hold before each point.
-/
module

public import proofs.«01_k».proof.Proof.BodyVal

@[expose] public section

set_option maxRecDepth 65536

noncomputable section

namespace Cert.KernelIdeal.Hand

open Cert.KernelIdeal Cert.KernelIdeal.Gen
open Idealize.ShloMosaic Idealize.ShloMosaic.TcCoe

/-- The arrays the kernel's windows move, the order of the experts and the number of those that work. -/
structure Arr where
  x : S192x5120.Idx → EReal
  cw : S8x192x2.Idx → EReal
  p : S256x256.Idx → EReal
  tab : ℕ → BitVec 16
  wg : S8x1024x2560.Idx → BitVec 8
  sg : S8x80x1024.Idx → EReal
  wu : S8x1024x2560.Idx → BitVec 8
  su : S8x80x1024.Idx → EReal
  wd : S8x5120x512.Idx → BitVec 8
  sd : S8x16x5120.Idx → EReal
  ord : Fin 8 → Fin 8
  n : ℕ

namespace Arr

variable (a : Arr)

/-- A gate or up product of an expert, its `kc`-th tile of hidden lanes. -/
def gDot (w : S8x1024x2560.Idx → BitVec 8) (s : S8x80x1024.Idx → EReal) (o : Fin 8) (kc : Fin 4) (t : Fin 192) (C : Fin 256) : EReal :=
  ∑ k : Fin 20, ∑ R : Fin 256, a.x (ix2 t ⟨256 * k.val + R.val, by omega⟩)
    * tileAt a.tab (fun C b => w (ix3 o ⟨256 * kc.val + C.val, by omega⟩ ⟨128 * k.val + b.val, by omega⟩))
        (fun i C => s (ix3 o ⟨4 * k.val + i.val, by omega⟩ ⟨256 * kc.val + C.val, by omega⟩)) R C
/-- A hidden tile of an expert. -/
def hp (o : Fin 8) (kc : Fin 4) (t : Fin 192) (C : Fin 256) : EReal :=
  ∑ D : Fin 256, act (a.gDot a.wg a.sg o kc t D) (a.gDot a.wu a.su o kc t D) * a.p (ix2 D C)
/-- A down product of an expert, its `m`-th tile of output lanes. -/
def dDot (o : Fin 8) (m : Fin 20) (t : Fin 192) (C : Fin 256) : EReal :=
  ∑ k : Fin 4, ∑ R : Fin 256, a.hp o k t R
    * tileAt a.tab (fun C b => a.wd (ix3 o ⟨256 * m.val + C.val, by omega⟩ ⟨128 * k.val + b.val, by omega⟩))
        (fun i C => a.sd (ix3 o ⟨4 * k.val + i.val, by omega⟩ ⟨256 * m.val + C.val, by omega⟩)) R C
/-- What an expert adds to the output. -/
def con (o : Fin 8) (m : Fin 20) (t : Fin 192) (C : Fin 256) : EReal :=
  if BitVec.ofBool (decide ((0 : EReal) < a.cw (ix3 o t (1 : Fin 2)))) = 1#1 then a.dDot o m t C * a.cw (ix3 o t (0 : Fin 2)) else 0
/-- What the accumulator holds before a point. -/
def accV (t : ℕ) (m : Fin 20) (tok : Fin 192) (C : Fin 256) : EReal :=
  ∑ e : Fin 8, if e.val < a.n ∧ 9 * e.val + 4 + m.val / 4 < t then a.con (a.ord e) m tok C else 0

/-- The accumulator and the hidden tiles hold what they should before a point. -/
def Inv (t : ℕ) (A : S20x192x256.Idx → EReal) (H : S4x192x256.Idx → EReal) : Prop :=
  (1 ≤ t → ∀ m tok C, A (ix3 m tok C) = a.accV t m tok C) ∧
  (∀ e : Fin 8, e.val = t / 9 → e.val < a.n → ∀ kc : Fin 4, kc.val < t % 9 → ∀ tok C, H (ix3 kc tok C) = a.hp (a.ord e) kc tok C)

/-- The blocks that a point's windows hold. -/
structure Blk (i : grid0.Coords) (d4 : S192x5120.Idx → EReal) (d5 : S1x192x2.Idx → EReal) (d6 : S256x256.Idx → EReal) (d7 : S2x32x128.Idx → BitVec 8)
    (d8 : S1x256x2560.Idx → BitVec 8) (d9 : S1x80x256.Idx → EReal) (d10 : S1x256x2560.Idx → BitVec 8) (d11 : S1x80x256.Idx → EReal)
    (d12 : S1x1024x512.Idx → BitVec 8) (d13 : S1x16x1024.Idx → EReal) : Prop where
  h4 : d4 = a.x
  h6 : d6 = a.p
  h7 : TabOK d7 a.tab
  h5 : ∀ e : Fin 8, e.val = (i 0).val → ∀ t q, d5 (ix3 (0 : Fin 1) t q) = a.cw (ix3 (a.ord e) t q)
  h8 : ∀ e : Fin 8, e.val = (i 0).val → e.val < a.n → ∀ kc : Fin 4, kc.val = (i 1).val → ∀ (C : Fin 256) b, d8 (ix3 (0 : Fin 1) C b) = a.wg (ix3 (a.ord e) ⟨256 * kc.val + C.val, by omega⟩ b)
  h9 : ∀ e : Fin 8, e.val = (i 0).val → e.val < a.n → ∀ kc : Fin 4, kc.val = (i 1).val → ∀ b (C : Fin 256), d9 (ix3 (0 : Fin 1) b C) = a.sg (ix3 (a.ord e) b ⟨256 * kc.val + C.val, by omega⟩)
  h10 : ∀ e : Fin 8, e.val = (i 0).val → e.val < a.n → ∀ kc : Fin 4, kc.val = (i 1).val → ∀ (C : Fin 256) b, d10 (ix3 (0 : Fin 1) C b) = a.wu (ix3 (a.ord e) ⟨256 * kc.val + C.val, by omega⟩ b)
  h11 : ∀ e : Fin 8, e.val = (i 0).val → e.val < a.n → ∀ kc : Fin 4, kc.val = (i 1).val → ∀ b (C : Fin 256), d11 (ix3 (0 : Fin 1) b C) = a.su (ix3 (a.ord e) b ⟨256 * kc.val + C.val, by omega⟩)
  h12 : ∀ e : Fin 8, e.val = (i 0).val → e.val < a.n → ∀ g : Fin 5, g.val + 4 = (i 1).val → ∀ (C : Fin 1024) b, d12 (ix3 (0 : Fin 1) C b) = a.wd (ix3 (a.ord e) ⟨1024 * g.val + C.val, by omega⟩ b)
  h13 : ∀ e : Fin 8, e.val = (i 0).val → e.val < a.n → ∀ g : Fin 5, g.val + 4 = (i 1).val → ∀ b (C : Fin 1024), d13 (ix3 (0 : Fin 1) b C) = a.sd (ix3 (a.ord e) b ⟨1024 * g.val + C.val, by omega⟩)

end Arr

theorem cond1_word : ∀ (e : Fin 8) (s : Fin 9), Scalar.cmpi .ne (Scalar.extui (Scalar.andi (Scalar.cmpi .eq (BitVec.ofNat 32 e.val) 0#32) (Scalar.cmpi .eq (BitVec.ofNat 32 s.val) 0#32)) : BitVec 32) 0#32 = 1#1 ↔ e.val = 0 ∧ s.val = 0 := by decide
theorem slt_word : ∀ (e : Fin 8) (n : Fin 9), Scalar.cmpi .slt (BitVec.ofNat 32 e.val) (BitVec.ofNat 32 n.val) = BitVec.ofBool (decide (e.val < n.val)) := by decide
theorem cond2_word : ∀ (b : Bool) (s : Fin 9), Scalar.cmpi .ne (Scalar.extui (Scalar.andi (BitVec.ofBool b) (Scalar.cmpi .slt (BitVec.ofNat 32 s.val) 4#32)) : BitVec 32) 0#32 = 1#1 ↔ b = true ∧ s.val < 4 := by decide
theorem cond3_word : ∀ (b : Bool) (s : Fin 9), Scalar.cmpi .ne (Scalar.extui (Scalar.andi (BitVec.ofBool b) (Scalar.cmpi .sge (BitVec.ofNat 32 s.val) 4#32)) : BitVec 32) 0#32 = 1#1 ↔ b = true ∧ 4 ≤ s.val := by decide
theorem cond4_word : ∀ (e : Fin 8) (s : Fin 9), Scalar.cmpi .ne (Scalar.extui (Scalar.andi (Scalar.cmpi .eq (BitVec.ofNat 32 e.val) 7#32) (Scalar.cmpi .eq (BitVec.ofNat 32 s.val) 8#32)) : BitVec 32) 0#32 = 1#1 ↔ e.val = 7 ∧ s.val = 8 := by decide

theorem cond2_iff (i : grid0.Coords) (n : ℕ) (hn : n ≤ 8) : k0_cond2 i (BitVec.ofNat 32 n) = 1#1 ↔ (i 0).val < n ∧ (i 1).val < 4 := by
  have h := cond2_word (decide ((i 0).val < n)) (i 1)
  rw [← slt_word (i 0) ⟨n, by omega⟩, decide_eq_true_iff] at h
  exact h
theorem cond3_iff (i : grid0.Coords) (n : ℕ) (hn : n ≤ 8) : k0_cond3 i (BitVec.ofNat 32 n) = 1#1 ↔ (i 0).val < n ∧ 4 ≤ (i 1).val := by
  have h := cond3_word (decide ((i 0).val < n)) (i 1)
  rw [← slt_word (i 0) ⟨n, by omega⟩, decide_eq_true_iff] at h
  exact h
theorem cond4_iff (i : grid0.Coords) : k0_cond4 i = 1#1 ↔ (i 0).val = 7 ∧ (i 1).val = 8 := cond4_word (i 0) (i 1)

/-- A sum whose terms change at one place changes by what the place gains. -/
theorem sum_gain {n : ℕ} (f g : Fin n → EReal) (e0 : Fin n) (v : EReal) (h0 : f e0 = 0) (h1 : g e0 = v) (h : ∀ e, e ≠ e0 → g e = f e) :
    ∑ e, g e = (∑ e, f e) + v := by
  rw [← Finset.add_sum_erase Finset.univ g (Finset.mem_univ e0), ← Finset.add_sum_erase Finset.univ f (Finset.mem_univ e0), h0, h1, zero_add, add_comm]
  exact congrArg (· + v) (Finset.sum_congr rfl fun e he => h e (Finset.ne_of_mem_erase he))

namespace Arr

variable (a : Arr)

/-- One point of the grid. -/
theorem inv_step (hn : a.n ≤ 8) (t : ℕ) (i : grid0.Coords) (h0 : (i 0).val = t / 9) (h1 : (i 1).val = t % 9)
    (d4 : S192x5120.Idx → EReal) (d5 : S1x192x2.Idx → EReal) (d6 : S256x256.Idx → EReal) (d7 : S2x32x128.Idx → BitVec 8)
    (d8 : S1x256x2560.Idx → BitVec 8) (d9 : S1x80x256.Idx → EReal) (d10 : S1x256x2560.Idx → BitVec 8) (d11 : S1x80x256.Idx → EReal)
    (d12 : S1x1024x512.Idx → BitVec 8) (d13 : S1x16x1024.Idx → EReal) (d14' : S192x5120.Idx → EReal) (A A' : S20x192x256.Idx → EReal)
    (H H' : S4x192x256.Idx → EReal) (hb : a.Blk i d4 d5 d6 d7 d8 d9 d10 d11 d12 d13)
    (hi : a.Inv t A H) (hr : relAll i (BitVec.ofNat 32 a.n) d4 d5 d6 d7 d8 d9 d10 d11 d12 d13 d14' A A' H H') :
    a.Inv (t + 1) A' H' ∧ (t = 71 → ∀ y, d14' y = outOf A' y) := by
  obtain ⟨A1, hA, hB, hC, hD⟩ := hr
  have he8 : (i 0).val < 8 := (i 0).isLt
  have hs9 : (i 1).val < 9 := (i 1).isLt
  have hA1 : ∀ m tok C, A1 (ix3 m tok C) = a.accV t m tok C := by
    intro m tok C
    by_cases ht : t = 0
    · have hz := hA.1 ((cond1_word (i 0) (i 1)).2 ⟨by subst ht; omega, by subst ht; omega⟩)
      rw [hz]
      exact (Finset.sum_eq_zero fun e _ => if_neg (by omega)).symm
    · have hz := hA.2 fun hc => by have := (cond1_word (i 0) (i 1)).1 hc; omega
      rw [hz]
      exact hi.1 (by omega) m tok C
  -- the hidden tiles
  have hH : ∀ e : Fin 8, e.val = t / 9 → e.val < a.n → ∀ kc : Fin 4, kc.val < t % 9 + 1 → ∀ tok C, H' (ix3 kc tok C) = a.hp (a.ord e) kc tok C := by
    intro e he hea kc hkc tok C
    by_cases hs : (i 1).val < 4
    · have hw := hB.1 ((cond2_iff i a.n hn).2 ⟨by omega, hs⟩) a.tab hb.h7 kc tok C
      rw [hw]
      by_cases hk : kc.val = (i 1).val
      · rw [if_pos hk]
        refine Finset.sum_congr rfl fun D _ => congrArg₂ (· * ·) (congrArg₂ act ?_ ?_) (congrFun hb.h6 _)
        · refine Finset.sum_congr rfl fun k _ => Finset.sum_congr rfl fun R _ => congrArg₂ (· * ·) (congrFun hb.h4 _) ?_
          refine congrArg₂ (fun w s => tileAt a.tab w s R D) (funext fun C => funext fun b => ?_) (funext fun q => funext fun C => ?_)
          · exact hb.h8 e (by omega) hea kc hk C _
          · exact hb.h9 e (by omega) hea kc hk _ C
        · refine Finset.sum_congr rfl fun k _ => Finset.sum_congr rfl fun R _ => congrArg₂ (· * ·) (congrFun hb.h4 _) ?_
          refine congrArg₂ (fun w s => tileAt a.tab w s R D) (funext fun C => funext fun b => ?_) (funext fun q => funext fun C => ?_)
          · exact hb.h10 e (by omega) hea kc hk C _
          · exact hb.h11 e (by omega) hea kc hk _ C
      · rw [if_neg hk]
        exact hi.2 e he hea kc (by omega) tok C
    · rw [hB.2 fun hc => hs ((cond2_iff i a.n hn).1 hc).2]
      exact hi.2 e he hea kc (by omega) tok C
  -- the accumulator
  have hacc : ∀ m tok C, A' (ix3 m tok C) = a.accV (t + 1) m tok C := by
    intro m tok C
    by_cases hc : k0_cond3 i (BitVec.ofNat 32 a.n) = 1#1
    · obtain ⟨hea, hs⟩ := (cond3_iff i a.n hn).1 hc
      obtain ⟨hin, hout⟩ := hC.1 hc a.tab hb.h7 m tok C
      by_cases hm : m.val / 4 = (i 1).val - 4
      · rw [hin ⟨m.val % 4, by omega⟩ (by show m.val = _ + m.val % 4; omega), hA1 m tok C]
        obtain ⟨e, he⟩ : ∃ e : Fin 8, e.val = (i 0).val := ⟨⟨(i 0).val, he8⟩, rfl⟩
        refine Eq.symm (sum_gain _ _ e _ (if_neg (by omega)) ?_ ?_)
        · rw [if_pos ⟨by omega, by omega⟩]
          unfold con
          rw [hb.h5 e he tok 1, hb.h5 e he tok 0]
          refine if_congr Iff.rfl (congrArg₂ (· * ·) ?_ rfl) rfl
          refine Eq.symm (Finset.sum_congr rfl fun k _ => Finset.sum_congr rfl fun R _ => congrArg₂ (· * ·) (hH e (by omega) (by omega) k (by omega) tok R) ?_)
          have hg : (⟨(i 1).val - 4, by omega⟩ : Fin 5).val + 4 = (i 1).val := by show (i 1).val - 4 + 4 = _; omega
          refine congrArg₂ (fun w s => tileAt a.tab w s R C) (funext fun C => funext fun b => ?_) (funext fun q => funext fun C => ?_)
          · refine (hb.h12 e he (by omega) _ hg ⟨256 * (m.val % 4) + C.val, by omega⟩ _).trans (congrArg (fun z => a.wd (ix3 (a.ord e) z _)) (Fin.ext ?_))
            show 1024 * ((i 1).val - 4) + (256 * (m.val % 4) + C.val) = 256 * m.val + C.val
            omega
          · refine (hb.h13 e he (by omega) _ hg _ ⟨256 * (m.val % 4) + C.val, by omega⟩).trans (congrArg (fun z => a.sd (ix3 (a.ord e) _ z)) (Fin.ext ?_))
            show 1024 * ((i 1).val - 4) + (256 * (m.val % 4) + C.val) = 256 * m.val + C.val
            omega
        · intro e' hne
          have hv : e'.val ≠ e.val := fun h => hne (Fin.ext h)
          exact if_congr (by omega) rfl rfl
      · rw [hout fun r hr => hm (by omega), hA1 m tok C]
        exact Finset.sum_congr rfl fun e _ => if_congr (by omega) rfl rfl
    · rw [hC.2 hc, hA1 m tok C]
      have hnc : ¬ ((i 0).val < a.n ∧ 4 ≤ (i 1).val) := fun h => hc ((cond3_iff i a.n hn).2 h)
      exact Finset.sum_congr rfl fun e _ => if_congr (by omega) rfl rfl
  refine ⟨⟨fun _ => hacc, fun e he hea kc hkc => ?_⟩, fun ht => hD ((cond4_iff i).2 ⟨by omega, by omega⟩)⟩
  by_cases hl : t % 9 = 8
  · omega
  · exact hH e (by omega) hea kc (by omega)

end Arr

end Cert.KernelIdeal.Hand

end
-- ==== Proof.Blocks.lean ====
/-
  The blocks that the kernel's windows hold at a point of the grid, read off the arrays.
-/
module

public import proofs.«01_k».proof.Proof.Steps
public import proofs.«01_k».proof.Proof.KernelIdealFrame

public import Idealize.ShloMosaic.Lib.Quiescent
public import Idealize.ShloMosaic.Lib.Pipeline.FrameBody
public import Idealize.ShloMosaic.Lib.Pipeline.Frame
public import Idealize.ShloMosaic.Lib.Tactic
public import Idealize.ShloMosaic.Lib.Pointwise
public import Idealize.ShloMosaic.Lib.Pipeline.FrameBody
public import Idealize.ShloMosaic.Lib.Pipeline.ArrRel

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat)

local notation "𝕄" => MT nD τ sig Unit (Elt Ideal) ℕ (UR sig nD τ) ℕ

variable (m : (ℓ : Loc nD τ sig) → Buf (Elt Ideal) ℓ)

attribute [local irreducible] V

theorem cast_word : ∀ e : Fin 8, (Scalar.indexCast (BitVec.ofNat 32 e.val) : Index).toNat = e.val := by decide

/-- The expert of a slot. -/
def ordV (e : Fin 8) : Fin 8 := ⟨((V m (0 : Dev nD) main_v35 : S8.Idx → BitVec 32) (ix1 e)).toNat, order_lt m 0 _⟩
/-- The number of slots that work, as a word. -/
def nactV : BitVec 32 := (V m (0 : Dev nD) main_v22 : S1.Idx → BitVec 32) (ix1 0)

theorem at0 (i : grid0.Coords) : ((tables m).at 0 (Rect.unit (s := S8) ![(Scalar.indexCast (BitVec.ofNat 32 (i 0).val) : Index).toNat] S1.size (k0_off1_inb i)) numel1_S1 : BitVec 32).toNat = (ordV m (i 0)).val := by
  refine congrArg (fun j => ((V m (0 : Dev nD) main_v35 : S8.Idx → BitVec 32) j).toNat) (funext fun (a : Fin 1) => Fin.ext ?_)
  match a with
  | 0 => show (Scalar.indexCast (BitVec.ofNat 32 (i 0).val) : Index).toNat + 1 * 0 = (i 0).val; rw [cast_word (i 0)]; omega
theorem at1 : ((tables m).at 1 (Rect.unit (s := S1) ![0] S1.size inb_S1_S1_0) numel1_S1 : BitVec 32) = nactV m := by
  refine congrArg (fun j => ((V m (0 : Dev nD) main_v22 : S1.Idx → BitVec 32) j)) (funext fun (a : Fin 1) => ?_)
  match a with
  | 0 => rfl
theorem nactOf_eq (c : Dev nD) : nactOf c (tables m 1) = nactV m := by
  refine congrArg (fun j => ((V m (0 : Dev nD) main_v22 : S1.Idx → BitVec 32) j)) (funext fun (a : Fin 1) => ?_)
  match a with
  | 0 => rfl

attribute [local irreducible] tables

theorem gate_word : ∀ (s : Fin 9), s.val < 4 → ∀ b : BitVec 1, b = 1#1 → (Scalar.select b (Scalar.minsi (BitVec.ofNat 32 s.val) 3#32) 3#32 : BitVec 32).toNat = s.val := by decide
theorem down_word : ∀ (s : Fin 9), 4 ≤ s.val → ∀ b : BitVec 1, b = 1#1 → (Scalar.select b (Scalar.maxsi (Scalar.subi (BitVec.ofNat 32 s.val) 4#32) 0#32) 4#32 : BitVec 32).toNat = s.val - 4 := by decide

theorem slt_of (e : Fin 8) (n : ℕ) (hn : n ≤ 8) (he : e.val < n) : Scalar.cmpi .slt (BitVec.ofNat 32 e.val) (BitVec.ofNat 32 n) = 1#1 := by
  rw [slt_word e ⟨n, by omega⟩]
  simp [he]

abbrev cfgK := cfg0 (adm m)

theorem coords0 (t : Fin grid0.N) : (grid0.coords t 0).val = t.val / 9 ∧ (grid0.coords t 1).val = t.val % 9 := by
  have h0 := Pipeline.Grid.coords_val (G := grid0) t 0 (S := 9) (B := 8) (by decide) (by decide)
  have h1 := Pipeline.Grid.coords_val (G := grid0) t 1 (S := 1) (B := 9) (by decide) (by decide)
  have ht : t.val < 72 := t.isLt
  rw [h0, h1]
  omega

variable (n : ℕ) (hn : n ≤ 8) (hnv : nactV m = BitVec.ofNat 32 n)
include hn hnv

omit hn hnv in
theorem trf4 (pf : pre0.Contents (Elt Ideal)) (i : grid0.Coords) :
    cc0_transform_4 k0_off1_inb numel1_S1 inb_S1_S1_0 pf i = ![(pf.at 0 (Rect.unit (s := S8) ![(Scalar.indexCast (BitVec.ofNat 32 (i 0).val) : Index).toNat] S1.size (k0_off1_inb i)) numel1_S1 : BitVec 32).toNat, (Scalar.select (Scalar.cmpi .slt (BitVec.ofNat 32 (i 0).val) (pf.at 1 (Rect.unit (s := S1) ![0] S1.size inb_S1_S1_0) numel1_S1)) (Scalar.minsi (BitVec.ofNat 32 (i 1).val) 3#32) 3#32 : BitVec 32).toNat, 0] := rfl
theorem tr4 (i : grid0.Coords) (h0 : (i 0).val < n) (h1 : (i 1).val < 4) :
    cc0_transform_4 k0_off1_inb numel1_S1 inb_S1_S1_0 (tables m) i = ![(ordV m (i 0)).val, (i 1).val, 0] := by
  rw [trf4, at0 m i, at1 m, hnv, gate_word (i 1) h1 _ (slt_of (i 0) n hn h0)]
omit hn hnv in
theorem trf5 (pf : pre0.Contents (Elt Ideal)) (i : grid0.Coords) :
    cc0_transform_5 k0_off1_inb numel1_S1 inb_S1_S1_0 pf i = ![(pf.at 0 (Rect.unit (s := S8) ![(Scalar.indexCast (BitVec.ofNat 32 (i 0).val) : Index).toNat] S1.size (k0_off1_inb i)) numel1_S1 : BitVec 32).toNat, 0, (Scalar.select (Scalar.cmpi .slt (BitVec.ofNat 32 (i 0).val) (pf.at 1 (Rect.unit (s := S1) ![0] S1.size inb_S1_S1_0) numel1_S1)) (Scalar.minsi (BitVec.ofNat 32 (i 1).val) 3#32) 3#32 : BitVec 32).toNat] := rfl
theorem tr5 (i : grid0.Coords) (h0 : (i 0).val < n) (h1 : (i 1).val < 4) :
    cc0_transform_5 k0_off1_inb numel1_S1 inb_S1_S1_0 (tables m) i = ![(ordV m (i 0)).val, 0, (i 1).val] := by
  rw [trf5, at0 m i, at1 m, hnv, gate_word (i 1) h1 _ (slt_of (i 0) n hn h0)]
omit hn hnv in
theorem trf6 (pf : pre0.Contents (Elt Ideal)) (i : grid0.Coords) :
    cc0_transform_6 k0_off1_inb numel1_S1 inb_S1_S1_0 pf i = ![(pf.at 0 (Rect.unit (s := S8) ![(Scalar.indexCast (BitVec.ofNat 32 (i 0).val) : Index).toNat] S1.size (k0_off1_inb i)) numel1_S1 : BitVec 32).toNat, (Scalar.select (Scalar.cmpi .slt (BitVec.ofNat 32 (i 0).val) (pf.at 1 (Rect.unit (s := S1) ![0] S1.size inb_S1_S1_0) numel1_S1)) (Scalar.minsi (BitVec.ofNat 32 (i 1).val) 3#32) 3#32 : BitVec 32).toNat, 0] := rfl
theorem tr6 (i : grid0.Coords) (h0 : (i 0).val < n) (h1 : (i 1).val < 4) :
    cc0_transform_6 k0_off1_inb numel1_S1 inb_S1_S1_0 (tables m) i = ![(ordV m (i 0)).val, (i 1).val, 0] := by
  rw [trf6, at0 m i, at1 m, hnv, gate_word (i 1) h1 _ (slt_of (i 0) n hn h0)]
omit hn hnv in
theorem trf7 (pf : pre0.Contents (Elt Ideal)) (i : grid0.Coords) :
    cc0_transform_7 k0_off1_inb numel1_S1 inb_S1_S1_0 pf i = ![(pf.at 0 (Rect.unit (s := S8) ![(Scalar.indexCast (BitVec.ofNat 32 (i 0).val) : Index).toNat] S1.size (k0_off1_inb i)) numel1_S1 : BitVec 32).toNat, 0, (Scalar.select (Scalar.cmpi .slt (BitVec.ofNat 32 (i 0).val) (pf.at 1 (Rect.unit (s := S1) ![0] S1.size inb_S1_S1_0) numel1_S1)) (Scalar.minsi (BitVec.ofNat 32 (i 1).val) 3#32) 3#32 : BitVec 32).toNat] := rfl
theorem tr7 (i : grid0.Coords) (h0 : (i 0).val < n) (h1 : (i 1).val < 4) :
    cc0_transform_7 k0_off1_inb numel1_S1 inb_S1_S1_0 (tables m) i = ![(ordV m (i 0)).val, 0, (i 1).val] := by
  rw [trf7, at0 m i, at1 m, hnv, gate_word (i 1) h1 _ (slt_of (i 0) n hn h0)]
omit hn hnv in
theorem trf8 (pf : pre0.Contents (Elt Ideal)) (i : grid0.Coords) :
    cc0_transform_8 k0_off1_inb numel1_S1 inb_S1_S1_0 pf i = ![(pf.at 0 (Rect.unit (s := S8) ![(Scalar.indexCast (BitVec.ofNat 32 (i 0).val) : Index).toNat] S1.size (k0_off1_inb i)) numel1_S1 : BitVec 32).toNat, (Scalar.select (Scalar.cmpi .slt (BitVec.ofNat 32 (i 0).val) (pf.at 1 (Rect.unit (s := S1) ![0] S1.size inb_S1_S1_0) numel1_S1)) (Scalar.maxsi (Scalar.subi (BitVec.ofNat 32 (i 1).val) 4#32) 0#32) 4#32 : BitVec 32).toNat, 0] := rfl
theorem tr8 (i : grid0.Coords) (h0 : (i 0).val < n) (h1 : 4 ≤ (i 1).val) :
    cc0_transform_8 k0_off1_inb numel1_S1 inb_S1_S1_0 (tables m) i = ![(ordV m (i 0)).val, (i 1).val - 4, 0] := by
  rw [trf8, at0 m i, at1 m, hnv, down_word (i 1) h1 _ (slt_of (i 0) n hn h0)]
omit hn hnv in
theorem trf9 (pf : pre0.Contents (Elt Ideal)) (i : grid0.Coords) :
    cc0_transform_9 k0_off1_inb numel1_S1 inb_S1_S1_0 pf i = ![(pf.at 0 (Rect.unit (s := S8) ![(Scalar.indexCast (BitVec.ofNat 32 (i 0).val) : Index).toNat] S1.size (k0_off1_inb i)) numel1_S1 : BitVec 32).toNat, 0, (Scalar.select (Scalar.cmpi .slt (BitVec.ofNat 32 (i 0).val) (pf.at 1 (Rect.unit (s := S1) ![0] S1.size inb_S1_S1_0) numel1_S1)) (Scalar.maxsi (Scalar.subi (BitVec.ofNat 32 (i 1).val) 4#32) 0#32) 4#32 : BitVec 32).toNat] := rfl
theorem tr9 (i : grid0.Coords) (h0 : (i 0).val < n) (h1 : 4 ≤ (i 1).val) :
    cc0_transform_9 k0_off1_inb numel1_S1 inb_S1_S1_0 (tables m) i = ![(ordV m (i 0)).val, 0, (i 1).val - 4] := by
  rw [trf9, at0 m i, at1 m, hnv, down_word (i 1) h1 _ (slt_of (i 0) n hn h0)]
omit hn hnv

omit hn hnv in
theorem trf1 (pf : pre0.Contents (Elt Ideal)) (i : grid0.Coords) :
    cc0_transform_1 k0_off1_inb numel1_S1 pf i = ![(pf.at 0 (Rect.unit (s := S8) ![(Scalar.indexCast (BitVec.ofNat 32 (i 0).val) : Index).toNat] S1.size (k0_off1_inb i)) numel1_S1 : BitVec 32).toNat, 0, 0] := rfl
omit hn hnv in
theorem tr1 (i : grid0.Coords) :
    cc0_transform_1 k0_off1_inb numel1_S1 (tables m) i = ![(ordV m (i 0)).val, 0, 0] := by
  rw [trf1, at0 m i]

omit hn hnv

/-- An uncut window's fetch reads its array at the block's place. -/
theorem fetched_emb {c : Dev nD} (rd : RDat τ (Elt Ideal) Unit ℕ (UR sig nD τ) ℕ (cfg0 (adm m)) c) (w : Fin (cfg0 (adm m)).W) (t : Fin (cfg0 (adm m)).N)
    (hc : ∀ a, ((cfg0 (adm m)).win w).clip ((cfg0 (adm m)).grid.coords t) a = none) (d) (j : ((cfg0 (adm m)).win w).block.Idx) :
    ∃ h : ∀ a, (j a).val < ((cfg0 (adm m)).win w).xsize ((cfg0 (adm m)).grid.coords t) a, rd.fetched w t d j = rd.blockOf w t (fun a => ⟨(j a).val, h a⟩) := by
  have hm : ((cfg0 (adm m)).win w).moved ((cfg0 (adm m)).grid.coords t) j = true :=
    (((cfg0 (adm m)).win w).moved_iff _ j).mpr fun a => by have := (j a).isLt; unfold Pipeline.Window.xsize; rw [hc a]; exact this
  refine ⟨(((cfg0 (adm m)).win w).moved_iff _ j).mp hm, ?_⟩
  unfold RDat.fetched Pipeline.Window.fill
  rw [dif_pos hm]

variable {m}
variable {c : Dev nD} (rd : RDat τ (Elt Ideal) Unit ℕ (UR sig nD τ) ℕ (cfg0 (adm m)) c) (t : Fin (cfg0 (adm m)).N)

theorem f4 (e : Fin 8) (s : Fin 4) (hx : cc0_transform_4 k0_off1_inb numel1_S1 inb_S1_S1_0 (tables m) (grid0.coords t) = ![e.val, s.val, 0])
    (d) (C : Fin 256) (b : Fin 2560) :
    (rd.fetched 4 t d : S1x256x2560.Idx → BitVec 8) (ix3 (0 : Fin 1) C b) = (rd.A 4 : S8x1024x2560.Idx → BitVec 8) (ix3 e ⟨256 * s.val + C.val, by omega⟩ b) := by
  obtain ⟨h, e1⟩ := fetched_emb m rd 4 t (fun _ => rfl) d (ix3 (0 : Fin 1) C b)
  refine e1.trans (congrArg (rd.A 4 : S8x1024x2560.Idx → BitVec 8) (funext fun (a : Fin 3) => Fin.ext ?_))
  match a with
  | 0 => show cc0_transform_4 k0_off1_inb numel1_S1 inb_S1_S1_0 (tables m) (grid0.coords t) 0 * 1 + 1 * 0 = e.val; rw [hx]; show e.val * 1 + 1 * 0 = e.val; omega
  | 1 => show cc0_transform_4 k0_off1_inb numel1_S1 inb_S1_S1_0 (tables m) (grid0.coords t) 1 * 256 + 1 * C.val = 256 * s.val + C.val; rw [hx]; show s.val * 256 + 1 * C.val = _; omega
  | 2 => show cc0_transform_4 k0_off1_inb numel1_S1 inb_S1_S1_0 (tables m) (grid0.coords t) 2 * 2560 + 1 * b.val = b.val; rw [hx]; show 0 * 2560 + 1 * b.val = _; omega

theorem f5 (e : Fin 8) (s : Fin 4) (hx : cc0_transform_5 k0_off1_inb numel1_S1 inb_S1_S1_0 (tables m) (grid0.coords t) = ![e.val, 0, s.val])
    (d) (C : Fin 80) (b : Fin 256) :
    (rd.fetched 5 t d : S1x80x256.Idx → EReal) (ix3 (0 : Fin 1) C b) = (rd.A 5 : S8x80x1024.Idx → EReal) (ix3 e C ⟨256 * s.val + b.val, by omega⟩) := by
  obtain ⟨h, e1⟩ := fetched_emb m rd 5 t (fun _ => rfl) d (ix3 (0 : Fin 1) C b)
  refine e1.trans (congrArg (rd.A 5 : S8x80x1024.Idx → EReal) (funext fun (a : Fin 3) => Fin.ext ?_))
  match a with
  | 0 => show cc0_transform_5 k0_off1_inb numel1_S1 inb_S1_S1_0 (tables m) (grid0.coords t) 0 * 1 + 1 * 0 = e.val; rw [hx]; show e.val * 1 + 1 * 0 = e.val; omega
  | 1 => show cc0_transform_5 k0_off1_inb numel1_S1 inb_S1_S1_0 (tables m) (grid0.coords t) 1 * 80 + 1 * C.val = C.val; rw [hx]; show 0 * 80 + 1 * C.val = _; omega
  | 2 => show cc0_transform_5 k0_off1_inb numel1_S1 inb_S1_S1_0 (tables m) (grid0.coords t) 2 * 256 + 1 * b.val = 256 * s.val + b.val; rw [hx]; show s.val * 256 + 1 * b.val = _; omega

theorem f6 (e : Fin 8) (s : Fin 4) (hx : cc0_transform_6 k0_off1_inb numel1_S1 inb_S1_S1_0 (tables m) (grid0.coords t) = ![e.val, s.val, 0])
    (d) (C : Fin 256) (b : Fin 2560) :
    (rd.fetched 6 t d : S1x256x2560.Idx → BitVec 8) (ix3 (0 : Fin 1) C b) = (rd.A 6 : S8x1024x2560.Idx → BitVec 8) (ix3 e ⟨256 * s.val + C.val, by omega⟩ b) := by
  obtain ⟨h, e1⟩ := fetched_emb m rd 6 t (fun _ => rfl) d (ix3 (0 : Fin 1) C b)
  refine e1.trans (congrArg (rd.A 6 : S8x1024x2560.Idx → BitVec 8) (funext fun (a : Fin 3) => Fin.ext ?_))
  match a with
  | 0 => show cc0_transform_6 k0_off1_inb numel1_S1 inb_S1_S1_0 (tables m) (grid0.coords t) 0 * 1 + 1 * 0 = e.val; rw [hx]; show e.val * 1 + 1 * 0 = e.val; omega
  | 1 => show cc0_transform_6 k0_off1_inb numel1_S1 inb_S1_S1_0 (tables m) (grid0.coords t) 1 * 256 + 1 * C.val = 256 * s.val + C.val; rw [hx]; show s.val * 256 + 1 * C.val = _; omega
  | 2 => show cc0_transform_6 k0_off1_inb numel1_S1 inb_S1_S1_0 (tables m) (grid0.coords t) 2 * 2560 + 1 * b.val = b.val; rw [hx]; show 0 * 2560 + 1 * b.val = _; omega

theorem f7 (e : Fin 8) (s : Fin 4) (hx : cc0_transform_7 k0_off1_inb numel1_S1 inb_S1_S1_0 (tables m) (grid0.coords t) = ![e.val, 0, s.val])
    (d) (C : Fin 80) (b : Fin 256) :
    (rd.fetched 7 t d : S1x80x256.Idx → EReal) (ix3 (0 : Fin 1) C b) = (rd.A 7 : S8x80x1024.Idx → EReal) (ix3 e C ⟨256 * s.val + b.val, by omega⟩) := by
  obtain ⟨h, e1⟩ := fetched_emb m rd 7 t (fun _ => rfl) d (ix3 (0 : Fin 1) C b)
  refine e1.trans (congrArg (rd.A 7 : S8x80x1024.Idx → EReal) (funext fun (a : Fin 3) => Fin.ext ?_))
  match a with
  | 0 => show cc0_transform_7 k0_off1_inb numel1_S1 inb_S1_S1_0 (tables m) (grid0.coords t) 0 * 1 + 1 * 0 = e.val; rw [hx]; show e.val * 1 + 1 * 0 = e.val; omega
  | 1 => show cc0_transform_7 k0_off1_inb numel1_S1 inb_S1_S1_0 (tables m) (grid0.coords t) 1 * 80 + 1 * C.val = C.val; rw [hx]; show 0 * 80 + 1 * C.val = _; omega
  | 2 => show cc0_transform_7 k0_off1_inb numel1_S1 inb_S1_S1_0 (tables m) (grid0.coords t) 2 * 256 + 1 * b.val = 256 * s.val + b.val; rw [hx]; show s.val * 256 + 1 * b.val = _; omega

theorem f8 (e : Fin 8) (s : Fin 5) (hx : cc0_transform_8 k0_off1_inb numel1_S1 inb_S1_S1_0 (tables m) (grid0.coords t) = ![e.val, s.val, 0])
    (d) (C : Fin 1024) (b : Fin 512) :
    (rd.fetched 8 t d : S1x1024x512.Idx → BitVec 8) (ix3 (0 : Fin 1) C b) = (rd.A 8 : S8x5120x512.Idx → BitVec 8) (ix3 e ⟨1024 * s.val + C.val, by omega⟩ b) := by
  obtain ⟨h, e1⟩ := fetched_emb m rd 8 t (fun _ => rfl) d (ix3 (0 : Fin 1) C b)
  refine e1.trans (congrArg (rd.A 8 : S8x5120x512.Idx → BitVec 8) (funext fun (a : Fin 3) => Fin.ext ?_))
  match a with
  | 0 => show cc0_transform_8 k0_off1_inb numel1_S1 inb_S1_S1_0 (tables m) (grid0.coords t) 0 * 1 + 1 * 0 = e.val; rw [hx]; show e.val * 1 + 1 * 0 = e.val; omega
  | 1 => show cc0_transform_8 k0_off1_inb numel1_S1 inb_S1_S1_0 (tables m) (grid0.coords t) 1 * 1024 + 1 * C.val = 1024 * s.val + C.val; rw [hx]; show s.val * 1024 + 1 * C.val = _; omega
  | 2 => show cc0_transform_8 k0_off1_inb numel1_S1 inb_S1_S1_0 (tables m) (grid0.coords t) 2 * 512 + 1 * b.val = b.val; rw [hx]; show 0 * 512 + 1 * b.val = _; omega

theorem f9 (e : Fin 8) (s : Fin 5) (hx : cc0_transform_9 k0_off1_inb numel1_S1 inb_S1_S1_0 (tables m) (grid0.coords t) = ![e.val, 0, s.val])
    (d) (C : Fin 16) (b : Fin 1024) :
    (rd.fetched 9 t d : S1x16x1024.Idx → EReal) (ix3 (0 : Fin 1) C b) = (rd.A 9 : S8x16x5120.Idx → EReal) (ix3 e C ⟨1024 * s.val + b.val, by omega⟩) := by
  obtain ⟨h, e1⟩ := fetched_emb m rd 9 t (fun _ => rfl) d (ix3 (0 : Fin 1) C b)
  refine e1.trans (congrArg (rd.A 9 : S8x16x5120.Idx → EReal) (funext fun (a : Fin 3) => Fin.ext ?_))
  match a with
  | 0 => show cc0_transform_9 k0_off1_inb numel1_S1 inb_S1_S1_0 (tables m) (grid0.coords t) 0 * 1 + 1 * 0 = e.val; rw [hx]; show e.val * 1 + 1 * 0 = e.val; omega
  | 1 => show cc0_transform_9 k0_off1_inb numel1_S1 inb_S1_S1_0 (tables m) (grid0.coords t) 1 * 16 + 1 * C.val = C.val; rw [hx]; show 0 * 16 + 1 * C.val = _; omega
  | 2 => show cc0_transform_9 k0_off1_inb numel1_S1 inb_S1_S1_0 (tables m) (grid0.coords t) 2 * 1024 + 1 * b.val = 1024 * s.val + b.val; rw [hx]; show s.val * 1024 + 1 * b.val = _; omega

theorem f1 (e : Fin 8) (hx : cc0_transform_1 k0_off1_inb numel1_S1 (tables m) (grid0.coords t) = ![e.val, 0, 0]) (d) (C : Fin 192) (b : Fin 2) :
    (rd.fetched 1 t d : S1x192x2.Idx → EReal) (ix3 (0 : Fin 1) C b) = (rd.A 1 : S8x192x2.Idx → EReal) (ix3 e C b) := by
  obtain ⟨h, e1⟩ := fetched_emb m rd 1 t (fun _ => rfl) d (ix3 (0 : Fin 1) C b)
  refine e1.trans (congrArg (rd.A 1 : S8x192x2.Idx → EReal) (funext fun (a : Fin 3) => Fin.ext ?_))
  match a with
  | 0 => show cc0_transform_1 k0_off1_inb numel1_S1 (tables m) (grid0.coords t) 0 * 1 + 1 * 0 = e.val; rw [hx]; show e.val * 1 + 1 * 0 = e.val; omega
  | 1 => show cc0_transform_1 k0_off1_inb numel1_S1 (tables m) (grid0.coords t) 1 * 192 + 1 * C.val = C.val; rw [hx]; show 0 * 192 + 1 * C.val = _; omega
  | 2 => show cc0_transform_1 k0_off1_inb numel1_S1 (tables m) (grid0.coords t) 2 * 2 + 1 * b.val = b.val; rw [hx]; show 0 * 2 + 1 * b.val = _; omega

theorem f0 (d) (y : S192x5120.Idx) : (rd.fetched 0 t d : S192x5120.Idx → EReal) y = (rd.A 0 : S192x5120.Idx → EReal) y := by
  obtain ⟨h, e1⟩ := fetched_emb m rd 0 t (fun _ => rfl) d y
  refine e1.trans (congrArg (rd.A 0 : S192x5120.Idx → EReal) (funext fun (a : Fin 2) => Fin.ext ?_))
  match a with
  | 0 => show 0 * 192 + 1 * (y 0).val = (y 0).val; omega
  | 1 => show 0 * 5120 + 1 * (y 1).val = (y 1).val; omega

theorem f2 (d) (y : S256x256.Idx) : (rd.fetched 2 t d : S256x256.Idx → EReal) y = (rd.A 2 : S256x256.Idx → EReal) y := by
  obtain ⟨h, e1⟩ := fetched_emb m rd 2 t (fun _ => rfl) d y
  refine e1.trans (congrArg (rd.A 2 : S256x256.Idx → EReal) (funext fun (a : Fin 2) => Fin.ext ?_))
  match a with
  | 0 => show 0 * 256 + 1 * (y 0).val = (y 0).val; omega
  | 1 => show 0 * 256 + 1 * (y 1).val = (y 1).val; omega

theorem f3 (d) (y : S2x32x128.Idx) : (rd.fetched 3 t d : S2x32x128.Idx → BitVec 8) y = (rd.A 3 : S2x32x128.Idx → BitVec 8) y := by
  obtain ⟨h, e1⟩ := fetched_emb m rd 3 t (fun _ => rfl) d y
  refine e1.trans (congrArg (rd.A 3 : S2x32x128.Idx → BitVec 8) (funext fun (a : Fin 3) => Fin.ext ?_))
  match a with
  | 0 => show 0 * 2 + 1 * (y 0).val = (y 0).val; omega
  | 1 => show 0 * 32 + 1 * (y 1).val = (y 1).val; omega
  | 2 => show 0 * 128 + 1 * (y 2).val = (y 2).val; omega

end Cert.KernelIdeal.Hand

end
-- ==== Proof.ValRun.lean ====
/-
  The kernel's run, with the value of its result: the accumulator after the last point.
-/
module

public import proofs.«01_k».proof.Proof.Blocks

public import Idealize.ShloMosaic.Lib.Quiescent
public import Idealize.ShloMosaic.Lib.Pipeline.FrameBody
public import Idealize.ShloMosaic.Lib.Pipeline.Frame
public import Idealize.ShloMosaic.Lib.Tactic
public import Idealize.ShloMosaic.Lib.Pointwise
public import Idealize.ShloMosaic.Lib.Pipeline.FrameBody
public import Idealize.ShloMosaic.Lib.Pipeline.ArrRel

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg)

attribute [local irreducible] V tables

/-- The arrays at the kernel's entry. -/
def arrV (T : ℕ → BitVec 16) (n : ℕ) : Arr where
  x := V m (0 : Dev nD) main_v38
  cw := V m (0 : Dev nD) main_v16
  p := V m (0 : Dev nD) main_v50
  tab := T
  wg := V m (0 : Dev nD) main_arg3
  sg := V m (0 : Dev nD) main_v52
  wu := V m (0 : Dev nD) main_arg5
  su := V m (0 : Dev nD) main_v53
  wd := V m (0 : Dev nD) main_arg7
  sd := V m (0 : Dev nD) main_v54
  ord := ordV m
  n := n

/-- The kernel's result. -/
def outV (a : Arr) (y : S192x5120.Idx) : EReal :=
  a.accV 72 ⟨(y 1).val / 256, by have : (y 1).val < 5120 := (y 1).isLt; omega⟩ (y 0) ⟨(y 1).val % 256, Nat.mod_lt _ (by norm_num)⟩

/-- What the body leaves in its windows: its inputs as it found them, and after the last point the result. -/
def afterV (a : Arr) : (w : Fin (cfg0 (adm m)).W) → Fin (cfg0 (adm m)).N → (Y X : ((cfg0 (adm m)).win w).block.Idx → Elt Ideal ((cfg0 (adm m)).win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun _ Y X => X = Y
  | 9 => fun _ Y X => X = Y
  | 10 => fun t _ X => t.val = 71 → ∀ y : S192x5120.Idx, (X : S192x5120.Idx → EReal) y = outV a y
  | ⟨_ + 11, h⟩ => absurd h (Nat.not_lt.2 (Nat.le_add_left _ _))

/-- The invariant before a point. -/
def PhiV (a : Arr) (c : Dev nD) (t : ℕ) : sProp 𝕄 :=
  iprop(∃ (A : S20x192x256.Idx → EReal) (H : S4x192x256.Idx → EReal), (owns (c : Thread nD τ) (Memref.whole cc0_scratch0 : Memref sig .tc .vmem S20x192x256 .f32) fullShare A ∗ owns (c : Thread nD τ) (Memref.whole cc0_scratch1 : Memref sig .tc .vmem S4x192x256 .bf16) fullShare H
    ∗ own c (Memref.whole cc0_scratch2 : Memref sig .tc .vmem S80x2x256 .bf16) ∗ own c (Memref.whole cc0_scratch3 : Memref sig .tc .vmem S80x2x256 .bf16) ∗ own c (Memref.whole cc0_scratch4 : Memref sig .tc .vmem S16x2x1024 .bf16)) ∗ (∃ r, prngReg c r)
    ∗ tbPt c (Memref.whole main_v35 : Memref sig .tc .smem S8 .i32) (tables m 0) ∗ tbPt c T3 (tables m 1) ∗ ⌜a.Inv t A H⌝)

/-- Proof data with values. -/
def rdVal (a : Arr) (c : Dev nD) : RDat τ (Elt Ideal) Unit ℕ (UR sig nD τ) ℕ (cfg0 (adm m)) c where
  A w := V m c (Pipeline.arrRef spec0 w)
  after := afterV m a
  Φ t := PhiV m a c t.val
  q _ := fullShare
  owed _ := 0

variable (T : ℕ → BitVec 16) (n : ℕ) (hn : n ≤ 8) (hnv : nactV m = BitVec.ofNat 32 n) (hT : TabOK (V m (0 : Dev nD) main_v51) T)

include hn hnv hT in
/-- The blocks at a point. -/
theorem blk_of (c : Dev nD) (t : Fin (cfg0 (adm m)).N) (Y : (w : Fin (cfg0 (adm m)).W) → ((cfg0 (adm m)).win w).block.Idx → Elt Ideal ((cfg0 (adm m)).win w).elt)
    (hY : ∀ w, (rdVal m (arrV m T n) c).Finds w t (Y w)) :
    (arrV m T n).Blk (grid0.coords t) (Y 0) (Y 1) (Y 2) (Y 3) (Y 4) (Y 5) (Y 6) (Y 7) (Y 8) (Y 9) := by
  have hc : c = (0 : Dev nD) := Subsingleton.elim _ _
  subst hc
  obtain ⟨d0, e0⟩ := (rdVal m (arrV m T n) 0).finds_in_eq_fetched 0 rfl (fun _ _ _ => rfl) (fun _ _ _ h => h) t (Y 0) (hY 0)
  obtain ⟨d1, e1⟩ := (rdVal m (arrV m T n) 0).finds_in_eq_fetched 1 rfl (fun _ _ _ => rfl) (fun _ _ _ h => h) t (Y 1) (hY 1)
  obtain ⟨d2, e2⟩ := (rdVal m (arrV m T n) 0).finds_in_eq_fetched 2 rfl (fun _ _ _ => rfl) (fun _ _ _ h => h) t (Y 2) (hY 2)
  obtain ⟨d3, e3⟩ := (rdVal m (arrV m T n) 0).finds_in_eq_fetched 3 rfl (fun _ _ _ => rfl) (fun _ _ _ h => h) t (Y 3) (hY 3)
  obtain ⟨d4, e4⟩ := (rdVal m (arrV m T n) 0).finds_in_eq_fetched 4 rfl (fun _ _ _ => rfl) (fun _ _ _ h => h) t (Y 4) (hY 4)
  obtain ⟨d5, e5⟩ := (rdVal m (arrV m T n) 0).finds_in_eq_fetched 5 rfl (fun _ _ _ => rfl) (fun _ _ _ h => h) t (Y 5) (hY 5)
  obtain ⟨d6, e6⟩ := (rdVal m (arrV m T n) 0).finds_in_eq_fetched 6 rfl (fun _ _ _ => rfl) (fun _ _ _ h => h) t (Y 6) (hY 6)
  obtain ⟨d7, e7⟩ := (rdVal m (arrV m T n) 0).finds_in_eq_fetched 7 rfl (fun _ _ _ => rfl) (fun _ _ _ h => h) t (Y 7) (hY 7)
  obtain ⟨d8, e8⟩ := (rdVal m (arrV m T n) 0).finds_in_eq_fetched 8 rfl (fun _ _ _ => rfl) (fun _ _ _ h => h) t (Y 8) (hY 8)
  obtain ⟨d9, e9⟩ := (rdVal m (arrV m T n) 0).finds_in_eq_fetched 9 rfl (fun _ _ _ => rfl) (fun _ _ _ h => h) t (Y 9) (hY 9)
  have tr (e : Fin 8) (he : e.val = ((grid0.coords t) 0).val) : (grid0.coords t) 0 = e := Fin.ext he.symm
  refine ⟨?_, ?_, ?_, ?_, ?_, ?_, ?_, ?_, ?_, ?_⟩
  · rw [e0]; exact funext fun y => f0 (rdVal m (arrV m T n) 0) t d0 y
  · rw [e2]; exact funext fun y => f2 (rdVal m (arrV m T n) 0) t d2 y
  · rw [e3]; intro r x hx
    refine Eq.trans (congrArg₂ (· ++ ·) ?_ ?_) (hT r x hx)
    · exact f3 (rdVal m (arrV m T n) 0) t d3 _
    · exact f3 (rdVal m (arrV m T n) 0) t d3 _
  · intro e he tk q
    rw [e1]
    refine f1 (rdVal m (arrV m T n) 0) t (ordV m e) ?_ d1 tk q
    rw [tr1 m, tr e he]
  · intro e he hea kc hk u v
    rw [e4]
    refine f4 n (rdVal m (arrV m T n) 0) t (ordV m e) kc ?_ d4 u v
    rw [tr4 m n hn hnv _ (by rw [← he]; exact hea) (by omega), tr e he, hk]
  · intro e he hea kc hk u v
    rw [e5]
    refine f5 n (rdVal m (arrV m T n) 0) t (ordV m e) kc ?_ d5 u v
    rw [tr5 m n hn hnv _ (by rw [← he]; exact hea) (by omega), tr e he, hk]
  · intro e he hea kc hk u v
    rw [e6]
    refine f6 n (rdVal m (arrV m T n) 0) t (ordV m e) kc ?_ d6 u v
    rw [tr6 m n hn hnv _ (by rw [← he]; exact hea) (by omega), tr e he, hk]
  · intro e he hea kc hk u v
    rw [e7]
    refine f7 n (rdVal m (arrV m T n) 0) t (ordV m e) kc ?_ d7 u v
    rw [tr7 m n hn hnv _ (by rw [← he]; exact hea) (by omega), tr e he, hk]
  · intro e he hea g hg u v
    rw [e8]
    refine f8 n (rdVal m (arrV m T n) 0) t (ordV m e) g ?_ d8 u v
    rw [tr8 m n hn hnv _ (by rw [← he]; exact hea) (by omega), tr e he, show ((grid0.coords t) 1).val - 4 = g.val by omega]
  · intro e he hea g hg u v
    rw [e9]
    refine f9 n (rdVal m (arrV m T n) 0) t (ordV m e) g ?_ d9 u v
    rw [tr9 m n hn hnv _ (by rw [← he]; exact hea) (by omega), tr e he, show ((grid0.coords t) 1).val - 4 = g.val by omega]

include hn hnv hT in
/-- The body at a point. -/
theorem sound_val (c : Dev nD) (t : Fin (cfg0 (adm m)).N) (Y : (w : Fin (cfg0 (adm m)).W) → ((cfg0 (adm m)).win w).block.Idx → Elt Ideal ((cfg0 (adm m)).win w).elt)
    (hY : ∀ w, (rdVal m (arrV m T n) c).Finds w t (Y w)) :
    iprop(PhiV m (arrV m T n) c t.val ∗ (rdVal m (arrV m T n) c).owesAt () t.castSucc ∗ owns (c : Thread nD τ) (((cfg0 (adm m)).win 0).stage ((cfg0 (adm m)).slots t 0)) fullShare (Y 0) ∗ owns (c : Thread nD τ) (((cfg0 (adm m)).win 1).stage ((cfg0 (adm m)).slots t 1)) fullShare (Y 1) ∗ owns (c : Thread nD τ) (((cfg0 (adm m)).win 2).stage ((cfg0 (adm m)).slots t 2)) fullShare (Y 2) ∗ owns (c : Thread nD τ) (((cfg0 (adm m)).win 3).stage ((cfg0 (adm m)).slots t 3)) fullShare (Y 3) ∗ owns (c : Thread nD τ) (((cfg0 (adm m)).win 4).stage ((cfg0 (adm m)).slots t 4)) fullShare (Y 4) ∗ owns (c : Thread nD τ) (((cfg0 (adm m)).win 5).stage ((cfg0 (adm m)).slots t 5)) fullShare (Y 5) ∗ owns (c : Thread nD τ) (((cfg0 (adm m)).win 6).stage ((cfg0 (adm m)).slots t 6)) fullShare (Y 6) ∗ owns (c : Thread nD τ) (((cfg0 (adm m)).win 7).stage ((cfg0 (adm m)).slots t 7)) fullShare (Y 7) ∗ owns (c : Thread nD τ) (((cfg0 (adm m)).win 8).stage ((cfg0 (adm m)).slots t 8)) fullShare (Y 8) ∗ owns (c : Thread nD τ) (((cfg0 (adm m)).win 9).stage ((cfg0 (adm m)).slots t 9)) fullShare (Y 9) ∗ owns (c : Thread nD τ) (((cfg0 (adm m)).win 10).stage ((cfg0 (adm m)).slots t 10)) fullShare (Y 10))
      ⊢ wp frame (wpE (defs₀ (F := Ideal)) Variants.none c none) Set.univ (bodyAt m t)
          (fun _ => iprop(PhiV m (arrV m T n) c (t.val + 1) ∗ (rdVal m (arrV m T n) c).owesAt () t.castSucc ∗ owns (c : Thread nD τ) (((cfg0 (adm m)).win 0).stage ((cfg0 (adm m)).slots t 0)) fullShare (Y 0) ∗ owns (c : Thread nD τ) (((cfg0 (adm m)).win 1).stage ((cfg0 (adm m)).slots t 1)) fullShare (Y 1) ∗ owns (c : Thread nD τ) (((cfg0 (adm m)).win 2).stage ((cfg0 (adm m)).slots t 2)) fullShare (Y 2) ∗ owns (c : Thread nD τ) (((cfg0 (adm m)).win 3).stage ((cfg0 (adm m)).slots t 3)) fullShare (Y 3) ∗ owns (c : Thread nD τ) (((cfg0 (adm m)).win 4).stage ((cfg0 (adm m)).slots t 4)) fullShare (Y 4) ∗ owns (c : Thread nD τ) (((cfg0 (adm m)).win 5).stage ((cfg0 (adm m)).slots t 5)) fullShare (Y 5) ∗ owns (c : Thread nD τ) (((cfg0 (adm m)).win 6).stage ((cfg0 (adm m)).slots t 6)) fullShare (Y 6) ∗ owns (c : Thread nD τ) (((cfg0 (adm m)).win 7).stage ((cfg0 (adm m)).slots t 7)) fullShare (Y 7) ∗ owns (c : Thread nD τ) (((cfg0 (adm m)).win 8).stage ((cfg0 (adm m)).slots t 8)) fullShare (Y 8) ∗ owns (c : Thread nD τ) (((cfg0 (adm m)).win 9).stage ((cfg0 (adm m)).slots t 9)) fullShare (Y 9) ∗ ∃ X, owns (c : Thread nD τ) (((cfg0 (adm m)).win 10).stage ((cfg0 (adm m)).slots t 10)) fullShare X ∗ ⌜afterV m (arrV m T n) 10 t (Y 10) X⌝)) := by
  have hblk := blk_of m T n hn hnv hT c t Y hY
  unfold PhiV
  iintro ⟨⟨%A, %H, ⟨HA, HH, ⟨%dg, HG⟩, ⟨%du, HU⟩, ⟨%dd, HD⟩⟩, Hp, HO, HT, %hinv⟩, HW, ⟨W0, W1, W2, W3, W4, W5, W6, W7, W8, W9, W10⟩⟩
  iapply (body_val c (grid0.coords t) (Memref.whole main_v35) (Memref.isWhole_whole _) (spec0_0.stage ((cfg0 (adm m)).slots t 0)) (hstage0_0 (((cfg0 (adm m)).slots t 0).cast nbuf0_0)) (spec0_1.stage ((cfg0 (adm m)).slots t 1)) (hstage0_1 (((cfg0 (adm m)).slots t 1).cast nbuf0_1)) (spec0_2.stage ((cfg0 (adm m)).slots t 2)) (hstage0_2 (((cfg0 (adm m)).slots t 2).cast nbuf0_2)) (spec0_3.stage ((cfg0 (adm m)).slots t 3)) (hstage0_3 (((cfg0 (adm m)).slots t 3).cast nbuf0_3)) (spec0_4.stage ((cfg0 (adm m)).slots t 4)) (hstage0_4 (((cfg0 (adm m)).slots t 4).cast nbuf0_4)) (spec0_5.stage ((cfg0 (adm m)).slots t 5)) (hstage0_5 (((cfg0 (adm m)).slots t 5).cast nbuf0_5)) (spec0_6.stage ((cfg0 (adm m)).slots t 6)) (hstage0_6 (((cfg0 (adm m)).slots t 6).cast nbuf0_6)) (spec0_7.stage ((cfg0 (adm m)).slots t 7)) (hstage0_7 (((cfg0 (adm m)).slots t 7).cast nbuf0_7)) (spec0_8.stage ((cfg0 (adm m)).slots t 8)) (hstage0_8 (((cfg0 (adm m)).slots t 8).cast nbuf0_8)) (spec0_9.stage ((cfg0 (adm m)).slots t 9)) (hstage0_9 (((cfg0 (adm m)).slots t 9).cast nbuf0_9)) (spec0_10.stage ((cfg0 (adm m)).slots t 10)) (hstage0_10 (((cfg0 (adm m)).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (tables m 1) (Y 0) (Y 1) (Y 2) (Y 3) (Y 4) (Y 5) (Y 6) (Y 7) (Y 8) (Y 9) (Y 10) A H dg du dd _)
  isplitl [HT]; · iexact HT
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [HA]; · iexact HA
  isplitl [HH]; · iexact HH
  isplitl [HG]; · iexact HG
  isplitl [HU]; · iexact HU
  isplitl [HD]; · iexact HD
  iintro ⟨HT, W0, W1, W2, W3, W4, W5, W6, W7, W8, W9, ⟨%d14, %A', %H', W10, HA, HH, HG, HU, HD, %hrel⟩⟩
  rw [nactOf_eq m c, hnv] at hrel
  have hst := (arrV m T n).inv_step hn t.val (grid0.coords t) (coords0 t).1 (coords0 t).2 _ _ _ _ _ _ _ _ _ _ d14 A A' H H' hblk hinv hrel
  isplitl [HA HH HG HU HD Hp HO HT]
  · iexists A', H'
    isplitl [HA HH HG HU HD]
    · isplitl [HA]; · iexact HA
      isplitl [HH]; · iexact HH
      isplitl [HG]; · iexact HG
      isplitl [HU]; · iexact HU
      iexact HD
    isplitl [Hp]; · iexact Hp
    isplitl [HO]; · iexact HO
    isplitl [HT]; · iexact HT
    ipureintro; exact hst.1
  isplitl [HW]; · iexact HW
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  iexists d14
  isplitl [W10]; · iexact W10
  ipureintro
  intro ht y
  refine (hst.2 ht y).trans ?_
  have h72 := hst.1.1 (by omega)
  rw [ht] at h72
  exact h72 _ _ _

include hn hnv hT in
/-- The body obligation. -/
theorem body_ob (c : Dev nD) : (rdVal m (arrV m T n) c).BodyObligation (defs₀ (F := Ideal)) Variants.none () Set.univ := fun t Y hY => by
  rw [bigSep_W0, bigSep_W0, defs₀_row]
  refine triple_restated (sound_val m T n hn hnv hT c t Y hY) rfl ?_ fun _ => ?_
  · rw [show (rdVal m (arrV m T n) c).Φ t.castSucc = PhiV m (arrV m T n) c t.val from rfl]
    iintro ⟨HF, HW, ⟨W0, W1, W2, W3, W4, W5, W6, W7, W8, W9, W10⟩⟩
    isplitl [HF]; · iexact HF
    isplitl [HW]; · iexact HW
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    iexact W10
  · rw [show (rdVal m (arrV m T n) c).Φ t.succ = PhiV m (arrV m T n) c (t.val + 1) from rfl]
    iintro ⟨HF, HW, ⟨W0, W1, W2, W3, W4, W5, W6, W7, W8, W9, ⟨%X, W10, %hX⟩⟩⟩
    isplitl [HF]; · iexact HF
    isplitl [HW]; · iexact HW
    isplitl [W0]; · iexists _; isplitr; swap; · iexact W0
                    ipureintro; exact rfl
    isplitl [W1]; · iexists _; isplitr; swap; · iexact W1
                    ipureintro; exact rfl
    isplitl [W2]; · iexists _; isplitr; swap; · iexact W2
                    ipureintro; exact rfl
    isplitl [W3]; · iexists _; isplitr; swap; · iexact W3
                    ipureintro; exact rfl
    isplitl [W4]; · iexists _; isplitr; swap; · iexact W4
                    ipureintro; exact rfl
    isplitl [W5]; · iexists _; isplitr; swap; · iexact W5
                    ipureintro; exact rfl
    isplitl [W6]; · iexists _; isplitr; swap; · iexact W6
                    ipureintro; exact rfl
    isplitl [W7]; · iexists _; isplitr; swap; · iexact W7
                    ipureintro; exact rfl
    isplitl [W8]; · iexists _; isplitr; swap; · iexact W8
                    ipureintro; exact rfl
    isplitl [W9]; · iexists _; isplitr; swap; · iexact W9
                    ipureintro; exact rfl
    iexists X; isplitr; swap; · iexact W10
    ipureintro; exact hX

include hn hnv hT in
/-- The program's run. -/
theorem run_val :
    θ_run defs (onTc (τ := τ) (main (F := Ideal))) (s₀ m ρ)
      (fun r => RDat.FramePost (cfg0 (adm m)) (rdVal m (arrV m T n)) (V m) r ∧ r.2.sem = fun _ => 0) :=
  launch m ρ (rdVal m (arrV m T n)) (body_ob m T n hn hnv hT) (fun c => (rdVal m (arrV m T n) c).share_full fun _ => rfl) (fun _ _ => rfl) (fun _ _ => rfl)
    (fun c => by
      show _ ⊢ PhiV m (arrV m T n) c 0
      unfold PhiV
      iintro ⟨⟨⟨⟨%A, HA⟩, ⟨%H, HH⟩, HG, HU, HD⟩, Hp⟩, HO, HT⟩
      iexists A, H
      isplitl [HA HH HG HU HD]
      · isplitl [HA]; · iexact HA
        isplitl [HH]; · iexact HH
        isplitl [HG]; · iexact HG
        isplitl [HU]; · iexact HU
        iexact HD
      isplitl [Hp]; · iexact Hp
      isplitl [HO]; · iexact HO
      isplitl [HT]; · iexact HT
      ipureintro
      exact ⟨fun h => absurd h (by norm_num), fun _ _ _ kc hk => absurd hk (Nat.not_lt_zero _)⟩)
    (fun c => by
      show PhiV m (arrV m T n) c _ ⊢ _
      unfold PhiV
      iintro ⟨%A, %H, ⟨HA, HH, HG, HU, HD⟩, Hp, HO, HT, -⟩
      isplitl [HA HH HG HU HD]
      · isplitl [HA]; · iexists A; iexact HA
        isplitl [HH]; · iexists H; iexact HH
        isplitl [HG]; · iexact HG
        isplitl [HU]; · iexact HU
        iexact HD
      iexact Hp)

end Cert.KernelIdeal.Hand

end
-- ==== Proof.Out.lean ====
/-
  The kernel's result array after its run: the value written back once, after the last point.
-/
module

public import proofs.«01_k».proof.Proof.ValRun
public import Idealize.ShloMosaic.Lib.SortFacts
public import Idealize.ShloMosaic.Lib.StableHlo.Predicate
public import Idealize.ShloMosaic.Lib.StableHlo.ReadAt

public import Idealize.ShloMosaic.Lib.Quiescent
public import Idealize.ShloMosaic.Lib.Pipeline.FrameBody
public import Idealize.ShloMosaic.Lib.Pipeline.Frame
public import Idealize.ShloMosaic.Lib.Tactic
public import Idealize.ShloMosaic.Lib.Pointwise
public import Idealize.ShloMosaic.Lib.Pipeline.FrameBody
public import Idealize.ShloMosaic.Lib.Pipeline.ArrRel

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg)
attribute [local irreducible] V tables

/-- The last grid point. -/
def tLast : Fin (cfg0 (adm m)).N := ⟨71, by show 71 < grid0.N; decide⟩
theorem coords_lt (t : Fin grid0.N) : t.val < 72 := t.isLt

/-- The result is written back once, whole, at the last point. -/
theorem whole10 : ((cfg0 (adm m)).win 10).WholeAt (tLast m) := by
  have hf : ∀ t : Fin (cfg0 (adm m)).N, ((cfg0 (adm m)).win 10).flush t = true ↔ t.val % 72 = 71 := fun t =>
    Pipeline.Window.flush_const ((cfg0 (adm m)).win 10) rfl (fun _ _ => rfl) (n := 72) (m := 71) (by show grid0.N = 72; decide) rfl t
  refine ⟨(hf _).2 rfl, fun t ht => Fin.ext ?_, fun a => ?_⟩
  · have h1 := (hf t).1 ht
    have h2 : t.val < 72 := coords_lt t
    show t.val = 71
    omega
  · match a with
    | ⟨0, _⟩ => exact ⟨rfl, rfl⟩
    | ⟨1, _⟩ => exact ⟨rfl, rfl⟩

variable (T : ℕ → BitVec 16) (n : ℕ)

/-- The result array. -/
theorem out_of (c : Dev nD) (G : Buf (Elt Ideal) ((c : Thread nD τ).loc main_v55)) (hG : (rdVal m (arrV m T n) c).ArrAt 10 (cfg0 (adm m)).N G) (y : S192x5120.Idx) :
    (G : S192x5120.Idx → EReal) y = outV (arrV m T n) y := by
  obtain ⟨X, ⟨Y, _, hX⟩, hE⟩ := Pipeline.RDat.ArrAt.emb_eq_of_wholeAt hG (whole10 m)
  have h1 := hE y
  have h2 : ∀ z : S192x5120.Idx, (X : S192x5120.Idx → EReal) z = outV (arrV m T n) z := hX rfl
  have e1 : (((cfg0 (adm m)).win 10).arr.view.emb y : S192x5120.Idx) = y := rfl
  have h3 : (G : S192x5120.Idx → EReal) (((cfg0 (adm m)).win 10).arr.view.emb y) = (X : S192x5120.Idx → EReal) y := h1
  rw [e1] at h3
  exact h3.trans (h2 y)

variable (hn : n ≤ 8) (hnv : nactV m = BitVec.ofNat 32 n) (hT : TabOK (V m (0 : Dev nD) main_v51) T)
include hn hnv hT in
/-- The run: the result, and the arguments as they were. -/
theorem run_out : θ_run defs (onTc (τ := τ) (main (F := Ideal))) (s₀ m ρ) (fun r => ∀ c : Dev nD,
    (r.2.mem ((c : Thread nD τ).loc main_v55) : S192x5120.Idx → EReal) = (fun y => outV (arrV m T n) y)
    ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run _ _ _).mono (fun r h c => ⟨funext fun y => out_of m T n c _ ((h.1 c).1 10) y, args_unchanged (fun _ _ => rfl) h.1 c⟩)
    (run_val m ρ T n hn hnv hT)
end Cert.KernelIdeal.Hand
end
-- ==== Proof.HostV.lean ====
/-
  The kernel host program's values: the arrays that the kernel is given, read off the arguments.
-/
module

public import proofs.«01_k».proof.Proof.Blocks
public import Idealize.ShloMosaic.Lib.SortFacts
public import Idealize.ShloMosaic.Lib.StableHlo.Predicate
public import Idealize.ShloMosaic.Lib.StableHlo.ReadAt

public import Idealize.ShloMosaic.Lib.Quiescent
public import Idealize.ShloMosaic.Lib.Pipeline.FrameBody
public import Idealize.ShloMosaic.Lib.Pipeline.Frame
public import Idealize.ShloMosaic.Lib.Tactic
public import Idealize.ShloMosaic.Lib.Pointwise
public import Idealize.ShloMosaic.Lib.Pipeline.FrameBody
public import Idealize.ShloMosaic.Lib.Pipeline.ArrRel

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat)

local notation "𝕄" => MT nD τ sig Unit (Elt Ideal) ℕ (UR sig nD τ) ℕ

/-- The number of experts that some token uses, as a word. -/
def nW (x : IVec S8 1) : IVec S1 32 := shapeCast _ (Host.reduce IntOp.addi (extui 32 x natLt_1_32) (constantI S_ 32 0#32) reducesTo_S8_S_d0 h_S_) shapeCasts_S_S1
/-- The place in the sorted list that each slot reads, from the number of experts in use. -/
def minW (n : IVec S1 32) : IVec S8 32 := minsi (iotaInDim S8 32 0) (broadcastInDim S8 ![] bcast_S_S8 (maxsi (subi (shapeCast _ n shapeCasts_S1_S_) (constantI S_ 32 1#32)) (constantI S_ 32 0#32)))
def idxW (n : IVec S1 32) : IVec S8 32 := select (cmpi .slt (minW n) (broadcastInDim S8 ![] bcast_S_S8 (constantI S_ 32 0#32))) (addi (minW n) (broadcastInDim S8 ![] bcast_S_S8 (constantI S_ 32 8#32))) (minW n)
/-- The experts, those in use first. -/
def sortW (x : IVec S8 1) : IVec S8 32 := (Host.sort2 S8 0 comparator_i1_i32_d0 (noti x) (iotaInDim S8 32 0)).2
/-- The expert of each slot. -/
def ordW (x : IVec S8 1) : IVec S8 32 := Host.gather gather_S8_S8x1_S8_n_0_n_n_0_1_1 (sortW x) (broadcastInDim S8x1 ![0] bcast_S8_S8x1_0 (idxW (nW x)))
/-- The pattern of use given by the bits of a number. -/
def patW (w : Fin 256) : IVec S8 1 := fun j => BitVec.ofBool (w.val.testBit (j 0).val)

variable (m : (ℓ : Loc nD τ sig) → Buf (Elt Ideal) ℓ) (c : Dev nD)
set_option maxHeartbeats 4000000 in
theorem V22 : V m c main_v22 = nW (V m c main_v17) := by
  unfold V; after_reads_simp; rfl
set_option maxHeartbeats 4000000 in
theorem V35 : V m c main_v35 = ordW (V m c main_v17) := by
  unfold V; after_reads_simp; rfl
set_option maxHeartbeats 4000000 in
theorem V52 (E : Fin 8) (r : Fin 80) (f : Fin 1024) : (V m c main_v52 : S8x80x1024.Idx → EReal) (ix3 E r f) = (m ((c : Thread nD τ).loc main_arg4) : S8x1024x80.Idx → EReal) (ix3 E f r) := by
  unfold V; after_reads_at
set_option maxHeartbeats 4000000 in
theorem V53 (E : Fin 8) (r : Fin 80) (f : Fin 1024) : (V m c main_v53 : S8x80x1024.Idx → EReal) (ix3 E r f) = (m ((c : Thread nD τ).loc main_arg6) : S8x1024x80.Idx → EReal) (ix3 E f r) := by
  unfold V; after_reads_at
set_option maxHeartbeats 4000000 in
theorem V54 (E : Fin 8) (r : Fin 16) (f : Fin 5120) : (V m c main_v54 : S8x16x5120.Idx → EReal) (ix3 E r f) = (m ((c : Thread nD τ).loc main_arg8) : S8x5120x16.Idx → EReal) (ix3 E f r) := by
  unfold V; after_reads_at
set_option maxHeartbeats 4000000 in
/-- The tokens, each chunk's entries permuted. -/
theorem V38 (t : Fin 192) (z z' : Fin 5120) (hz' : z'.val = z.val / 256 * 256 + z.val % 64 * 4 + z.val / 64 % 4) :
    (V m c main_v38 : S192x5120.Idx → EReal) (ix2 t z) = (m ((c : Thread nD τ).loc main_arg0) : S192x1x5120.Idx → EReal) (ix3 t 0 z') := by
  rw [show z' = ⟨z.val / 256 * 256 + z.val % 64 * 4 + z.val / 64 % 4, by omega⟩ from Fin.ext hz']
  unfold V; after_reads_at
set_option maxHeartbeats 4000000 in
theorem V51 (r : Fin 32) (x : Fin 128) (h : Fin 2) : (V m c main_v51 : S2x32x128.Idx → BitVec 8) (ix3 h r x) = lit0 (S2x128.rowMajor (ix2 h x)) := by
  unfold V; after_reads_at
/-- The table of sixteen values. -/
def TT : ℕ → BitVec 16 := fun
  | 0 => 0xBF80#16 | 1 => 0xBF32#16 | 2 => 0xBF06#16 | 3 => 0xBECA#16 | 4 => 0xBE92#16 | 5 => 0xBE3D#16 | 6 => 0xBDBA#16 | 7 => 0x0000#16
  | 8 => 0x3DA3#16 | 9 => 0x3E25#16 | 10 => 0x3E7C#16 | 11 => 0x3EAD#16 | 12 => 0x3EE2#16 | 13 => 0x3F10#16 | 14 => 0x3F39#16 | 15 => 0x3F80#16
  | _ => 0#16
theorem lit_val : ∀ x : Fin 16, (lit0 (S2x128.rowMajor (ix2 (1 : Fin 2) (⟨x.val, by omega⟩ : Fin 128))) ++ lit0 (S2x128.rowMajor (ix2 (0 : Fin 2) (⟨x.val, by omega⟩ : Fin 128))) : BitVec 16) = TT x.val := by decide +kernel
theorem tab_ok : TabOK (V m (0 : Dev nD) main_v51) TT := by
  intro r x hx
  rw [V51, V51]
  exact lit_val ⟨x.val, hx⟩

/-- Whether a token uses an expert. -/
def hitB (ids : S192x1x2.Idx → BitVec 32) (E : Fin 8) (t : Fin 192) (k : Fin 2) : BitVec 1 := IntOp.cmpi .eq (ids (ix3 t (0 : Fin 1) k)) (BitVec.ofNat 32 E.val)
set_option maxHeartbeats 4000000 in
theorem V16a (E : Fin 8) (t : Fin 192) : (V m c main_v16 : S8x192x2.Idx → EReal) (ix3 E t 0)
    = ∑ k : Fin 2, Scalar.select (α := EReal) (hitB (m ((c : Thread nD τ).loc main_arg1)) E t k) ((m ((c : Thread nD τ).loc main_arg2) : S192x1x2.Idx → EReal) (ix3 t 0 k)) (0 : EReal) := by
  unfold V; after_reads_at
  simp only [id_eq]
  pointwise
  rfl
set_option maxHeartbeats 4000000 in
theorem V16b (E : Fin 8) (t : Fin 192) : (V m c main_v16 : S8x192x2.Idx → EReal) (ix3 E t 1)
    = (FloatOps.uitofp FTy.f32 (Finset.fold IntOp.ori (0#1) (fun k => hitB (m ((c : Thread nD τ).loc main_arg1)) E t k) Finset.univ) : Ideal .f32) := by
  unfold V; after_reads_at
  rfl
set_option maxHeartbeats 4000000 in
theorem V17 (E : Fin 8) : (V m c main_v17 : S8.Idx → BitVec 1) (ix1 E)
    = Finset.fold IntOp.ori (0#1) (fun t => Finset.fold IntOp.ori (0#1) (fun k => hitB (m ((c : Thread nD τ).loc main_arg1)) E t k) Finset.univ) Finset.univ := by
  unfold V; after_reads_at
  rfl
set_option maxHeartbeats 4000000 in
theorem V44 (D : Fin 256) : (V m c main_v44 : S256.Idx → BitVec 32) (ix1 D) = BitVec.ofNat 32 (64 * (D.val % 4) + D.val / 4) := by
  unfold V; after_reads_at
  revert D; decide +kernel
set_option maxHeartbeats 4000000 in
theorem V50' : V m c main_v50 = (uitofp .bf16 (cmpi .eq (broadcastInDim S256x256 ![0, 1] bcast_S256x1_S256x256_0_1 (broadcastInDim S256x1 ![0] bcast_S256_S256x1_0 (V m c main_v44))) (broadcastInDim S256x256 ![0, 1] bcast_S1x256_S256x256_0_1 (broadcastInDim S1x256 ![1] bcast_S256_S1x256_1 (iotaInDim S256 32 0)))) : FVec Ideal S256x256 .bf16) := by
  unfold V; after_reads_simp
theorem V50 (D C : Fin 256) : (V m c main_v50 : S256x256.Idx → EReal) (ix2 D C) = (FloatOps.uitofp FTy.bf16 (IntOp.cmpi .eq (BitVec.ofNat 32 (64 * (D.val % 4) + D.val / 4)) (BitVec.ofNat 32 C.val)) : Ideal .bf16) := by
  rw [V50', ← V44 m c D]
  generalize V m c main_v44 = v
  pointwise
end Cert.KernelIdeal.Hand
end
-- ==== Proof.Slots.lean ====
/-
  The kernel host program's values: the slots' experts.
-/
module

public import proofs.«01_k».proof.Proof.HostV
public import Idealize.ShloMosaic.Lib.SortFacts
public import Idealize.ShloMosaic.Lib.StableHlo.Predicate
public import Idealize.ShloMosaic.Lib.StableHlo.ReadAt

public import Idealize.ShloMosaic.Lib.Quiescent
public import Idealize.ShloMosaic.Lib.Pipeline.FrameBody
public import Idealize.ShloMosaic.Lib.Pipeline.Frame
public import Idealize.ShloMosaic.Lib.Tactic
public import Idealize.ShloMosaic.Lib.Pointwise
public import Idealize.ShloMosaic.Lib.Pipeline.FrameBody
public import Idealize.ShloMosaic.Lib.Pipeline.ArrRel

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat)

local notation "𝕄" => MT nD τ sig Unit (Elt Ideal) ℕ (UR sig nD τ) ℕ

/-- The experts in use, then the others. -/
def ordL (w : ℕ) : List ℕ := (List.range 8).filter (w.testBit ·) ++ (List.range 8).filter (fun e => !w.testBit e)
/-- How many experts are in use. -/
def cntN (w : ℕ) : ℕ := ((List.range 8).filter (w.testBit ·)).length
/-- The expert of a slot; slots past the last repeat it. -/
def ordN (w e : ℕ) : ℕ := (ordL w).getD (min e (cntN w - 1)) 0
/-- The kernel's count of experts in use. -/
theorem n_word : ∀ w : Fin 256, nW (patW w) (ix1 0) = BitVec.ofNat 32 (cntN w.val) := by decide +kernel
/-- The kernel's table of experts. -/
theorem ord_word : ∀ (w : Fin 256) (e : Fin 8), (ordW (patW w) (ix1 e)).toNat = ordN w.val e.val := by decide +kernel
theorem cnt_le : ∀ w : Fin 256, cntN w.val ≤ 8 := by decide +kernel
/-- Every expert in use has one slot, and the others none. -/
theorem slot_count : ∀ (w : Fin 256) (E : Fin 8), (∑ e : Fin 8, if e.val < cntN w.val ∧ ordN w.val e.val = E.val then 1 else 0) = (if patW w (ix1 E) = 1#1 then 1 else 0 : ℕ) := by decide +kernel
theorem bits8 : ∀ b : Fin 8 → Bool, ∃ w : Fin 256, ∀ e : Fin 8, w.val.testBit e.val = b e := by decide +kernel
theorem bit_of (b : BitVec 1) : b = BitVec.ofBool (b.getLsbD 0) := by revert b; decide
/-- Every pattern of use is given by a number. -/
theorem pat_surj (x : IVec S8 1) : ∃ w, x = patW w := by
  obtain ⟨w, hw⟩ := bits8 fun e => (x (ix1 e)).getLsbD 0
  refine ⟨w, funext fun j => ?_⟩
  have hj : (ix1 (j 0 : Fin 8) : S8.Idx) = j := funext fun (a : Fin 1) => by
    match a with
    | 0 => rfl
  have h1 : w.val.testBit (j 0).val = (x j).getLsbD 0 := (hw (j 0)).trans (congrArg (fun i => (x i).getLsbD 0) hj)
  exact (bit_of (x j)).trans (congrArg BitVec.ofBool h1.symm)
end Cert.KernelIdeal.Hand
end
-- ==== Proof.Equation.lean ====
/-
  The kernel's tiled sums as plain sums: gate and up products, hidden activations, and down products of one expert.
-/
module

public import proofs.«01_k».proof.Proof.Steps
public import Idealize.ShloMosaic.Lib.SortFacts
public import Idealize.ShloMosaic.Lib.StableHlo.Predicate
public import Idealize.ShloMosaic.Lib.StableHlo.ReadAt

public import Idealize.ShloMosaic.Lib.Quiescent
public import Idealize.ShloMosaic.Lib.Pipeline.FrameBody
public import Idealize.ShloMosaic.Lib.Pipeline.Frame
public import Idealize.ShloMosaic.Lib.Tactic
public import Idealize.ShloMosaic.Lib.Pointwise
public import Idealize.ShloMosaic.Lib.Pipeline.FrameBody
public import Idealize.ShloMosaic.Lib.Pipeline.ArrRel

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat)

local notation "𝕄" => MT nD τ sig Unit (Elt Ideal) ℕ (UR sig nD τ) ℕ

/-- The place of a tile's row among a chunk's rows. -/
def placeE : Fin 256 ≃ Fin 256 where
  toFun R := ⟨R.val % 64 * 4 + R.val / 64, by omega⟩
  invFun K := ⟨K.val % 4 * 64 + K.val / 4, by omega⟩
  left_inv R := Fin.ext (by show (R.val % 64 * 4 + R.val / 64) % 4 * 64 + (R.val % 64 * 4 + R.val / 64) / 4 = R.val; omega)
  right_inv K := Fin.ext (by show (K.val % 4 * 64 + K.val / 4) % 64 * 4 + (K.val % 4 * 64 + K.val / 4) / 64 = K.val; omega)

/-- A sum over chunks and the tile's rows is a sum over all rows. -/
theorem chunk_sum (n N : ℕ) (hN : N = n * 256) (F : Fin N → EReal) (G : Fin n → Fin 256 → EReal)
    (h : ∀ (k : Fin n) (R : Fin 256) (K : Fin N), K.val = 256 * k.val + (R.val % 64 * 4 + R.val / 64) → G k R = F K) :
    ∑ k : Fin n, ∑ R : Fin 256, G k R = ∑ K : Fin N, F K := by
  subst hN
  rw [← (finProdFinEquiv (m := n) (n := 256)).sum_comp F, Fintype.sum_prod_type]
  refine Finset.sum_congr rfl fun k _ => ?_
  rw [← placeE.sum_comp (fun K => F (finProdFinEquiv (k, K)))]
  refine Finset.sum_congr rfl fun R _ => h k R _ ?_
  show (R.val % 64 * 4 + R.val / 64) + 256 * k.val = _
  omega

/-- A decoded gate or up weight. -/
def dG (T : ℕ → BitVec 16) (w : S8x1024x2560.Idx → BitVec 8) (s : S8x80x1024.Idx → EReal) (E : Fin 8) (f : Fin 1024) (K : Fin 5120) : EReal :=
  ((FloatOps.ofBits FTy.bf16 (T (nibN K.val (w (ix3 E f ⟨K.val / 2, by omega⟩)))) : Ideal FTy.bf16) : EReal) * s (ix3 E ⟨K.val / 64, by omega⟩ f)
/-- A decoded down weight. -/
def dD (T : ℕ → BitVec 16) (w : S8x5120x512.Idx → BitVec 8) (s : S8x16x5120.Idx → EReal) (E : Fin 8) (f : Fin 5120) (K : Fin 1024) : EReal :=
  ((FloatOps.ofBits FTy.bf16 (T (nibN K.val (w (ix3 E f ⟨K.val / 2, by omega⟩)))) : Ideal FTy.bf16) : EReal) * s (ix3 E ⟨K.val / 64, by omega⟩ f)

theorem nibN_congr (p q : ℕ) (b : BitVec 8) (h : p % 2 = q % 2) : nibN p b = nibN q b := by
  unfold nibN; rw [h]

theorem row_scale : ∀ R : Fin 256, R.val / 16 % 4 = (R.val % 64 * 4 + R.val / 64) / 64 := by decide +kernel
theorem row_x (k R : ℕ) (hR : R < 256) : 256 * k + (R % 64 * 4 + R / 64) = (256 * k + R) / 256 * 256 + (256 * k + R) % 64 * 4 + (256 * k + R) / 64 % 4 := by
  have h1 : (256 * k + R) / 256 = k := by omega
  have h2 : (256 * k + R) % 64 = R % 64 := by omega
  have h3 : (256 * k + R) / 64 = 4 * k + R / 64 := by omega
  have h4 : (4 * k + R / 64) % 4 = R / 64 := by omega
  rw [h1, h2, h3, h4]; omega
/-- A tile's entry, by the row's place. -/
theorem tile_place (T : ℕ → BitVec 16) (w : Fin 256 → Fin 128 → BitVec 8) (s : Fin 4 → Fin 256 → EReal) (R C : Fin 256) (P : ℕ) (hP : P = R.val % 64 * 4 + R.val / 64)
    (b : BitVec 8) (hb : ∀ z : Fin 128, z.val = P / 2 → w C z = b) (v : EReal) (hv : ∀ z : Fin 4, z.val = P / 64 → s z C = v) (Q : ℕ) (hQ : Q % 2 = P % 2) :
    tileAt T w s R C = ((FloatOps.ofBits FTy.bf16 (T (nibN Q b)) : Ideal FTy.bf16) : EReal) * v := by
  subst hP
  unfold tileAt
  rw [hb _ (by show 32 * (R.val / 16 % 4) + (2 * (R.val % 16) + R.val / 64 / 2) = _; omega), hv _ (by show R.val / 16 % 4 = _; exact row_scale R),
    nibN_congr (R.val / 64) Q b (by omega)]

namespace Arr
variable (a : Arr) (X : Fin 192 → Fin 5120 → EReal)

/-- A gate or up product of a token. -/
def gR (w : S8x1024x2560.Idx → BitVec 8) (s : S8x80x1024.Idx → EReal) (E : Fin 8) (t : Fin 192) (f : Fin 1024) : EReal :=
  ∑ K : Fin 5120, dG a.tab w s E f K * X t K
/-- A hidden activation. -/
def hR (E : Fin 8) (t : Fin 192) (f : Fin 1024) : EReal := act (a.gR X a.wg a.sg E t f) (a.gR X a.wu a.su E t f)
/-- An expert's output. -/
def yR (E : Fin 8) (t : Fin 192) (C : Fin 5120) : EReal := ∑ K : Fin 1024, a.hR X E t K * dD a.tab a.wd a.sd E C K

variable (hx : ∀ (t : Fin 192) (z z' : Fin 5120), z'.val = z.val / 256 * 256 + z.val % 64 * 4 + z.val / 64 % 4 → a.x (ix2 t z) = X t z')
include hx in
theorem gDot_eq (w : S8x1024x2560.Idx → BitVec 8) (s : S8x80x1024.Idx → EReal) (o : Fin 8) (kc : Fin 4) (t : Fin 192) (C : Fin 256) (f : Fin 1024) (hf : f.val = 256 * kc.val + C.val) :
    a.gDot w s o kc t C = a.gR X w s o t f := by
  refine chunk_sum 20 5120 (by norm_num) (fun K => dG a.tab w s o f K * X t K) _ fun k R K hK => ?_
  have hK5 : K.val < 5120 := K.isLt
  have hxx : a.x (ix2 t (⟨256 * k.val + R.val, by omega⟩ : Fin 5120)) = X t K := hx t _ K (hK.trans (row_x k.val R.val R.isLt))
  refine Eq.trans (congrArg₂ (· * ·) hxx ?_) (mul_comm (X t K) (dG a.tab w s o f K))
  have ef : (⟨256 * kc.val + C.val, by omega⟩ : Fin 1024) = f := Fin.ext hf.symm
  refine (tile_place a.tab _ _ R C (R.val % 64 * 4 + R.val / 64) rfl (w (ix3 o f ⟨K.val / 2, by omega⟩)) (fun z hz => ?_) (s (ix3 o ⟨K.val / 64, by omega⟩ f)) (fun z hz => ?_) K.val (by omega))
  · show w (ix3 o ⟨256 * kc.val + C.val, _⟩ ⟨128 * k.val + z.val, _⟩) = _
    rw [ef]
    exact congrArg (fun q => w (ix3 o f q)) (Fin.ext (by show 128 * k.val + z.val = K.val / 2; omega))
  · show s (ix3 o ⟨4 * k.val + z.val, _⟩ ⟨256 * kc.val + C.val, _⟩) = _
    rw [ef]
    exact congrArg (fun q => s (ix3 o q f)) (Fin.ext (by show 4 * k.val + z.val = K.val / 64; omega))

variable (hp : ∀ D C : Fin 256, a.p (ix2 D C) = if 64 * (D.val % 4) + D.val / 4 = C.val then 1 else 0)
include hx hp in
theorem hp_eq (o : Fin 8) (kc : Fin 4) (t : Fin 192) (C : Fin 256) (K : Fin 1024) (hK : K.val = 256 * kc.val + (C.val % 64 * 4 + C.val / 64)) :
    a.hp o kc t C = a.hR X o t K := by
  unfold Arr.hp
  rw [Finset.sum_eq_single (⟨C.val % 64 * 4 + C.val / 64, by omega⟩ : Fin 256)]
  · rw [hp, if_pos (by show 64 * ((C.val % 64 * 4 + C.val / 64) % 4) + (C.val % 64 * 4 + C.val / 64) / 4 = C.val; omega), mul_one]
    unfold hR
    rw [a.gDot_eq X hx a.wg a.sg o kc t _ K hK, a.gDot_eq X hx a.wu a.su o kc t _ K hK]
  · intro D _ hD
    rw [hp, if_neg, mul_zero]
    intro h
    exact hD (Fin.ext (by show D.val = C.val % 64 * 4 + C.val / 64; omega))
  · intro h; exact absurd (Finset.mem_univ _) h

include hx hp in
theorem dDot_eq (o : Fin 8) (m : Fin 20) (t : Fin 192) (C : Fin 256) (f : Fin 5120) (hf : f.val = 256 * m.val + C.val) :
    a.dDot o m t C = a.yR X o t f := by
  refine chunk_sum 4 1024 (by norm_num) (fun K => a.hR X o t K * dD a.tab a.wd a.sd o f K) _ fun k R K hK => ?_
  have hK5 : K.val < 1024 := K.isLt
  refine congrArg₂ (· * ·) (a.hp_eq X hx hp o k t R K hK) ?_
  have ef : (⟨256 * m.val + C.val, by omega⟩ : Fin 5120) = f := Fin.ext hf.symm
  refine (tile_place a.tab _ _ R C (R.val % 64 * 4 + R.val / 64) rfl (a.wd (ix3 o f ⟨K.val / 2, by omega⟩)) (fun z hz => ?_) (a.sd (ix3 o ⟨K.val / 64, by omega⟩ f)) (fun z hz => ?_) K.val (by omega))
  · show a.wd (ix3 o ⟨256 * m.val + C.val, _⟩ ⟨128 * k.val + z.val, _⟩) = _
    rw [ef]
    exact congrArg (fun q => a.wd (ix3 o f q)) (Fin.ext (by show 128 * k.val + z.val = K.val / 2; omega))
  · show a.sd (ix3 o ⟨4 * k.val + z.val, _⟩ ⟨256 * m.val + C.val, _⟩) = _
    rw [ef]
    exact congrArg (fun q => a.sd (ix3 o q f)) (Fin.ext (by show 4 * k.val + z.val = K.val / 64; omega))

/-- The slots' sum is a sum over the experts. -/
theorem slot_sum (n : ℕ) (o : Fin 8 → Fin 8) (u : Fin 8 → Prop) [DecidablePred u]
    (h : ∀ E : Fin 8, (∑ e : Fin 8, if e.val < n ∧ (o e).val = E.val then 1 else 0) = (if u E then 1 else 0 : ℕ)) (f : Fin 8 → EReal) :
    (∑ e : Fin 8, if e.val < n then f (o e) else 0) = ∑ E : Fin 8, if u E then f E else 0 := by
  have h1 : ∀ e : Fin 8, (if e.val < n then f (o e) else 0) = ∑ E : Fin 8, (if e.val < n ∧ (o e).val = E.val then 1 else 0 : ℕ) • f E := by
    intro e
    by_cases he : e.val < n
    · rw [if_pos he, Finset.sum_eq_single (o e)]
      · rw [if_pos ⟨he, rfl⟩, one_smul]
      · intro E _ hE
        rw [if_neg (fun hh => hE (Fin.ext hh.2.symm)), zero_smul]
      · intro hh; exact absurd (Finset.mem_univ _) hh
    · rw [if_neg he]
      exact (Finset.sum_eq_zero fun E _ => by rw [if_neg (fun hh => he hh.1), zero_smul]).symm
  rw [Finset.sum_congr rfl fun e _ => h1 e, Finset.sum_comm]
  refine Finset.sum_congr rfl fun E _ => ?_
  rw [← Finset.sum_smul, h E]
  by_cases hu : u E
  · rw [if_pos hu, if_pos hu, one_smul]
  · rw [if_neg hu, if_neg hu, zero_smul]

include hx hp in
/-- What the accumulator holds at the end. -/
theorem acc_eq (W : Fin 8 → Fin 192 → EReal) (u : Fin 8 → Prop) [DecidablePred u] (us : Fin 8 → Fin 192 → Prop)
    (hc0 : ∀ E t, a.cw (ix3 E t (0 : Fin 2)) = W E t) (hc1 : ∀ E t, 0 < a.cw (ix3 E t (1 : Fin 2)) ↔ us E t)
    (hW : ∀ E t, ¬ us E t → W E t = 0) (hu : ∀ E t, ¬ u E → ¬ us E t)
    (h : ∀ E : Fin 8, (∑ e : Fin 8, if e.val < a.n ∧ (a.ord e).val = E.val then 1 else 0) = (if u E then 1 else 0 : ℕ))
    (m : Fin 20) (t : Fin 192) (C : Fin 256) (f : Fin 5120) (hf : f.val = 256 * m.val + C.val) :
    a.accV 72 m t C = ∑ E : Fin 8, a.yR X E t f * W E t := by
  have h1 : ∀ E : Fin 8, a.con E m t C = a.yR X E t f * W E t := by
    intro E
    unfold con
    rw [a.dDot_eq X hx hp E m t C f hf, hc0 E t]
    by_cases hh : us E t
    · rw [if_pos]
      rw [decide_eq_true ((hc1 E t).2 hh)]; rfl
    · rw [hW E t hh, mul_zero, ite_self]
  have h2 : a.accV 72 m t C = ∑ e : Fin 8, if e.val < a.n then a.con (a.ord e) m t C else 0 := by
    refine Finset.sum_congr rfl fun e _ => if_congr ⟨fun q => q.1, fun q => ⟨q, ?_⟩⟩ rfl rfl
    have := e.isLt; have := m.isLt; omega
  rw [h2, slot_sum a.n a.ord u h (fun E => a.con E m t C)]
  refine Finset.sum_congr rfl fun E _ => ?_
  by_cases hE : u E
  · rw [if_pos hE, h1 E]
  · rw [if_neg hE, hW E t (hu E t hE), mul_zero]

end Arr
end Cert.KernelIdeal.Hand
end
-- ==== Proof.RefA.lean ====
/-
  The reference's result, read at an entry: decoded weights, gate and up products, hidden activations, down products and
  the weighted sum over the experts.
-/
module

public import proofs.«01_k».proof.Proof.Gen.ReferenceIdeal.Run
public import Idealize.ShloMosaic.Lib.SortFacts
public import Idealize.ShloMosaic.Lib.StableHlo.Predicate
public import Idealize.ShloMosaic.Lib.StableHlo.ReadAt

public import Idealize.ShloMosaic.Lib.Quiescent
public import Idealize.ShloMosaic.Lib.Pipeline.FrameBody
public import Idealize.ShloMosaic.Lib.Pipeline.Frame
public import Idealize.ShloMosaic.Lib.Tactic
public import Idealize.ShloMosaic.Lib.Pointwise
public import Idealize.ShloMosaic.Lib.Pipeline.FrameBody
public import Idealize.ShloMosaic.Lib.Pipeline.ArrRel

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat)

local notation "𝕄" => MT nD τ sig Unit (Elt Ideal) ℕ (UR sig nD τ) ℕ

theorem rm16' : ∀ n : Fin 16, (S16.rowMajor (ix1 n)).val = n.val := by decide
theorem rm16 (j : S16.Idx) : (S16.rowMajor j).val = (j 0).val := by
  have hj : j = ix1 (j 0) := funext fun (a : Fin 1) => by
    match a with
    | 0 => rfl
  rw [hj]; exact rm16' (j 0)

/-- The two nibbles of each byte, the high one first, as words. -/
def nibG (w : IVec S8x1024x2560 8) : IVec S8x1024x80x64 32 :=
  shapeCast _ (concatenate S8x1024x2560x2 3 [⟨S8x1024x2560x1, (broadcastInDim S8x1024x2560x1 ![0, 1, 2] bcast_S8x1024x2560_S8x1024x2560x1_0_1_2 (Host.shrsi (extui 32 w natLt_8_32) (broadcastInDim S8x1024x2560 ![] bcast_S_S8x1024x2560 (constantI S_ 32 4#32))))⟩, ⟨S8x1024x2560x1, (broadcastInDim S8x1024x2560x1 ![0, 1, 2] bcast_S8x1024x2560_S8x1024x2560x1_0_1_2 (andi (extui 32 w natLt_8_32) (broadcastInDim S8x1024x2560 ![] bcast_S_S8x1024x2560 (constantI S_ 32 15#32))))⟩] concatenates_S8x1024x2560x1_S8x1024x2560x1_S8x1024x2560x2_d3) shapeCasts_S8x1024x2560x2_S8x1024x80x64
/-- Negative words wrapped. -/
def selG (v : IVec S8x1024x80x64 32) : IVec S8x1024x80x64 32 :=
  select (cmpi .slt v (broadcastInDim S8x1024x80x64 ![] bcast_S_S8x1024x80x64 (constantI S_ 32 0#32))) (addi v (broadcastInDim S8x1024x80x64 ![] bcast_S_S8x1024x80x64 (constantI S_ 32 16#32))) v
/-- The table looked up. -/
def gaG (T : Fin 16 → BitVec 16) (v : IVec S8x1024x80x64 32) : FVec Ideal S8x1024x80x64 .bf16 :=
  Host.gather gather_S16_S8x1024x80x64x1_S8x1024x80x64_n_0_n_n_0_4_1 ((fun i => FloatOps.ofBits .bf16 (T (S16.rowMajor i)))) (broadcastInDim S8x1024x80x64x1 ![0, 1, 2, 3] bcast_S8x1024x80x64_S8x1024x80x64x1_0_1_2_3 v)
/-- The decoded weights. -/
def deqG (T : Fin 16 → BitVec 16) (w : IVec S8x1024x2560 8) (s : FVec Ideal S8x1024x80 .f32) : FVec Ideal S8x1024x5120 .bf16 :=
  shapeCast _ (mulf (gaG T (selG (nibG w))) (broadcastInDim S8x1024x80x64 ![0, 1, 2, 3] bcast_S8x1024x80x1_S8x1024x80x64_0_1_2_3 (broadcastInDim S8x1024x80x1 ![0, 1, 2] bcast_S8x1024x80_S8x1024x80x1_0_1_2 (truncf .bf16 s bitsLt_bf16_f32)))) shapeCasts_S8x1024x80x64_S8x1024x5120

set_option maxHeartbeats 4000000 in
theorem gaG_apply (T : Fin 16 → BitVec 16) (v : IVec S8x1024x80x64 32) (E : Fin 8) (f : Fin 1024) (r : Fin 80) (z : Fin 64) (n : Fin 16)
    (h : v (ix4 E f r z) = BitVec.ofNat 32 n.val) : gaG T v (ix4 E f r z) = FloatOps.ofBits .bf16 (T n) := by
  unfold gaG Host.gather
  refine congrArg (fun q => (FloatOps.ofBits .bf16 (T q) : Ideal .bf16)) (Fin.ext ?_)
  rw [rm16]
  show (gather_S16_S8x1024x80x64x1_S8x1024x80x64_n_0_n_n_0_4_1.start _ _ 0 + gather_S16_S8x1024x80x64x1_S8x1024x80x64_n_0_n_n_0_4_1.batchCoord _ 0 + gather_S16_S8x1024x80x64x1_S8x1024x80x64_n_0_n_n_0_4_1.offCoord _ 0) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S16_S8x1024x80x64x1_S8x1024x80x64_n_0_n_n_0_4_1.startIndexMap from List.mem_singleton.mpr rfl)]
  have hv : ∀ i, (broadcastInDim S8x1024x80x64x1 ![0, 1, 2, 3] bcast_S8x1024x80x64_S8x1024x80x64x1_0_1_2_3 v i) = v (ix4 (i 0) (i 1) (i 2) (i 3)) := by
    intro i
    refine congrArg v (funext fun (a : Fin 4) => ?_)
    match a with
    | 0 => rfl
    | 1 => rfl
    | 2 => rfl
    | 3 => rfl
  rw [hv]
  refine (congrArg (fun q : BitVec 32 => min q.toInt.toNat 15) h).trans ?_
  clear hv h
  revert n
  decide

theorem nibword : ∀ x : BitVec 8, (x.setWidth 32).sshiftRight 4 = BitVec.ofNat 32 (x.toNat / 16) := by decide

/-- The two nibbles of each byte, the high one first, as words. -/
def nibD (w : IVec S8x5120x512 8) : IVec S8x5120x16x64 32 :=
  shapeCast _ (concatenate S8x5120x512x2 3 [⟨S8x5120x512x1, (broadcastInDim S8x5120x512x1 ![0, 1, 2] bcast_S8x5120x512_S8x5120x512x1_0_1_2 (Host.shrsi (extui 32 w natLt_8_32) (broadcastInDim S8x5120x512 ![] bcast_S_S8x5120x512 (constantI S_ 32 4#32))))⟩, ⟨S8x5120x512x1, (broadcastInDim S8x5120x512x1 ![0, 1, 2] bcast_S8x5120x512_S8x5120x512x1_0_1_2 (andi (extui 32 w natLt_8_32) (broadcastInDim S8x5120x512 ![] bcast_S_S8x5120x512 (constantI S_ 32 15#32))))⟩] concatenates_S8x5120x512x1_S8x5120x512x1_S8x5120x512x2_d3) shapeCasts_S8x5120x512x2_S8x5120x16x64
/-- Negative words wrapped. -/
def selD (v : IVec S8x5120x16x64 32) : IVec S8x5120x16x64 32 :=
  select (cmpi .slt v (broadcastInDim S8x5120x16x64 ![] bcast_S_S8x5120x16x64 (constantI S_ 32 0#32))) (addi v (broadcastInDim S8x5120x16x64 ![] bcast_S_S8x5120x16x64 (constantI S_ 32 16#32))) v
/-- The table looked up. -/
def gaD (T : Fin 16 → BitVec 16) (v : IVec S8x5120x16x64 32) : FVec Ideal S8x5120x16x64 .bf16 :=
  Host.gather gather_S16_S8x5120x16x64x1_S8x5120x16x64_n_0_n_n_0_4_1 ((fun i => FloatOps.ofBits .bf16 (T (S16.rowMajor i)))) (broadcastInDim S8x5120x16x64x1 ![0, 1, 2, 3] bcast_S8x5120x16x64_S8x5120x16x64x1_0_1_2_3 v)
/-- The decoded weights. -/
def deqD (T : Fin 16 → BitVec 16) (w : IVec S8x5120x512 8) (s : FVec Ideal S8x5120x16 .f32) : FVec Ideal S8x5120x1024 .bf16 :=
  shapeCast _ (mulf (gaD T (selD (nibD w))) (broadcastInDim S8x5120x16x64 ![0, 1, 2, 3] bcast_S8x5120x16x1_S8x5120x16x64_0_1_2_3 (broadcastInDim S8x5120x16x1 ![0, 1, 2] bcast_S8x5120x16_S8x5120x16x1_0_1_2 (truncf .bf16 s bitsLt_bf16_f32)))) shapeCasts_S8x5120x16x64_S8x5120x1024

set_option maxHeartbeats 4000000 in
theorem gaD_apply (T : Fin 16 → BitVec 16) (v : IVec S8x5120x16x64 32) (E : Fin 8) (f : Fin 5120) (r : Fin 16) (z : Fin 64) (n : Fin 16)
    (h : v (ix4 E f r z) = BitVec.ofNat 32 n.val) : gaD T v (ix4 E f r z) = FloatOps.ofBits .bf16 (T n) := by
  unfold gaD Host.gather
  refine congrArg (fun q => (FloatOps.ofBits .bf16 (T q) : Ideal .bf16)) (Fin.ext ?_)
  rw [rm16]
  show (gather_S16_S8x5120x16x64x1_S8x5120x16x64_n_0_n_n_0_4_1.start _ _ 0 + gather_S16_S8x5120x16x64x1_S8x5120x16x64_n_0_n_n_0_4_1.batchCoord _ 0 + gather_S16_S8x5120x16x64x1_S8x5120x16x64_n_0_n_n_0_4_1.offCoord _ 0) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S16_S8x5120x16x64x1_S8x5120x16x64_n_0_n_n_0_4_1.startIndexMap from List.mem_singleton.mpr rfl)]
  have hv : ∀ i, (broadcastInDim S8x5120x16x64x1 ![0, 1, 2, 3] bcast_S8x5120x16x64_S8x5120x16x64x1_0_1_2_3 v i) = v (ix4 (i 0) (i 1) (i 2) (i 3)) := by
    intro i
    refine congrArg v (funext fun (a : Fin 4) => ?_)
    match a with
    | 0 => rfl
    | 1 => rfl
    | 2 => rfl
    | 3 => rfl
  rw [hv]
  refine (congrArg (fun q : BitVec 32 => min q.toInt.toNat 15) h).trans ?_
  clear hv h
  revert n
  decide

theorem selG_small (v : IVec S8x1024x80x64 32) (i : S8x1024x80x64.Idx) (n : Fin 16) (h : v i = BitVec.ofNat 32 n.val) : selG v i = BitVec.ofNat 32 n.val := by
  have e : selG v i = Scalar.select (Scalar.cmpi .slt (v i) 0#32) (Scalar.addi (v i) 16#32) (v i) := rfl
  rw [e, h]; clear h e; revert n; decide
theorem selD_small (v : IVec S8x5120x16x64 32) (i : S8x5120x16x64.Idx) (n : Fin 16) (h : v i = BitVec.ofNat 32 n.val) : selD v i = BitVec.ofNat 32 n.val := by
  have e : selD v i = Scalar.select (Scalar.cmpi .slt (v i) 0#32) (Scalar.addi (v i) 16#32) (v i) := rfl
  rw [e, h]; clear h e; revert n; decide
/-- A nibble of a byte, the high one at an even place. -/
def nibR (z : ℕ) (b : BitVec 8) : ℕ := if z % 2 = 0 then b.toNat / 16 else b.toNat % 16
theorem nibR_lt (z : ℕ) (b : BitVec 8) : nibR z b < 16 := by
  unfold nibR; have := b.isLt; split <;> omega
theorem hi_word : ∀ x : BitVec 8, IntOp.shrsi ArithUnit.host (x.setWidth 32) 4#32 = BitVec.ofNat 32 (x.toNat / 16) := by decide
theorem lo_word : ∀ x : BitVec 8, IntOp.andi (x.setWidth 32) 15#32 = BitVec.ofNat 32 (x.toNat % 16) := by decide
set_option maxHeartbeats 4000000 in
theorem nibG_apply (w : IVec S8x1024x2560 8) (E : Fin 8) (f : Fin 1024) (r : Fin 80) (z : Fin 64) :
    nibG w (ix4 E f r z) = BitVec.ofNat 32 (nibR z.val (w (ix3 E f ⟨r.val * 32 + z.val / 2, by omega⟩))) := by
  pointwise [nibG]
  unfold nibR
  by_cases h : z.val % 2 = 0
  · rw [if_pos h, dif_pos (by omega)]; exact hi_word _
  · rw [if_neg h, dif_neg (by omega)]; exact lo_word _
set_option maxHeartbeats 4000000 in
theorem nibD_apply (w : IVec S8x5120x512 8) (E : Fin 8) (f : Fin 5120) (r : Fin 16) (z : Fin 64) :
    nibD w (ix4 E f r z) = BitVec.ofNat 32 (nibR z.val (w (ix3 E f ⟨r.val * 32 + z.val / 2, by omega⟩))) := by
  pointwise [nibD]
  unfold nibR
  by_cases h : z.val % 2 = 0
  · rw [if_pos h, dif_pos (by omega)]; exact hi_word _
  · rw [if_neg h, dif_neg (by omega)]; exact lo_word _
set_option maxHeartbeats 4000000 in
theorem deqG_apply (T : Fin 16 → BitVec 16) (w : IVec S8x1024x2560 8) (s : FVec Ideal S8x1024x80 .f32) (E : Fin 8) (f : Fin 1024) (k : Fin 5120) :
    (deqG T w s (ix3 E f k) : EReal) = (gaG T (selG (nibG w)) (ix4 E f ⟨k.val / 64, by omega⟩ ⟨k.val % 64, by omega⟩) : EReal) * s (ix3 E f ⟨k.val / 64, by omega⟩) := by
  pointwise [deqG]
set_option maxHeartbeats 4000000 in
theorem deqD_apply (T : Fin 16 → BitVec 16) (w : IVec S8x5120x512 8) (s : FVec Ideal S8x5120x16 .f32) (E : Fin 8) (f : Fin 5120) (k : Fin 1024) :
    (deqD T w s (ix3 E f k) : EReal) = (gaD T (selD (nibD w)) (ix4 E f ⟨k.val / 64, by omega⟩ ⟨k.val % 64, by omega⟩) : EReal) * s (ix3 E f ⟨k.val / 64, by omega⟩) := by
  pointwise [deqD]
/-- A decoded weight. -/
theorem deqG_at (T : Fin 16 → BitVec 16) (w : IVec S8x1024x2560 8) (s : FVec Ideal S8x1024x80 .f32) (E : Fin 8) (f : Fin 1024) (k : Fin 5120) :
    (deqG T w s (ix3 E f k) : EReal) = (FloatOps.ofBits .bf16 (T ⟨nibR k.val (w (ix3 E f ⟨k.val / 2, by omega⟩)), nibR_lt _ _⟩) : Ideal .bf16) * s (ix3 E f ⟨k.val / 64, by omega⟩) := by
  rw [deqG_apply, gaG_apply T _ E f ⟨k.val / 64, by omega⟩ ⟨k.val % 64, by omega⟩ ⟨nibR k.val (w (ix3 E f ⟨k.val / 2, by omega⟩)), nibR_lt _ _⟩]
  refine selG_small _ _ ⟨nibR k.val (w (ix3 E f ⟨k.val / 2, by omega⟩)), nibR_lt _ _⟩ ?_
  rw [nibG_apply]
  have e1 : (⟨k.val / 64 * 32 + k.val % 64 / 2, by omega⟩ : Fin 2560) = ⟨k.val / 2, by omega⟩ := Fin.ext (by show k.val / 64 * 32 + k.val % 64 / 2 = k.val / 2; omega)
  show BitVec.ofNat 32 (nibR (k.val % 64) (w (ix3 E f ⟨k.val / 64 * 32 + k.val % 64 / 2, by omega⟩))) = _
  rw [e1]
  unfold nibR
  rw [show k.val % 64 % 2 = k.val % 2 by omega]
/-- A decoded weight. -/
theorem deqD_at (T : Fin 16 → BitVec 16) (w : IVec S8x5120x512 8) (s : FVec Ideal S8x5120x16 .f32) (E : Fin 8) (f : Fin 5120) (k : Fin 1024) :
    (deqD T w s (ix3 E f k) : EReal) = (FloatOps.ofBits .bf16 (T ⟨nibR k.val (w (ix3 E f ⟨k.val / 2, by omega⟩)), nibR_lt _ _⟩) : Ideal .bf16) * s (ix3 E f ⟨k.val / 64, by omega⟩) := by
  rw [deqD_apply, gaD_apply T _ E f ⟨k.val / 64, by omega⟩ ⟨k.val % 64, by omega⟩ ⟨nibR k.val (w (ix3 E f ⟨k.val / 2, by omega⟩)), nibR_lt _ _⟩]
  refine selD_small _ _ ⟨nibR k.val (w (ix3 E f ⟨k.val / 2, by omega⟩)), nibR_lt _ _⟩ ?_
  rw [nibD_apply]
  have e1 : (⟨k.val / 64 * 32 + k.val % 64 / 2, by omega⟩ : Fin 512) = ⟨k.val / 2, by omega⟩ := Fin.ext (by show k.val / 64 * 32 + k.val % 64 / 2 = k.val / 2; omega)
  show BitVec.ofNat 32 (nibR (k.val % 64) (w (ix3 E f ⟨k.val / 64 * 32 + k.val % 64 / 2, by omega⟩))) = _
  rw [e1]
  unfold nibR
  rw [show k.val % 64 % 2 = k.val % 2 by omega]

/-- A gate or up product. -/
def dotR (T : Fin 16 → BitVec 16) (x : FVec Ideal S192x1x5120 .bf16) (w : IVec S8x1024x2560 8) (s : FVec Ideal S8x1024x80 .f32) : FVec Ideal S8x192x1024 .f32 :=
  transpose S8x192x1024 [0, 2, 1] (Host.dotGeneral dot_S8x1024x5120_S192x5120_S8x1024x192_2_1_01_0_n_n none (deqG T w s) (shapeCast _ x shapeCasts_S192x1x5120_S192x5120)) transposes_S8x1024x192_S8x192x1024_0_2_1
set_option maxHeartbeats 4000000 in
theorem dotR_apply (T : Fin 16 → BitVec 16) (x : FVec Ideal S192x1x5120 .bf16) (w : IVec S8x1024x2560 8) (s : FVec Ideal S8x1024x80 .f32) (E : Fin 8) (t : Fin 192) (f : Fin 1024) :
    (dotR T x w s (ix3 E t f) : EReal) = ∑ k : Fin 5120, deqG T w s (ix3 E f k) * x (ix3 t 0 k) := by
  pointwise [dotR]
/-- The hidden activations. -/
def hidR (g u : FVec Ideal S8x192x1024 .f32) : FVec Ideal S8x192x1024 .bf16 :=
  truncf .bf16 (mulf (mulf g (Host.divf (broadcastInDim S8x192x1024 ![] bcast_S_S8x192x1024 (constant S_ .f32 0x3F800000#32)) (addf (broadcastInDim S8x192x1024 ![] bcast_S_S8x192x1024 (constant S_ .f32 0x3F800000#32)) (Host.exp (Host.negf g))))) u) bitsLt_bf16_f32
set_option maxHeartbeats 4000000 in
theorem hidR_apply (g u : FVec Ideal S8x192x1024 .f32) (i : S8x192x1024.Idx) :
    (hidR g u i : EReal) = (g i : EReal) * Ideal.logistic (g i) * u i := by
  pointwise [hidR]
  rfl
/-- Each token's weight for each expert. -/
def wgtR (ids : IVec S192x1x2 32) (ew : FVec Ideal S192x1x2 .f32) : FVec Ideal S8x192 .f32 :=
  (Host.reduceAdd (select (cmpi .eq (broadcastInDim S8x192x2 ![0, 1, 2] bcast_S8x1x1_S8x192x2_0_1_2 (broadcastInDim S8x1x1 ![0] bcast_S8_S8x1x1_0 (iotaInDim S8 32 0))) (broadcastInDim S8x192x2 ![0, 1, 2] bcast_S1x192x2_S8x192x2_0_1_2 (broadcastInDim S1x192x2 ![1, 2] bcast_S192x2_S1x192x2_1_2 (shapeCast _ ids shapeCasts_S192x1x2_S192x2)))) (broadcastInDim S8x192x2 ![0, 1, 2] bcast_S1x192x2_S8x192x2_0_1_2 (broadcastInDim S1x192x2 ![1, 2] bcast_S192x2_S1x192x2_1_2 (shapeCast _ ew shapeCasts_S192x1x2_S192x2))) (broadcastInDim S8x192x2 ![] bcast_S_S8x192x2 (id (constant S_ .f32 0x00000000#32)))) (constant S_ .f32 0x00000000#32) reducesTo_S8x192x2_S8x192_d2 h_S_)
/-- The experts' outputs, weighted and summed. -/
def outR (h : FVec Ideal S8x192x1024 .bf16) (dw : FVec Ideal S8x5120x1024 .bf16) (wg : FVec Ideal S8x192 .f32) : FVec Ideal S192x5120 .bf16 :=
  truncf .bf16 (Host.reduceAdd (mulf (Host.dotGeneral dot_S8x192x1024_S8x5120x1024_S8x192x5120_2_2_1_1_0_0 none h dw) (broadcastInDim S8x192x5120 ![0, 1, 2] bcast_S8x192x1_S8x192x5120_0_1_2 (broadcastInDim S8x192x1 ![0, 1] bcast_S8x192_S8x192x1_0_1 wg))) (constant S_ .f32 0x00000000#32) reducesTo_S8x192x5120_S192x5120_d0 h_S_) bitsLt_bf16_f32
set_option maxHeartbeats 4000000 in
theorem wgtR_apply (ids : IVec S192x1x2 32) (ew : FVec Ideal S192x1x2 .f32) (E : Fin 8) (t : Fin 192) :
    (wgtR ids ew (ix2 E t) : EReal) = ∑ k : Fin 2, Scalar.select (α := EReal) (IntOp.cmpi .eq (BitVec.ofNat 32 E.val) (ids (ix3 t 0 k))) (ew (ix3 t 0 k)) 0 := by
  pointwise [wgtR]
  simp only [id_eq]
  pointwise
set_option maxHeartbeats 4000000 in
theorem outR_apply (h : FVec Ideal S8x192x1024 .bf16) (dw : FVec Ideal S8x5120x1024 .bf16) (wg : FVec Ideal S8x192 .f32) (t : Fin 192) (C : Fin 5120) :
    (outR h dw wg (ix2 t C) : EReal) = ∑ E : Fin 8, (∑ k : Fin 1024, h (ix3 E t k) * dw (ix3 E C k)) * wg (ix2 E t) := by
  pointwise [outR]
set_option maxHeartbeats 4000000 in
theorem res_eq (m : (ℓ : Loc nD τ sig) → Buf (Elt Ideal) ℓ) (c : Dev nD) : Cert.ReferenceIdeal.Value.res_main_v87 (F := Ideal) m c
    = outR (hidR (dotR lit0 (m ((c.tc : Thread nD τ).loc main_arg0)) (m ((c.tc : Thread nD τ).loc main_arg3)) (m ((c.tc : Thread nD τ).loc main_arg4)))
        (dotR lit1 (m ((c.tc : Thread nD τ).loc main_arg0)) (m ((c.tc : Thread nD τ).loc main_arg5)) (m ((c.tc : Thread nD τ).loc main_arg6))))
      (deqD lit2 (m ((c.tc : Thread nD τ).loc main_arg7)) (m ((c.tc : Thread nD τ).loc main_arg8)))
      (wgtR (m ((c.tc : Thread nD τ).loc main_arg1)) (m ((c.tc : Thread nD τ).loc main_arg2))) := rfl
end Cert.ReferenceIdeal.Hand
end
-- ==== Proof.Value.lean ====
/-
  The kernel's value is the reference's, entry by entry.
-/
module

public import proofs.«01_k».proof.Proof.Slots
public import proofs.«01_k».proof.Proof.Equation
public import proofs.«01_k».proof.Proof.ValRun
public import proofs.«01_k».proof.Proof.RefA
public import Idealize.ShloMosaic.Lib.SortFacts
public import Idealize.ShloMosaic.Lib.StableHlo.Predicate
public import Idealize.ShloMosaic.Lib.StableHlo.ReadAt

public import Idealize.ShloMosaic.Lib.Quiescent
public import Idealize.ShloMosaic.Lib.Pipeline.FrameBody
public import Idealize.ShloMosaic.Lib.Pipeline.Frame
public import Idealize.ShloMosaic.Lib.Tactic
public import Idealize.ShloMosaic.Lib.Pointwise
public import Idealize.ShloMosaic.Lib.Pipeline.FrameBody
public import Idealize.ShloMosaic.Lib.Pipeline.ArrRel

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat)

local notation "𝕄" => MT nD τ sig Unit (Elt Ideal) ℕ (UR sig nD τ) ℕ

/-- An or over a family is one exactly when a member is. -/
theorem fold_or {α : Type} [DecidableEq α] (s : Finset α) (f : α → BitVec 1) : Finset.fold IntOp.ori (0#1) f s = 1#1 ↔ ∃ x ∈ s, f x = 1#1 := by
  induction s using Finset.induction_on with
  | empty => simp
  | insert a s ha ih =>
    rw [Finset.fold_insert ha]
    have hb : ∀ p q : BitVec 1, IntOp.ori p q = 1#1 ↔ p = 1#1 ∨ q = 1#1 := by decide
    rw [hb, ih]
    constructor
    · rintro (h | ⟨x, hx, h⟩)
      · exact ⟨a, Finset.mem_insert_self _ _, h⟩
      · exact ⟨x, Finset.mem_insert_of_mem hx, h⟩
    · rintro ⟨x, hx, h⟩
      rcases Finset.mem_insert.1 hx with rfl | hx
      · exact Or.inl h
      · exact Or.inr ⟨x, hx, h⟩

/-- A bit as a number. -/
theorem bit_val (φ : FTy) (b : BitVec 1) : ((FloatOps.uitofp φ b : Ideal φ) : EReal) = if b = 1#1 then 1 else 0 := by
  have hb : b = 0#1 ∨ b = 1#1 := by revert b; decide
  rcases hb with rfl | rfl
  · show (((0#1).toNat : ℝ) : EReal) = _
    rw [if_neg (by decide)]; norm_num
  · show (((1#1).toNat : ℝ) : EReal) = _
    rw [if_pos rfl]; norm_num

theorem eq_bit (p q : ℕ) (hp : p < 256) (hq : q < 256) : IntOp.cmpi .eq (BitVec.ofNat 32 p) (BitVec.ofNat 32 q) = 1#1 ↔ p = q := by
  have h : IntOp.cmpi .eq (BitVec.ofNat 32 p) (BitVec.ofNat 32 q) = BitVec.ofBool (BitVec.ofNat 32 p == BitVec.ofNat 32 q) := rfl
  rw [h]
  by_cases e : p = q
  · subst e; simp
  · have : (BitVec.ofNat 32 p == BitVec.ofNat 32 q) = false := by
      rw [beq_eq_false_iff_ne]
      intro hh
      have := congrArg BitVec.toNat hh
      rw [BitVec.toNat_ofNat, BitVec.toNat_ofNat, Nat.mod_eq_of_lt (by omega), Nat.mod_eq_of_lt (by omega)] at this
      exact e this
    rw [this]
    exact iff_of_false (by decide) e

theorem cmpi_comm (p q : BitVec 32) : IntOp.cmpi .eq p q = IntOp.cmpi .eq q p := by
  show BitVec.ofBool (p == q) = BitVec.ofBool (q == p)
  rw [Bool.beq_comm]

variable (m : (ℓ : Loc nD τ sig) → Buf (Elt Ideal) ℓ)
attribute [local irreducible] V tables

/-- Whether a token uses an expert. -/
def usesP (E : Fin 8) (t : Fin 192) : Prop := ∃ k : Fin 2, hitB (m (((0 : Dev nD) : Thread nD τ).loc main_arg1)) E t k = 1#1
/-- A token's weight for an expert. -/
def wOf (E : Fin 8) (t : Fin 192) : EReal :=
  ∑ k : Fin 2, Scalar.select (α := EReal) (hitB (m (((0 : Dev nD) : Thread nD τ).loc main_arg1)) E t k) ((m (((0 : Dev nD) : Thread nD τ).loc main_arg2) : S192x1x2.Idx → EReal) (ix3 t 0 k)) (0 : EReal)
/-- A token's entry. -/
def xOf (t : Fin 192) (z : Fin 5120) : EReal := (m (((0 : Dev nD) : Thread nD τ).loc main_arg0) : S192x1x5120.Idx → EReal) (ix3 t 0 z)

theorem w_unused (E : Fin 8) (t : Fin 192) (h : ¬ usesP m E t) : wOf m E t = 0 := by
  refine Finset.sum_eq_zero fun k _ => ?_
  have hk : hitB (m (((0 : Dev nD) : Thread nD τ).loc main_arg1)) E t k = 0#1 := by
    have hb : ∀ b : BitVec 1, b = 0#1 ∨ b = 1#1 := by decide
    exact (hb _).resolve_right fun hh => h ⟨k, hh⟩
  rw [hk]; rfl

/-- The kernel's result is the experts' weighted sum. -/
theorem out_val (w : Fin 256) (hw : (V m (0 : Dev nD) main_v17 : IVec S8 1) = patW w) (t : Fin 192) (f : Fin 5120) :
    outV (arrV m TT (cntN w.val)) (ix2 t f) = ∑ E : Fin 8, (arrV m TT (cntN w.val)).yR (xOf m) E t f * wOf m E t := by
  refine Arr.acc_eq (arrV m TT (cntN w.val)) (xOf m) (fun t z z' h => V38 m 0 t z z' h) (fun D C => ?_) (wOf m)
    (fun E => patW w (ix1 E) = 1#1) (usesP m) (fun E t => V16a m 0 E t) (fun E t => ?_) (w_unused m) (fun E t h hu => h ?_) (fun E => ?_) _ t _ f ?_
  · refine (V50 m 0 D C).trans ((bit_val _ _).trans (if_congr (eq_bit _ _ (by omega) C.isLt) rfl rfl))
  · have h1 : (arrV m TT (cntN w.val)).cw (ix3 E t (1 : Fin 2)) = _ := (V16b m 0 E t).trans (bit_val _ _)
    rw [h1]
    by_cases hh : Finset.fold IntOp.ori (0#1) (fun k => hitB (m (((0 : Dev nD) : Thread nD τ).loc main_arg1)) E t k) Finset.univ = 1#1
    · rw [if_pos hh]
      obtain ⟨k, _, hk⟩ := (fold_or _ _).1 hh
      exact iff_of_true zero_lt_one ⟨k, hk⟩
    · rw [if_neg hh]
      exact iff_of_false (lt_irrefl _) fun ⟨k, hk⟩ => hh ((fold_or _ _).2 ⟨k, Finset.mem_univ _, hk⟩)
  · obtain ⟨k, hk⟩ := hu
    rw [← hw]
    refine (V17 m 0 E).trans ((fold_or _ _).2 ⟨t, Finset.mem_univ _, (fold_or _ _).2 ⟨k, Finset.mem_univ _, hk⟩⟩)
  · refine Eq.trans (Finset.sum_congr rfl fun e _ => if_congr (and_congr Iff.rfl ?_) rfl rfl) (slot_count w E)
    have h2 : ((arrV m TT (cntN w.val)).ord e).val = ordN w.val e.val := by
      show ((V m (0 : Dev nD) main_v35 : S8.Idx → BitVec 32) (ix1 e)).toNat = _
      rw [V35, hw, ord_word]
    rw [h2]
  · show f.val = 256 * (f.val / 256) + f.val % 256
    omega

/-- The number of experts in use. -/
theorem nact_val (w : Fin 256) (hw : (V m (0 : Dev nD) main_v17 : IVec S8 1) = patW w) : nactV m = BitVec.ofNat 32 (cntN w.val) := by
  show (V m (0 : Dev nD) main_v22 : S1.Idx → BitVec 32) (ix1 0) = _
  rw [V22, hw, n_word]

theorem lit_r0 : ∀ x : Fin 16, Cert.ReferenceIdeal.lit0 x = TT x.val := by decide +kernel
theorem lit_r1 : ∀ x : Fin 16, Cert.ReferenceIdeal.lit1 x = TT x.val := by decide +kernel
theorem lit_r2 : ∀ x : Fin 16, Cert.ReferenceIdeal.lit2 x = TT x.val := by decide +kernel

open Cert.ReferenceIdeal.Hand in
/-- A decoded weight, in the kernel and in the reference. -/
theorem deqG_val (L : Fin 16 → BitVec 16) (hL : ∀ x : Fin 16, L x = TT x.val) (w : S8x1024x2560.Idx → BitVec 8) (s' : S8x80x1024.Idx → EReal) (s : S8x1024x80.Idx → EReal)
    (hs : ∀ (E : Fin 8) (r : Fin 80) (f : Fin 1024), s' (ix3 E r f) = s (ix3 E f r)) (E : Fin 8) (f : Fin 1024) (k : Fin 5120) :
    (deqG L w s (ix3 E f k) : EReal) = dG TT w s' E f k := by
  rw [deqG_at, hL]
  unfold dG
  rw [hs]
  rfl
open Cert.ReferenceIdeal.Hand in
theorem deqD_val (L : Fin 16 → BitVec 16) (hL : ∀ x : Fin 16, L x = TT x.val) (w : S8x5120x512.Idx → BitVec 8) (s' : S8x16x5120.Idx → EReal) (s : S8x5120x16.Idx → EReal)
    (hs : ∀ (E : Fin 8) (r : Fin 16) (f : Fin 5120), s' (ix3 E r f) = s (ix3 E f r)) (E : Fin 8) (f : Fin 5120) (k : Fin 1024) :
    (deqD L w s (ix3 E f k) : EReal) = dD TT w s' E f k := by
  rw [deqD_at, hL]
  unfold dD
  rw [hs]
  rfl

open Cert.ReferenceIdeal.Hand in
/-- The reference's result is the same sum. -/
theorem ref_val (n : ℕ) (x0 : S192x1x5120.Idx → EReal) (x1 : S192x1x2.Idx → BitVec 32) (x2 : S192x1x2.Idx → EReal) (x3 : S8x1024x2560.Idx → BitVec 8) (x4 : S8x1024x80.Idx → EReal)
    (x5 : S8x1024x2560.Idx → BitVec 8) (x6 : S8x1024x80.Idx → EReal) (x7 : S8x5120x512.Idx → BitVec 8) (x8 : S8x5120x16.Idx → EReal)
    (h0 : x0 = m (((0 : Dev nD) : Thread nD τ).loc main_arg0)) (h1 : x1 = m (((0 : Dev nD) : Thread nD τ).loc main_arg1)) (h2 : x2 = m (((0 : Dev nD) : Thread nD τ).loc main_arg2))
    (h3 : x3 = m (((0 : Dev nD) : Thread nD τ).loc main_arg3)) (h4 : x4 = m (((0 : Dev nD) : Thread nD τ).loc main_arg4)) (h5 : x5 = m (((0 : Dev nD) : Thread nD τ).loc main_arg5))
    (h6 : x6 = m (((0 : Dev nD) : Thread nD τ).loc main_arg6)) (h7 : x7 = m (((0 : Dev nD) : Thread nD τ).loc main_arg7)) (h8 : x8 = m (((0 : Dev nD) : Thread nD τ).loc main_arg8))
    (t : Fin 192) (f : Fin 5120) :
    (outR (hidR (dotR Cert.ReferenceIdeal.lit0 x0 x3 x4) (dotR Cert.ReferenceIdeal.lit1 x0 x5 x6)) (deqD Cert.ReferenceIdeal.lit2 x7 x8) (wgtR x1 x2) (ix2 t f) : EReal)
      = ∑ E : Fin 8, (arrV m TT n).yR (xOf m) E t f * wOf m E t := by
  have e3 : (arrV m TT n).wg = x3 := (V_arg3 m 0).trans h3.symm
  have e5 : (arrV m TT n).wu = x5 := (V_arg5 m 0).trans h5.symm
  have e7 : (arrV m TT n).wd = x7 := (V_arg7 m 0).trans h7.symm
  have s4 : ∀ (E : Fin 8) (r : Fin 80) (f : Fin 1024), (arrV m TT n).sg (ix3 E r f) = x4 (ix3 E f r) := fun E r f => (V52 m 0 E r f).trans (by rw [h4])
  have s6 : ∀ (E : Fin 8) (r : Fin 80) (f : Fin 1024), (arrV m TT n).su (ix3 E r f) = x6 (ix3 E f r) := fun E r f => (V53 m 0 E r f).trans (by rw [h6])
  have s8 : ∀ (E : Fin 8) (r : Fin 16) (f : Fin 5120), (arrV m TT n).sd (ix3 E r f) = x8 (ix3 E f r) := fun E r f => (V54 m 0 E r f).trans (by rw [h8])
  rw [outR_apply]
  refine Finset.sum_congr rfl fun E _ => congrArg₂ (· * ·) (Finset.sum_congr rfl fun k _ => congrArg₂ (· * ·) ?_ ?_) ?_
  · rw [hidR_apply]
    unfold Arr.hR act
    have eg : (dotR Cert.ReferenceIdeal.lit0 x0 x3 x4 (ix3 E t k) : EReal) = (arrV m TT n).gR (xOf m) (arrV m TT n).wg (arrV m TT n).sg E t k := by
      rw [dotR_apply, e3]
      exact Finset.sum_congr rfl fun z _ => congrArg₂ (· * ·) (deqG_val _ lit_r0 _ _ _ s4 E k z) (by rw [h0]; rfl)
    have eu : (dotR Cert.ReferenceIdeal.lit1 x0 x5 x6 (ix3 E t k) : EReal) = (arrV m TT n).gR (xOf m) (arrV m TT n).wu (arrV m TT n).su E t k := by
      rw [dotR_apply, e5]
      exact Finset.sum_congr rfl fun z _ => congrArg₂ (· * ·) (deqG_val _ lit_r1 _ _ _ s6 E k z) (by rw [h0]; rfl)
    rw [eg, eu]
  · rw [e7]
    exact deqD_val _ lit_r2 _ _ _ s8 E f k
  · rw [wgtR_apply]
    unfold wOf hitB
    subst h1 h2
    exact Finset.sum_congr rfl fun k _ => by rw [cmpi_comm]
end Cert.KernelIdeal.Hand
end
-- ==== Proof.Algebraic.lean ====
/-
  The two runs agree: over the ideal scalars the kernel's result is the reference's, whatever the arguments.
-/
module

public import proofs.«01_k».proof.Defs
public import proofs.«01_k».proof.Proof.Out
public import proofs.«01_k».proof.Proof.Value
public import proofs.«01_k».proof.Proof.Gen.ReferenceIdeal.Run

@[expose] public section

set_option maxRecDepth 65536

noncomputable section

namespace Cert.Algebraic

open Idealize.ShloMosaic Idealize.SL.Sem
open Cert.KernelIdeal.Hand

attribute [local irreducible] V tables

/-- The kernel and the reference hold the same result. -/
theorem kernel_reference : Cert.algebraic_KernelIdeal_ReferenceIdeal := fun m g m' g' _ hargs => by
  obtain ⟨w, hw⟩ := pat_surj (V m (0 : Dev Cert.KernelIdeal.nD) Cert.KernelIdeal.main_v17)
  refine ⟨fun _ => fun y => outV (arrV m TT (cntN w.val)) y,
    run_out m g TT (cntN w.val) (cnt_le w) (nact_val m w hw) (tab_ok m), ?_⟩
  refine (θ_run Cert.ReferenceIdeal.defs _ _).mono (fun r h c => ⟨(h c).1.trans ?_, (h c).2⟩)
    (Cert.ReferenceIdeal.Value.run (F := Ideal) m' g')
  have hc : c = (0 : Dev Cert.KernelIdeal.nD) := Subsingleton.elim _ _
  subst hc
  obtain ⟨h0, h1, h2, h3, h4, h5, h6, h7, h8⟩ := hargs (0 : Dev Cert.KernelIdeal.nD)
  rw [Cert.ReferenceIdeal.Hand.res_eq]
  refine funext fun (y : Cert.KernelIdeal.S192x5120.Idx) => ?_
  have hy : (ix2 (y 0 : Fin 192) (y 1 : Fin 5120) : Cert.KernelIdeal.S192x5120.Idx) = y := funext fun (a : Fin 2) => by
    match a with
    | 0 => rfl
    | 1 => rfl
  rw [← hy]
  exact (ref_val m (cntN w.val) _ _ _ _ _ _ _ _ _ h0 h1 h2 h3 h4 h5 h6 h7 h8 (y 0) (y 1)).trans (out_val m w hw (y 0) (y 1)).symm

end Cert.Algebraic

end
-- ==== Proof.lean ====
module

public import proofs.«01_k».proof.Defs
public import proofs.«01_k».proof.Proof.Frames
public import proofs.«01_k».proof.Proof.Algebraic

@[expose] public section

namespace Cert.Proof

theorem claim : Cert.Claim :=
  ⟨Cert.Kernel.Gen.facts, Cert.KernelIdeal.Gen.facts, Cert.ReferenceIdeal.Gen.facts,
    Cert.Frames.kernel, Cert.Frames.kernelIdeal, Cert.Frames.referenceIdeal, Cert.Frames.preserves,
    Cert.Algebraic.kernel_reference⟩

end Cert.Proof
